-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_finite [hPre_decay_finite : Cert.Pre_decay_finite.Facts] (m : (ℓ : Loc Cert.KernelIdeal.nD Cert.KernelIdeal.τ Cert.KernelIdeal.sig) → Buf (Elt Ideal) ℓ) : Prop :=
  ∀ c : Dev Cert.KernelIdeal.nD,
    (Cert.Pre_decay_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_finite [hPre_decay_finite : Cert.Pre_decay_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_decay_finite [hKernelIdeal : Cert.KernelIdeal.Facts] [hPre_decay_finite : Cert.Pre_decay_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_decay_finite [hReferenceIdeal : Cert.ReferenceIdeal.Facts] [hPre_decay_finite : Cert.Pre_decay_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "decay" .f32 0xC0B8AA3B#32 (((-4) * (Real.log 2)⁻¹ : ℝ) : EReal)

def algebraic_KernelIdeal_ReferenceIdeal_pre_decay_finite [hKernelIdeal : Cert.KernelIdeal.Facts] [hReferenceIdeal : Cert.ReferenceIdeal.Facts] [hPre_decay_finite : Cert.Pre_decay_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136_8) = v0 c
          ∧ r.2.mem ((c.tc : Thread Cert.ReferenceIdeal.nD Cert.ReferenceIdeal.τ).loc Cert.ReferenceIdeal.main_v136_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "cubic" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "cubic" .bf16 0x3D12#16 ((80338380498831 / 2251799813685248 : ℝ) : EReal)
  ∧ IdealRules.named_const.Statement Cert.Kernel3Ideal.κ "scale" .bf16 0x3F4C#16 ((6693141 / 8388608 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_decay_finite : Cert.Pre_decay_finite.Facts),
    quiescent_Kernel (hKernel := hKernel)
    ∧ quiescent_KernelIdeal (hKernelIdeal := hKernelIdeal)
    ∧ quiescent_KernelIdeal_pre_decay_finite (hKernelIdeal := hKernelIdeal) (hPre_decay_finite := hPre_decay_finite)
    ∧ quiescent_ReferenceIdeal (hReferenceIdeal := hReferenceIdeal)
    ∧ quiescent_ReferenceIdeal_pre_decay_finite (hReferenceIdeal := hReferenceIdeal) (hPre_decay_finite := hPre_decay_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_decay_finite (hKernelIdeal := hKernelIdeal) (hReferenceIdeal := hReferenceIdeal) (hPre_decay_finite := hPre_decay_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_decay_finite.lean ====
abbrev S4x8192x4096 : Shape := ⟨3, ![4, 8192, 4096]⟩
abbrev S1x4x1024 : Shape := ⟨3, ![1, 4, 1024]⟩
abbrev S1x1024 : Shape := ⟨2, ![1, 1024]⟩
abbrev S1x2x8x128x128 : Shape := ⟨5, ![1, 2, 8, 128, 128]⟩
abbrev S1x2x1024 : Shape := ⟨3, ![1, 2, 1024]⟩
abbrev S_ : Shape := ⟨0, ![]⟩

class Facts : Prop where
  bcast_S_S1x2x1024 : S_.BroadcastsInDim S1x2x1024 (![] : Fin 0 → Fin S1x2x1024.rank)

variable [Facts]

def fn {F : FTy → Type} [FloatOps F] (main_arg0 : FVec F S4x8192x4096 .f32) (main_arg1 : FVec F S1x4x1024 .f32) (main_arg2 : FVec F S1x1024 .f32) (main_arg3 : FVec F S1x2x8x128x128 .f32) (main_arg4 : FVec F S1x2x1024 .f32) (main_arg5 : FVec F S1x2x8x128x128 .f32) (main_arg6 : FVec F S1x2x1024 .f32) (main_arg7 : FVec F S1x2x1024 .f32) : IVec S1x2x1024 1 :=
  let main_cst : FVec F S_ .f32 := constant S_ .f32 0xFF800000#32
  let main_v0 : FVec F S1x2x1024 .f32 := broadcastInDim S1x2x1024 ![] bcast_S_S1x2x1024 main_cst
  let main_v1 : IVec S1x2x1024 1 := cmpf .ogt main_arg7 main_v0
  main_v1
-- ==== Kernel.lean ====
abbrev S4x8192x4096 : Shape := ⟨3, ![4, 8192, 4096]⟩
abbrev S1x4x1024 : Shape := ⟨3, ![1, 4, 1024]⟩
abbrev S1x1024 : Shape := ⟨2, ![1, 1024]⟩
abbrev S1x2x8x128x128 : Shape := ⟨5, ![1, 2, 8, 128, 128]⟩
abbrev S1x2x1024 : Shape := ⟨3, ![1, 2, 1024]⟩
abbrev S4x1024 : Shape := ⟨2, ![4, 1024]⟩
abbrev S1024 : Shape := ⟨1, ![1024]⟩
abbrev S2x8x128x128 : Shape := ⟨4, ![2, 8, 128, 128]⟩
abbrev S_ : Shape := ⟨0, ![]⟩
abbrev S2x1024 : Shape := ⟨2, ![2, 1024]⟩
abbrev S4x8192x1024 : Shape := ⟨3, ![4, 8192, 1024]⟩
abbrev S1x512x1024 : Shape := ⟨3, ![1, 512, 1024]⟩
abbrev S1x8x1024 : Shape := ⟨3, ![1, 8, 1024]⟩
abbrev S512x1024 : Shape := ⟨2, ![512, 1024]⟩
abbrev S8x1024 : Shape := ⟨2, ![8, 1024]⟩
abbrev S528x1024 : Shape := ⟨2, ![528, 1024]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 32
  | .vmem => 27
  | .smem => 0
  | _ => 0

abbrev bufTy : (tb : Table) → Fin (tcTables nBuf tb) → BufTy
  | .hbm, ⟨0, _⟩ => ⟨S4x8192x4096, .f32⟩
  | .hbm, ⟨1, _⟩ => ⟨S1x4x1024, .f32⟩
  | .hbm, ⟨2, _⟩ => ⟨S1x1024, .f32⟩
  | .hbm, ⟨3, _⟩ => ⟨S1x2x8x128x128, .f32⟩
  | .hbm, ⟨4, _⟩ => ⟨S1x2x1024, .f32⟩
  | .hbm, ⟨5, _⟩ => ⟨S1x2x8x128x128, .f32⟩
  | .hbm, ⟨6, _⟩ => ⟨S1x2x1024, .f32⟩
  | .hbm, ⟨7, _⟩ => ⟨S1x2x1024, .f32⟩
  | .hbm, ⟨8, _⟩ => ⟨S4x1024, .f32⟩
  | .hbm, ⟨9, _⟩ => ⟨S1024, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .bf16⟩
  | .hbm, ⟨15, _⟩ => ⟨S2x1024, .f32⟩
  | .hbm, ⟨16, _⟩ => ⟨S_, .f32⟩
  | .hbm, ⟨17, _⟩ => ⟨S2x1024, .f32⟩
  | .hbm, ⟨18, _⟩ => ⟨S2x1024, .f32⟩
  | .hbm, ⟨19, _⟩ => ⟨S2x8x128x128, .f32⟩
  | .hbm, ⟨20, _⟩ => ⟨S_, .f32⟩
  | .hbm, ⟨21, _⟩ => ⟨S2x8x128x128, .f32⟩
  | .hbm, ⟨22, _⟩ => ⟨S2x8x128x128, .f32⟩
  | .hbm, ⟨23, _⟩ => ⟨S2x8x128x128, .bf16⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S1x1024, .f32⟩
  | .hbm, ⟨30, _⟩ => ⟨S4x8192x1024, .f32⟩
  | .hbm, ⟨31, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S4x1024, .f32⟩
  | .local _ .vmem, ⟨13, _⟩ => ⟨S1x1024, .f32⟩
  | .local _ .vmem, ⟨14, _⟩ => ⟨S2x8x128x128, .bf16⟩
  | .local _ .vmem, ⟨15, _⟩ => ⟨S2x1024, .f32⟩
  | .local _ .vmem, ⟨16, _⟩ => ⟨S2x8x128x128, .bf16⟩
  | .local _ .vmem, ⟨17, _⟩ => ⟨S2x1024, .f32⟩
  | .local _ .vmem, ⟨18, _⟩ => ⟨S2x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_117 : BitVec 32 := 0#32
  let c64_i32 : BitVec 32 := 64#32
  let v169 : BitVec 32 := Scalar.addi c0_i32_117 c64_i32
  let c1_i32_118 : BitVec 32 := 1#32
  ⟨c0_i32_117, v169, c1_i32_118⟩
def k0_mult1 (k0_t1 : Fin k0_t1_loop.trips) : BitVec 32 :=
  let c0_i32_117 : BitVec 32 := 0#32
  let c1_i32_118 : BitVec 32 := 1#32
  let arg21 : BitVec 32 := Scf.iv c0_i32_117 c1_i32_118 k0_t1
  let c8_i32 : BitVec 32 := 8#32
  let v345 : BitVec 32 := Scalar.muli arg21 c8_i32
  v345
def k0_off1 (k0_t1 : Fin k0_t1_loop.trips) : Fin 2 → Nat :=
  let c0_i32_117 : BitVec 32 := 0#32
  let c1_i32_118 : BitVec 32 := 1#32
  let arg21 : BitVec 32 := Scf.iv c0_i32_117 c1_i32_118 k0_t1
  let c8_i32 : BitVec 32 := 8#32
  let v345 : BitVec 32 := Scalar.muli arg21 c8_i32
  let v346 : BitVec 32 := v345
  let v347 : Index := Scalar.indexCast v346
  let c0_258 : Index := 0#32
  ![v347.toNat, 0]
def k0_off2 (k0_t1 : Fin k0_t1_loop.trips) : Fin 3 → Nat :=
  let c0_274 : Index := 0#32
  let c0_i32_117 : BitVec 32 := 0#32
  let c1_i32_118 : BitVec 32 := 1#32
  let arg21 : BitVec 32 := Scf.iv c0_i32_117 c1_i32_118 k0_t1
  let c8_i32 : BitVec 32 := 8#32
  let v345 : BitVec 32 := Scalar.muli arg21 c8_i32
  let v346 : BitVec 32 := v345
  let v387 : Index := Scalar.indexCast v346
  let c0_275 : Index := 0#32
  ![0, v387.toNat, 0]
@[reducible] def k0_t2_loop : Scf.Loop 32 :=
  let c0_i32_252 : BitVec 32 := 0#32
  let c64_i32_253 : BitVec 32 := 64#32
  let v340 : BitVec 32 := Scalar.addi c0_i32_252 c64_i32_253
  let c1_i32_254 : BitVec 32 := 1#32
  ⟨c0_i32_252, v340, c1_i32_254⟩
def k0_mult2 (k0_t2 : Fin k0_t2_loop.trips) : BitVec 32 :=
  let c63_i32 : BitVec 32 := 63#32
  let c0_i32_252 : BitVec 32 := 0#32
  let c1_i32_254 : BitVec 32 := 1#32
  let arg21 : BitVec 32 := Scf.iv c0_i32_252 c1_i32_254 k0_t2
  let v345 : BitVec 32 := Scalar.subi c63_i32 arg21
  let c8_i32 : BitVec 32 := 8#32
  let v346 : BitVec 32 := Scalar.muli v345 c8_i32
  v346
def k0_off3 (k0_t2 : Fin k0_t2_loop.trips) : Fin 2 → Nat :=
  let c63_i32 : BitVec 32 := 63#32
  let c0_i32_252 : BitVec 32 := 0#32
  let c1_i32_254 : BitVec 32 := 1#32
  let arg21 : BitVec 32 := Scf.iv c0_i32_252 c1_i32_254 k0_t2
  let v345 : BitVec 32 := Scalar.subi c63_i32 arg21
  let c8_i32 : BitVec 32 := 8#32
  let v346 : BitVec 32 := Scalar.muli v345 c8_i32
  let v347 : BitVec 32 := v346
  let v348 : Index := Scalar.indexCast v347
  let c0_258 : Index := 0#32
  ![v348.toNat, 0]
def k0_off4 (k0_t2 : Fin k0_t2_loop.trips) : Fin 3 → Nat :=
  let c0_272 : Index := 0#32
  let c63_i32 : BitVec 32 := 63#32
  let c0_i32_252 : BitVec 32 := 0#32
  let c1_i32_254 : BitVec 32 := 1#32
  let arg21 : BitVec 32 := Scf.iv c0_i32_252 c1_i32_254 k0_t2
  let v345 : BitVec 32 := Scalar.subi c63_i32 arg21
  let c8_i32 : BitVec 32 := 8#32
  let v346 : BitVec 32 := Scalar.muli v345 c8_i32
  let v347 : BitVec 32 := v346
  let v388 : Index := Scalar.indexCast v347
  let c0_273 : Index := 0#32
  ![0, v388.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi v0 c1_i32
  let c64_i32 : BitVec 32 := 64#32
  let v2 : BitVec 32 := Scalar.muli v1 c64_i32
  let c1023_i32 : BitVec 32 := 1023#32
  let v3 : BitVec 32 := Scalar.minsi v2 c1023_i32
  let c0_i32 : BitVec 32 := 0#32
  let c0_i32_0 : BitVec 32 := 0#32
  ![arg0.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "decay" => some (((-4) * (Real.log 2)⁻¹ : ℝ) : EReal)
  | _ => none
-- ==== ReferenceIdeal.lean ====
abbrev S4x8192x4096 : Shape := ⟨3, ![4, 8192, 4096]⟩
abbrev S1x4x1024 : Shape := ⟨3, ![1, 4, 1024]⟩
abbrev S1x1024 : Shape := ⟨2, ![1, 1024]⟩
abbrev S1x2x8x128x128 : Shape := ⟨5, ![1, 2, 8, 128, 128]⟩
abbrev S1x2x1024 : Shape := ⟨3, ![1, 2, 1024]⟩
abbrev S4x8192x1024 : Shape := ⟨3, ![4, 8192, 1024]⟩
abbrev S4x1024 : Shape := ⟨2, ![4, 1024]⟩
abbrev S1024 : Shape := ⟨1, ![1024]⟩
abbrev S_ : Shape := ⟨0, ![]⟩
abbrev S4x8195x1024 : Shape := ⟨3, ![4, 8195, 1024]⟩
abbrev S1x1x1024 : Shape := ⟨3, ![1, 1, 1024]⟩
abbrev S1x1x8x128x128 : Shape := ⟨5, ![1, 1, 8, 128, 128]⟩
abbrev S8x128x128 : Shape := ⟨3, ![8, 128, 128]⟩
abbrev S4x8192x8x128 : Shape := ⟨4, ![4, 8192, 8, 128]⟩
abbrev S8x128x4x8192 : Shape := ⟨4, ![8, 128, 4, 8192]⟩
abbrev S4x1x1024 : Shape := ⟨3, ![4, 1, 1024]⟩

abbrev nBuf : Space → Nat
  | .hbm => 268
  | .vmem => 0
  | .smem => 0
  | _ => 0

abbrev hbmTy0_0 (i : Nat) : BufTy := match i % 128 with
  | 0 => ⟨S4x8192x4096, .f32⟩
  | 1 => ⟨S1x4x1024, .f32⟩
  | 2 => ⟨S1x1024, .f32⟩
  | 3 => ⟨S1x2x8x128x128, .f32⟩
  | 4 => ⟨S1x2x1024, .f32⟩
  | 5 => ⟨S1x2x8x128x128, .f32⟩
  | 6 => ⟨S1x2x1024, .f32⟩
  | 7 => ⟨S1x2x1024, .f32⟩
  | 8 => ⟨S4x8192x1024, .f32⟩
  | 9 => ⟨S4x1024, .f32⟩
  | 10 => ⟨S1024, .f32⟩
  | 11 => ⟨S_, .i32⟩
  | 12 => ⟨S_, .f32⟩
  | 13 => ⟨S4x8195x1024, .f32⟩
  | 14 => ⟨S4x8192x1024, .f32⟩
  | 15 => ⟨S1x1024, .f32⟩
  | 16 => ⟨S1024, .f32⟩
  | 17 => ⟨S1x1x1024, .f32⟩
  | 18 => ⟨S4x8192x1024, .f32⟩
  | 19 => ⟨S4x8192x1024, .f32⟩
  | 20 => ⟨S1x1x1024, .f32⟩
  | 21 => ⟨S4x8192x1024, .f32⟩
  | 22 => ⟨S4x8192x1024, .f32⟩
  | 23 => ⟨S4x8192x1024, .f32⟩
  | 24 => ⟨S1x1024, .f32⟩
  | 25 => ⟨S1024, .f32⟩
  | 26 => ⟨S1x1x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S1x1024, .f32⟩
  | 32 => ⟨S1024, .f32⟩
  | 33 => ⟨S1x1x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S1x1024, .f32⟩
  | 39 => ⟨S1024, .f32⟩
  | 40 => ⟨S1x1x1024, .f32⟩
  | 41 => ⟨S4x8192x1024, .f32⟩
  | 42 => ⟨S4x8192x1024, .f32⟩
  | 43 => ⟨S4x8192x1024, .f32⟩
  | 44 => ⟨S1x1x8x128x128, .f32⟩
  | 45 => ⟨S8x128x128, .f32⟩
  | 46 => ⟨S1x1x1024, .f32⟩
  | 47 => ⟨S1024, .f32⟩
  | 48 => ⟨S1x1x8x128x128, .f32⟩
  | 49 => ⟨S8x128x128, .f32⟩
  | 50 => ⟨S1x1x1024, .f32⟩
  | 51 => ⟨S1024, .f32⟩
  | 52 => ⟨S1x1x1024, .f32⟩
  | 53 => ⟨S1024, .f32⟩
  | 54 => ⟨S4x8192x8x128, .f32⟩
  | 55 => ⟨S8x128x4x8192, .f32⟩
  | 56 => ⟨S4x8192x8x128, .f32⟩
  | 57 => ⟨S4x8192x1024, .f32⟩
  | 58 => ⟨S1x1x1024, .f32⟩
  | 59 => ⟨S4x8192x1024, .f32⟩
  | 60 => ⟨S4x8192x1024, .f32⟩
  | 61 => ⟨S4x8192x1024, .f32⟩
  | 62 => ⟨S4x8192x1024, .f32⟩
  | 63 => ⟨S_, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S8x128x4x8192, .f32⟩
  | 70 => ⟨S4x8192x8x128, .f32⟩
  | 71 => ⟨S4x8192x1024, .f32⟩
  | 72 => ⟨S1x1x1024, .f32⟩
  | 73 => ⟨S4x8192x1024, .f32⟩
  | 74 => ⟨S4x8192x1024, .f32⟩
  | 75 => ⟨S4x8192x1024, .f32⟩
  | 76 => ⟨S4x8192x1024, .f32⟩
  | 77 => ⟨S_, .f32⟩
  | 78 => ⟨S4x8192x1024, .f32⟩
  | 79 => ⟨S4x8192x1024, .f32⟩
  | 80 => ⟨S_, .f32⟩
  | 81 => ⟨S4x8192x1024, .f32⟩
  | 82 => ⟨S4x8192x1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S1024, .i1⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S_, .f32⟩
  | 99 => ⟨S1024, .f32⟩
  | 100 => ⟨S1024, .f32⟩
  | 101 => ⟨S1x1x1024, .f32⟩
  | 102 => ⟨S4x8192x1024, .f32⟩
  | 103 => ⟨S4x8192x1024, .f32⟩
  | 104 => ⟨S4x8192x1024, .f32⟩
  | 105 => ⟨S_, .f32⟩
  | 106 => ⟨S4x8192x1024, .f32⟩
  | 107 => ⟨S4x8192x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S4x8192x1024, .f32⟩
  | 113 => ⟨S1x1x8x128x128, .f32⟩
  | 114 => ⟨S8x128x128, .f32⟩
  | 115 => ⟨S1x1x1024, .f32⟩
  | 116 => ⟨S1024, .f32⟩
  | 117 => ⟨S1x1x8x128x128, .f32⟩
  | 118 => ⟨S8x128x128, .f32⟩
  | 119 => ⟨S1x1x1024, .f32⟩
  | 120 => ⟨S1024, .f32⟩
  | 121 => ⟨S1x1x1024, .f32⟩
  | 122 => ⟨S1024, .f32⟩
  | 123 => ⟨S4x8192x8x128, .f32⟩
  | 124 => ⟨S8x128x4x8192, .f32⟩
  | 125 => ⟨S4x8192x8x128, .f32⟩
  | 126 => ⟨S4x8192x1024, .f32⟩
  | 127 => ⟨S1x1x1024, .f32⟩
  | _ => ⟨S4x8192x4096, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S_, .f32⟩
  | 5 => ⟨S4x8192x1024, .f32⟩
  | 6 => ⟨S4x8192x1024, .f32⟩
  | 7 => ⟨S_, .f32⟩
  | 8 => ⟨S4x8192x1024, .f32⟩
  | 9 => ⟨S4x8192x1024, .f32⟩
  | 10 => ⟨S8x128x4x8192, .f32⟩
  | 11 => ⟨S4x8192x8x128, .f32⟩
  | 12 => ⟨S4x8192x1024, .f32⟩
  | 13 => ⟨S1x1x1024, .f32⟩
  | 14 => ⟨S4x8192x1024, .f32⟩
  | 15 => ⟨S4x8192x1024, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S_, .f32⟩
  | 22 => ⟨S4x8192x1024, .f32⟩
  | 23 => ⟨S4x8192x1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S1024, .f32⟩
  | 30 => ⟨S1024, .i1⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S1x1x1024, .f32⟩
  | 43 => ⟨S4x8192x1024, .f32⟩
  | 44 => ⟨S4x8192x1024, .f32⟩
  | 45 => ⟨S4x8192x1024, .f32⟩
  | 46 => ⟨S_, .f32⟩
  | 47 => ⟨S4x8192x1024, .f32⟩
  | 48 => ⟨S4x8192x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S4x8192x1024, .f32⟩
  | 54 => ⟨S_, .f32⟩
  | 55 => ⟨S4x1x1024, .f32⟩
  | 56 => ⟨S_, .f32⟩
  | 57 => ⟨S4x8192x1024, .f32⟩
  | 58 => ⟨S_, .i32⟩
  | 59 => ⟨S_, .i32⟩
  | 60 => ⟨S4x8192x1024, .f32⟩
  | 61 => ⟨S4x8192x1024, .f32⟩
  | 62 => ⟨S4x8192x1024, .f32⟩
  | 63 => ⟨S4x8192x1024, .f32⟩
  | 64 => ⟨S_, .i32⟩
  | 65 => ⟨S_, .i32⟩
  | 66 => ⟨S4x1x1024, .f32⟩
  | 67 => ⟨S4x1x1024, .f32⟩
  | 68 => ⟨S4x8192x1024, .f32⟩
  | 69 => ⟨S4x8192x1024, .f32⟩
  | 70 => ⟨S_, .i32⟩
  | 71 => ⟨S_, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S4x1x1024, .f32⟩
  | 83 => ⟨S4x1x1024, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S4x1x1024, .f32⟩
  | 93 => ⟨S4x1x1024, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S4x1x1024, .f32⟩
  | 105 => ⟨S4x1x1024, .f32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S4x1x1024, .f32⟩
  | 117 => ⟨S4x1x1024, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S4x8192x1024, .f32⟩
  | 127 => ⟨S_, .i32⟩
  | _ => ⟨S4x8192x4096, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S4x8192x1024, .f32⟩
  | 10 => ⟨S_, .i32⟩
  | 11 => ⟨S_, .i32⟩
  | _ => ⟨S4x8192x4096, .f32⟩

abbrev hbmTy (i : Nat) : BufTy := match i / 128 with
  | 0 => hbmTy0_0 i
  | 1 => hbmTy0_1 i
  | 2 => hbmTy0_2 i
  | _ => ⟨S4x8192x4096, .f32⟩

abbrev bufTy : (tb : Table) → Fin (tcTables nBuf tb) → BufTy
  | .hbm, ⟨i, _⟩ => hbmTy i
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst : Ref sig .tc := ⟨.hbm, 63, rfl⟩
abbrev main_v53 : Ref sig .tc := ⟨.hbm, 64, rfl⟩
abbrev main_v54 : Ref sig .tc := ⟨.hbm, 65, rfl⟩
abbrev main_cst_0 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_1 : Ref sig .tc := ⟨.hbm, 77, rfl⟩
abbrev main_v65 : Ref sig .tc := ⟨.hbm, 78, rfl⟩
abbrev main_v66 : Ref sig .tc := ⟨.hbm, 79, rfl⟩
abbrev main_cst_2 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v70 : Ref sig .tc := ⟨.hbm, 97, rfl⟩
abbrev main_cst_3 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_4 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_5 : Ref sig .tc := ⟨.hbm, 132, rfl⟩
abbrev main_v103 : Ref sig .tc := ⟨.hbm, 133, rfl⟩
abbrev main_v104 : Ref sig .tc := ⟨.hbm, 134, rfl⟩
abbrev main_cst_6 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_7 : Ref sig .tc := ⟨.hbm, 146, rfl⟩
abbrev main_v115 : Ref sig .tc := ⟨.hbm, 147, rfl⟩
abbrev main_v116 : Ref sig .tc := ⟨.hbm, 148, rfl⟩
abbrev main_cst_8 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_call2_cst : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_v8 : Ref sig .tc := ⟨.hbm, 162, rfl⟩
abbrev main_call2_v9 : Ref sig .tc := ⟨.hbm, 163, rfl⟩
abbrev main_call2_v10 : Ref sig .tc := ⟨.hbm, 164, rfl⟩
abbrev main_call2_v11 : Ref sig .tc := ⟨.hbm, 165, rfl⟩
abbrev main_v120 : Ref sig .tc := ⟨.hbm, 166, rfl⟩
abbrev main_cst_9 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_10 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_11 : Ref sig .tc := ⟨.hbm, 182, rfl⟩
abbrev main_v134 : Ref sig .tc := ⟨.hbm, 183, rfl⟩
abbrev main_cst_12 : Ref sig .tc := ⟨.hbm, 184, rfl⟩
abbrev main_v135 : Ref sig .tc := ⟨.hbm, 185, rfl⟩
abbrev main_c_13 : Ref sig .tc := ⟨.hbm, 186, rfl⟩
abbrev main_c_14 : Ref sig .tc := ⟨.hbm, 187, rfl⟩
abbrev main_v136_0 : Ref sig .tc := ⟨.hbm, 188, rfl⟩
abbrev main_v136_1 : Ref sig .tc := ⟨.hbm, 189, rfl⟩
abbrev main_v136_2 : Ref sig .tc := ⟨.hbm, 190, rfl⟩
abbrev main_v136_3 : Ref sig .tc := ⟨.hbm, 191, rfl⟩
abbrev main_v136_4 : Ref sig .tc := ⟨.hbm, 192, rfl⟩
abbrev main_v136_5 : Ref sig .tc := ⟨.hbm, 193, rfl⟩
abbrev main_v136_6 : Ref sig .tc := ⟨.hbm, 194, rfl⟩
abbrev main_v136_7 : Ref sig .tc := ⟨.hbm, 195, rfl⟩
abbrev main_v136_8 : Ref sig .tc := ⟨.hbm, 196, rfl⟩
abbrev main_v136_9 : Ref sig .tc := ⟨.hbm, 197, rfl⟩
abbrev main_while0c_c_24 : Ref sig .tc := ⟨.hbm, 198, rfl⟩
abbrev main_while0c_v137 : Ref sig .tc := ⟨.hbm, 199, rfl⟩
abbrev main_while0b_c_24 : Ref sig .tc := ⟨.hbm, 200, rfl⟩
abbrev main_while0b_v137 : Ref sig .tc := ⟨.hbm, 201, rfl⟩
abbrev main_while0b_c_25 : Ref sig .tc := ⟨.hbm, 202, rfl⟩
abbrev main_while0b_v138 : Ref sig .tc := ⟨.hbm, 203, rfl⟩
abbrev main_while0b_v139 : Ref sig .tc := ⟨.hbm, 204, rfl⟩
abbrev main_while0b_c_26 : Ref sig .tc := ⟨.hbm, 205, rfl⟩
abbrev main_while0b_v140 : Ref sig .tc := ⟨.hbm, 206, rfl⟩
abbrev main_while0b_v141 : Ref sig .tc := ⟨.hbm, 207, rfl⟩
abbrev main_while0b_c_27 : Ref sig .tc := ⟨.hbm, 208, rfl⟩
abbrev main_while0b_c_28 : Ref sig .tc := ⟨.hbm, 209, rfl⟩
abbrev main_while0b_v142 : Ref sig .tc := ⟨.hbm, 210, rfl⟩
abbrev main_while0b_v143 : Ref sig .tc := ⟨.hbm, 211, rfl⟩
abbrev main_while0b_c_29 : Ref sig .tc := ⟨.hbm, 212, rfl⟩
abbrev main_while0b_v144 : Ref sig .tc := ⟨.hbm, 213, rfl⟩
abbrev main_while0b_v145 : Ref sig .tc := ⟨.hbm, 214, rfl⟩
abbrev main_while0b_c_30 : Ref sig .tc := ⟨.hbm, 215, rfl⟩
abbrev main_while0b_v146 : Ref sig .tc := ⟨.hbm, 216, rfl⟩
abbrev main_while0b_v147 : Ref sig .tc := ⟨.hbm, 217, rfl⟩
abbrev main_while0b_c_31 : Ref sig .tc := ⟨.hbm, 218, rfl⟩
abbrev main_while0b_c_32 : Ref sig .tc := ⟨.hbm, 219, rfl⟩
abbrev main_while0b_v148 : Ref sig .tc := ⟨.hbm, 220, rfl⟩
abbrev main_while0b_v149 : Ref sig .tc := ⟨.hbm, 221, rfl⟩
abbrev main_while0b_c_33 : Ref sig .tc := ⟨.hbm, 222, rfl⟩
abbrev main_while0b_v150 : Ref sig .tc := ⟨.hbm, 223, rfl⟩
abbrev main_while0b_c_34 : Ref sig .tc := ⟨.hbm, 224, rfl⟩
abbrev main_while0b_v151 : Ref sig .tc := ⟨.hbm, 225, rfl⟩
abbrev main_while0b_v152 : Ref sig .tc := ⟨.hbm, 226, rfl⟩
abbrev main_while0b_c_35 : Ref sig .tc := ⟨.hbm, 227, rfl⟩
abbrev main_while0b_v153 : Ref sig .tc := ⟨.hbm, 228, rfl⟩
abbrev main_while0b_v154 : Ref sig .tc := ⟨.hbm, 229, rfl⟩
abbrev main_while0b_c_36 : Ref sig .tc := ⟨.hbm, 230, rfl⟩
abbrev main_while0b_c_37 : Ref sig .tc := ⟨.hbm, 231, rfl⟩
abbrev main_while0b_v155 : Ref sig .tc := ⟨.hbm, 232, rfl⟩
abbrev main_while0b_v156 : Ref sig .tc := ⟨.hbm, 233, rfl⟩
abbrev main_while0b_c_38 : Ref sig .tc := ⟨.hbm, 234, rfl⟩
abbrev main_while0b_v157 : Ref sig .tc := ⟨.hbm, 235, rfl⟩
abbrev main_while0b_c_39 : Ref sig .tc := ⟨.hbm, 236, rfl⟩
abbrev main_while0b_v158 : Ref sig .tc := ⟨.hbm, 237, rfl⟩
abbrev main_while0b_v159 : Ref sig .tc := ⟨.hbm, 238, rfl⟩
abbrev main_while0b_c_40 : Ref sig .tc := ⟨.hbm, 239, rfl⟩
abbrev main_while0b_v160 : Ref sig .tc := ⟨.hbm, 240, rfl⟩
abbrev main_while0b_v161 : Ref sig .tc := ⟨.hbm, 241, rfl⟩
abbrev main_while0b_c_41 : Ref sig .tc := ⟨.hbm, 242, rfl⟩
abbrev main_while0b_c_42 : Ref sig .tc := ⟨.hbm, 243, rfl⟩
abbrev main_while0b_v162 : Ref sig .tc := ⟨.hbm, 244, rfl⟩
abbrev main_while0b_v163 : Ref sig .tc := ⟨.hbm, 245, rfl⟩
abbrev main_while0b_c_43 : Ref sig .tc := ⟨.hbm, 246, rfl⟩
abbrev main_while0b_v164 : Ref sig .tc := ⟨.hbm, 247, rfl⟩
abbrev main_while0b_v165 : Ref sig .tc := ⟨.hbm, 248, rfl⟩
abbrev main_while0b_c_44 : Ref sig .tc := ⟨.hbm, 249, rfl⟩
abbrev main_while0b_v166 : Ref sig .tc := ⟨.hbm, 250, rfl⟩
abbrev main_while0b_v167 : Ref sig .tc := ⟨.hbm, 251, rfl⟩
abbrev main_while0b_c_45 : Ref sig .tc := ⟨.hbm, 252, rfl⟩
abbrev main_while0b_c_46 : Ref sig .tc := ⟨.hbm, 253, rfl⟩
abbrev main_while0b_v168 : Ref sig .tc := ⟨.hbm, 254, rfl⟩
abbrev main_while0b_c_47 : Ref sig .tc := ⟨.hbm, 255, rfl⟩
abbrev main_while0b_v169 : Ref sig .tc := ⟨.hbm, 256, rfl⟩
abbrev main_while0b_c_48 : Ref sig .tc := ⟨.hbm, 257, rfl⟩
abbrev main_while0b_v170 : Ref sig .tc := ⟨.hbm, 258, rfl⟩
abbrev main_while0b_v171 : Ref sig .tc := ⟨.hbm, 259, rfl⟩
abbrev main_while0b_c_49 : Ref sig .tc := ⟨.hbm, 260, rfl⟩
abbrev main_while0b_v172 : Ref sig .tc := ⟨.hbm, 261, rfl⟩
abbrev main_while0b_v173 : Ref sig .tc := ⟨.hbm, 262, rfl⟩
abbrev main_while0b_c_50 : Ref sig .tc := ⟨.hbm, 263, rfl⟩
abbrev main_while0b_c_51 : Ref sig .tc := ⟨.hbm, 264, rfl⟩
abbrev main_while0b_v174 : Ref sig .tc := ⟨.hbm, 265, rfl⟩
abbrev main_while0b_c_52 : Ref sig .tc := ⟨.hbm, 266, rfl⟩
abbrev main_while0b_v175 : Ref sig .tc := ⟨.hbm, 267, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x2048 : Shape := ⟨3, ![4, 8192, 2048]⟩
abbrev S1x2048 : Shape := ⟨2, ![1, 2048]⟩
abbrev S1x2048x4096 : Shape := ⟨3, ![1, 2048, 4096]⟩
abbrev S32768x2048 : Shape := ⟨2, ![32768, 2048]⟩
abbrev S2048 : Shape := ⟨1, ![2048]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x4096, .f32⟩
  | .hbm, ⟨3, _⟩ => ⟨S32768x2048, .f32⟩
  | .hbm, ⟨4, _⟩ => ⟨S2048, .f32⟩
  | .hbm, ⟨5, _⟩ => ⟨S2048x4096, .f32⟩
  | .hbm, ⟨6, _⟩ => ⟨S2048x4096, .bf16⟩
  | .hbm, ⟨7, _⟩ => ⟨S1x2048, .f32⟩
  | .hbm, ⟨8, _⟩ => ⟨S32768x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c0_i32_6 : BitVec 32 := 0#32
  let v10 : BitVec 1 := Scalar.cmpi .sgt arg1 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
variable {F : FTy → Type} [FloatOps F] [Named F]
def κ : String → Option EReal := fun
  | "cubic" => some ((80338380498831 / 2251799813685248 : ℝ) : EReal)
  | _ => none
-- ==== Reference2Ideal.lean ====
abbrev S4x8192x2048 : Shape := ⟨3, ![4, 8192, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x4096 : Shape := ⟨2, ![2048, 4096]⟩
abbrev S4x8192x4096 : Shape := ⟨3, ![4, 8192, 4096]⟩
abbrev S4x8192x1024 : Shape := ⟨3, ![4, 8192, 1024]⟩
abbrev S4x8192x3072 : Shape := ⟨3, ![4, 8192, 3072]⟩
abbrev S32768x4096 : Shape := ⟨2, ![32768, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S4x8192x2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x2048, .f32⟩
  | .hbm, ⟨16, _⟩ => ⟨S4x8192x2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S2048x4096, .f32⟩
  | .hbm, ⟨21, _⟩ => ⟨S4x8192x4096, .f32⟩
  | .hbm, ⟨22, _⟩ => ⟨S4x8192x1024, .f32⟩
  | .hbm, ⟨23, _⟩ => ⟨S4x8192x3072, .f32⟩
  | .hbm, ⟨24, _⟩ => ⟨S4x8192x3072, .f32⟩
  | .hbm, ⟨25, _⟩ => ⟨S4x8192x3072, .f32⟩
  | .hbm, ⟨26, _⟩ => ⟨S_, .f32⟩
  | .hbm, ⟨27, _⟩ => ⟨S4x8192x3072, .f32⟩
  | .hbm, ⟨28, _⟩ => ⟨S4x8192x3072, .f32⟩
  | .hbm, ⟨29, _⟩ => ⟨S4x8192x3072, .f32⟩
  | .hbm, ⟨30, _⟩ => ⟨S_, .f32⟩
  | .hbm, ⟨31, _⟩ => ⟨S4x8192x3072, .f32⟩
  | .hbm, ⟨32, _⟩ => ⟨S4x8192x3072, .f32⟩
  | .hbm, ⟨33, _⟩ => ⟨S4x8192x3072, .f32⟩
  | .hbm, ⟨34, _⟩ => ⟨S_, .f32⟩
  | .hbm, ⟨35, _⟩ => ⟨S4x8192x3072, .f32⟩
  | .hbm, ⟨36, _⟩ => ⟨S4x8192x3072, .f32⟩
  | .hbm, ⟨37, _⟩ => ⟨S_, .f32⟩
  | .hbm, ⟨38, _⟩ => ⟨S4x8192x3072, .f32⟩
  | .hbm, ⟨39, _⟩ => ⟨S4x8192x3072, .f32⟩
  | .hbm, ⟨40, _⟩ => ⟨S4x8192x3072, .f32⟩
  | .hbm, ⟨41, _⟩ => ⟨S4x8192x4096, .f32⟩
  | .hbm, ⟨42, _⟩ => ⟨S32768x4096, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel3.lean ====
abbrev S32768x2048 : Shape := ⟨2, ![32768, 2048]⟩
abbrev S1x16384x2048 : Shape := ⟨3, ![1, 16384, 2048]⟩
abbrev S32768x16384 : Shape := ⟨2, ![32768, 16384]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024x1024 : Shape := ⟨2, ![1024, 1024]⟩
abbrev S64x2048 : Shape := ⟨2, ![64, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S1x16384x2048, .f32⟩
  | .hbm, ⟨2, _⟩ => ⟨S1x16384x2048, .f32⟩
  | .hbm, ⟨3, _⟩ => ⟨S32768x16384, .bf16⟩
  | .hbm, ⟨4, _⟩ => ⟨S32768x2048, .f32⟩
  | .hbm, ⟨5, _⟩ => ⟨S2048, .f32⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .bf16⟩
  | .hbm, ⟨10, _⟩ => ⟨S1x2048, .f32⟩
  | .hbm, ⟨11, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S64x2048, .f32⟩
  | .local _ .vmem, ⟨9, _⟩ => ⟨S64x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c64_i32 : BitVec 32 := 64#32
  let v47 : BitVec 32 := Scalar.muli arg1 c64_i32
  v47
def k0_off1 (i : grid0.Coords) : Fin 2 → Nat :=
  let arg1 : BitVec 32 := BitVec.ofNat 32 (i 1).val
  let c64_i32 : BitVec 32 := 64#32
  let v47 : BitVec 32 := Scalar.muli arg1 c64_i32
  let v48 : BitVec 32 := v47
  let v49 : Index := Scalar.indexCast v48
  let c0_26 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
variable {F : FTy → Type} [FloatOps F] [Named F]
def κ : String → Option EReal := fun
  | "cubic" => some ((80338380498831 / 2251799813685248 : ℝ) : EReal)
  | "scale" => some ((6693141 / 8388608 : ℝ) : EReal)
  | _ => none
-- ==== Reference3Ideal.lean ====
abbrev S32768x2048 : Shape := ⟨2, ![32768, 2048]⟩
abbrev S1x16384x2048 : Shape := ⟨3, ![1, 16384, 2048]⟩
abbrev S32768x16384 : Shape := ⟨2, ![32768, 16384]⟩
abbrev S2048 : Shape := ⟨1, ![2048]⟩
abbrev S_ : Shape := ⟨0, ![]⟩
abbrev S16384x2048 : Shape := ⟨2, ![16384, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x16384x2048, .f32⟩
  | .hbm, ⟨2, _⟩ => ⟨S1x16384x2048, .f32⟩
  | .hbm, ⟨3, _⟩ => ⟨S32768x16384, .bf16⟩
  | .hbm, ⟨4, _⟩ => ⟨S32768x2048, .f32⟩
  | .hbm, ⟨5, _⟩ => ⟨S2048, .f32⟩
  | .hbm, ⟨6, _⟩ => ⟨S32768x2048, .f32⟩
  | .hbm, ⟨7, _⟩ => ⟨S32768x16384, .f32⟩
  | .hbm, ⟨8, _⟩ => ⟨S_, .f32⟩
  | .hbm, ⟨9, _⟩ => ⟨S32768x16384, .f32⟩
  | .hbm, ⟨10, _⟩ => ⟨S32768x16384, .f32⟩
  | .hbm, ⟨11, _⟩ => ⟨S16384x2048, .f32⟩
  | .hbm, ⟨12, _⟩ => ⟨S32768x16384, .f32⟩
  | .hbm, ⟨13, _⟩ => ⟨S32768x16384, .f32⟩
  | .hbm, ⟨14, _⟩ => ⟨S32768x16384, .f32⟩
  | .hbm, ⟨15, _⟩ => ⟨S_, .f32⟩
  | .hbm, ⟨16, _⟩ => ⟨S32768x16384, .f32⟩
  | .hbm, ⟨17, _⟩ => ⟨S32768x16384, .f32⟩
  | .hbm, ⟨18, _⟩ => ⟨S32768x16384, .f32⟩
  | .hbm, ⟨19, _⟩ => ⟨S_, .f32⟩
  | .hbm, ⟨20, _⟩ => ⟨S32768x16384, .f32⟩
  | .hbm, ⟨21, _⟩ => ⟨S32768x16384, .f32⟩
  | .hbm, ⟨22, _⟩ => ⟨S32768x16384, .f32⟩
  | .hbm, ⟨23, _⟩ => ⟨S_, .f32⟩
  | .hbm, ⟨24, _⟩ => ⟨S32768x16384, .f32⟩
  | .hbm, ⟨25, _⟩ => ⟨S32768x16384, .f32⟩
  | .hbm, ⟨26, _⟩ => ⟨S_, .f32⟩
  | .hbm, ⟨27, _⟩ => ⟨S32768x16384, .f32⟩
  | .hbm, ⟨28, _⟩ => ⟨S32768x16384, .f32⟩
  | .hbm, ⟨29, _⟩ => ⟨S32768x16384, .f32⟩
  | .hbm, ⟨30, _⟩ => ⟨S32768x16384, .f32⟩
  | .hbm, ⟨31, _⟩ => ⟨S16384x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x2048, .f32⟩
  | .hbm, ⟨46, _⟩ => ⟨S32768x2048, .f32⟩
  | .hbm, ⟨47, _⟩ => ⟨S1x2048, .f32⟩
  | .hbm, ⟨48, _⟩ => ⟨S32768x2048, .f32⟩
  | .hbm, ⟨49, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel4.lean ====
abbrev S4x8192x1024 : Shape := ⟨3, ![4, 8192, 1024]⟩
abbrev S32768x4096 : Shape := ⟨2, ![32768, 4096]⟩
abbrev S32768x1024 : Shape := ⟨2, ![32768, 1024]⟩
abbrev S4x8192x2048 : Shape := ⟨3, ![4, 8192, 2048]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S32768x4096, .f32⟩
  | .hbm, ⟨3, _⟩ => ⟨S32768x1024, .bf16⟩
  | .hbm, ⟨4, _⟩ => ⟨S4x8192x2048, .f32⟩
  | .hbm, ⟨5, _⟩ => ⟨S1x2048x2048, .f32⟩
  | .hbm, ⟨6, _⟩ => ⟨S1x2048, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x8192x1024 : Shape := ⟨3, ![4, 8192, 1024]⟩
abbrev S32768x4096 : Shape := ⟨2, ![32768, 4096]⟩
abbrev S32768x1024 : Shape := ⟨2, ![32768, 1024]⟩
abbrev S4x8192x2048 : Shape := ⟨3, ![4, 8192, 2048]⟩
abbrev S1x2048x2048 : Shape := ⟨3, ![1, 2048, 2048]⟩
abbrev S1x2048 : Shape := ⟨2, ![1, 2048]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S32768x4096, .f32⟩
  | .hbm, ⟨3, _⟩ => ⟨S32768x1024, .bf16⟩
  | .hbm, ⟨4, _⟩ => ⟨S4x8192x2048, .f32⟩
  | .hbm, ⟨5, _⟩ => ⟨S1x2048x2048, .f32⟩
  | .hbm, ⟨6, _⟩ => ⟨S1x2048, .f32⟩
  | .hbm, ⟨7, _⟩ => ⟨S32768x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S32768x1024, .f32⟩
  | .hbm, ⟨12, _⟩ => ⟨S4x8192x1024, .f32⟩
  | .hbm, ⟨13, _⟩ => ⟨S4x8192x2048, .f32⟩
  | .hbm, ⟨14, _⟩ => ⟨S2048x2048, .f32⟩
  | .hbm, ⟨15, _⟩ => ⟨S4x8192x2048, .f32⟩
  | .hbm, ⟨16, _⟩ => ⟨S4x8192x2048, .f32⟩
  | .hbm, ⟨17, _⟩ => ⟨S32768x2048, .f32⟩
  | .hbm, ⟨18, _⟩ => ⟨S2048, .f32⟩
  | .hbm, ⟨19, _⟩ => ⟨S4x8192x2048, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x2048, .f32⟩
  | .hbm, ⟨31, _⟩ => ⟨S4x8192x2048, .f32⟩
  | .hbm, ⟨32, _⟩ => ⟨S1x1x2048, .f32⟩
  | .hbm, ⟨33, _⟩ => ⟨S4x8192x2048, .f32⟩
  | .hbm, ⟨34, _⟩ => ⟨S4x8192x2048, .f32⟩
  | .hbm, ⟨35, _⟩ => ⟨S4x8192x2048, .bf16⟩
  | .hbm, ⟨36, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S32768x4096 : Shape := ⟨2, ![32768, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S8x128x128 : Shape := ⟨3, ![8, 128, 128]⟩
abbrev S32768x1024 : Shape := ⟨2, ![32768, 1024]⟩
abbrev S1024x1024 : Shape := ⟨2, ![1024, 1024]⟩
abbrev S1024x1 : Shape := ⟨2, ![1024, 1]⟩
abbrev S1x128x128 : Shape := ⟨3, ![1, 128, 128]⟩
abbrev S128x128 : Shape := ⟨2, ![128, 128]⟩

abbrev nBuf : Space → Nat
  | .hbm => 16
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S8x128, .f32⟩
  | .hbm, ⟨6, _⟩ => ⟨S128x8, .f32⟩
  | .hbm, ⟨7, _⟩ => ⟨S128x8x128, .f32⟩
  | .hbm, ⟨8, _⟩ => ⟨S128x1024, .f32⟩
  | .hbm, ⟨9, _⟩ => ⟨S1024, .f32⟩
  | .hbm, ⟨10, _⟩ => ⟨S1024, .f32⟩
  | .hbm, ⟨11, _⟩ => ⟨S8x128x128, .f32⟩
  | .hbm, ⟨12, _⟩ => ⟨S8x128x128, .bf16⟩
  | .hbm, ⟨13, _⟩ => ⟨S1x1024, .f32⟩
  | .hbm, ⟨14, _⟩ => ⟨S1x1024, .f32⟩
  | .hbm, ⟨15, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1024x1024, .bf16⟩
  | .local _ .vmem, ⟨9, _⟩ => ⟨S1024x1024, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x4096 : Shape := ⟨2, ![32768, 4096]⟩
abbrev S1x1024 : Shape := ⟨2, ![1, 1024]⟩
abbrev S1x8x128x128 : Shape := ⟨4, ![1, 8, 128, 128]⟩
abbrev S1x8x128 : Shape := ⟨3, ![1, 8, 128]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S256x128x8x128 : Shape := ⟨4, ![256, 128, 8, 128]⟩
abbrev S8x128x128 : Shape := ⟨3, ![8, 128, 128]⟩
abbrev S8x256x128x128 : Shape := ⟨4, ![8, 256, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S32768x1024, .f32⟩
  | .hbm, ⟨6, _⟩ => ⟨S32768x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S256x128x8x128, .f32⟩
  | .hbm, ⟨37, _⟩ => ⟨S8x128x128, .f32⟩
  | .hbm, ⟨38, _⟩ => ⟨S8x256x128x128, .f32⟩
  | .hbm, ⟨39, _⟩ => ⟨S256x128x8x128, .f32⟩
  | .hbm, ⟨40, _⟩ => ⟨S8x128, .f32⟩
  | .hbm, ⟨41, _⟩ => ⟨S128x8, .f32⟩
  | .hbm, ⟨42, _⟩ => ⟨S1x128x8x1, .f32⟩
  | .hbm, ⟨43, _⟩ => ⟨S256x128x8x128, .f32⟩
  | .hbm, ⟨44, _⟩ => ⟨S256x128x8x128, .f32⟩
  | .hbm, ⟨45, _⟩ => ⟨S32768x1024, .f32⟩
  | .hbm, ⟨46, _⟩ => ⟨S32768x1024, .f32⟩
  | .hbm, ⟨47, _⟩ => ⟨S32768x1024, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.OutProj.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Pipeline.ValueKit.Point

@[expose] public section

set_option maxRecDepth 16384

noncomputable section

/-! The output projection: the residual stream `h1 = x + [y(hf+hb), g]·W` and its normed copy `n2`. -/

namespace Cert.Kernel4Ideal.OutValue

open Cert.Kernel4Ideal Cert.Kernel4Ideal.Gen Idealize.ShloMosaic Idealize.ShloMosaic.TcCoe Idealize.SL.Sem

/-- Where each window's block lies at a grid point. -/
theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] :=
  (by decide +kernel : ∀ t : Fin grid0.N, _)

variable (m : (ℓ : Loc nD τ sig) → Buf (Elt Ideal) ℓ)

theorem V0 (c : Dev nD) : V m c main_v0 = shapeCast S32768x1024 (m ((c : Thread nD τ).loc main_arg0)) shapeCasts_S4x8192x1024_S32768x1024 := by
  entry_read
  rfl

/-- The block of the flattened operand 0 at a point, read from the operand itself. -/
theorem blk0 (c : Dev nD) (t : Fin cfg0.N) (a : Fin 512) (b : Fin 1024) (p : Fin 4) (q : Fin 8192) (b' : Fin 1024)
    (h : p.val * 8192 + q.val = t.val * 512 + a.val) (hb : b'.val = b.val) :
    iblk m c 0 t (ix2 a b) = m ((c : Thread nD τ).loc main_arg0) (ix3 p q b') := by
  unfold iblk
  show V m c main_v0 _ = _
  rw [V0]
  refine shapeCast_apply _ _ _ _ ?_
  have hi : win0_0.index t = ![t.val, 0] := by simp only [idx t]
  show (S4x8192x1024.rowMajor (ix3 p q b')).val = (S32768x1024.rowMajor _).val
  rw [Shape.rowMajor_val_three, Shape.rowMajor_val_two]
  have e0 : ((((cfg0.win 0).blk t).view.emb (ix2 a b)) 0).val = win0_0.index t 0 * 512 + a.val := win0_0.rect_emb_val t (ix2 a b) 0 rfl
  have e1 : ((((cfg0.win 0).blk t).view.emb (ix2 a b)) 1).val = win0_0.index t 1 * 1024 + b.val := win0_0.rect_emb_val t (ix2 a b) 1 rfl
  rw [hi] at e0 e1
  rw [e0, e1]
  show (p.val * 8192 + q.val) * 1024 + b'.val = (t.val * 512 + a.val) * 1024 + (0 * 1024 + b.val)
  omega

theorem V1 (c : Dev nD) : V m c main_v1 = shapeCast S32768x1024 (m ((c : Thread nD τ).loc main_arg1)) shapeCasts_S4x8192x1024_S32768x1024 := by
  entry_read
  rfl

/-- The block of the flattened operand 1 at a point, read from the operand itself. -/
theorem blk1 (c : Dev nD) (t : Fin cfg0.N) (a : Fin 512) (b : Fin 1024) (p : Fin 4) (q : Fin 8192) (b' : Fin 1024)
    (h : p.val * 8192 + q.val = t.val * 512 + a.val) (hb : b'.val = b.val) :
    iblk m c 1 t (ix2 a b) = m ((c : Thread nD τ).loc main_arg1) (ix3 p q b') := by
  unfold iblk
  show V m c main_v1 _ = _
  rw [V1]
  refine shapeCast_apply _ _ _ _ ?_
  have hi : win0_1.index t = ![t.val, 0] := by simp only [idx t]
  show (S4x8192x1024.rowMajor (ix3 p q b')).val = (S32768x1024.rowMajor _).val
  rw [Shape.rowMajor_val_three, Shape.rowMajor_val_two]
  have e0 : ((((cfg0.win 1).blk t).view.emb (ix2 a b)) 0).val = win0_1.index t 0 * 512 + a.val := win0_1.rect_emb_val t (ix2 a b) 0 rfl
  have e1 : ((((cfg0.win 1).blk t).view.emb (ix2 a b)) 1).val = win0_1.index t 1 * 1024 + b.val := win0_1.rect_emb_val t (ix2 a b) 1 rfl
  rw [hi] at e0 e1
  rw [e0, e1]
  show (p.val * 8192 + q.val) * 1024 + b'.val = (t.val * 512 + a.val) * 1024 + (0 * 1024 + b.val)
  omega

theorem V2 (c : Dev nD) : V m c main_v2 = shapeCast S32768x2048 (m ((c : Thread nD τ).loc main_arg4)) shapeCasts_S4x8192x2048_S32768x2048 := by
  entry_read
  rfl

/-- The block of the flattened operand 4 at a point, read from the operand itself. -/
theorem blk4 (c : Dev nD) (t : Fin cfg0.N) (a : Fin 512) (b : Fin 2048) (p : Fin 4) (q : Fin 8192) (b' : Fin 2048)
    (h : p.val * 8192 + q.val = t.val * 512 + a.val) (hb : b'.val = b.val) :
    iblk m c 4 t (ix2 a b) = m ((c : Thread nD τ).loc main_arg4) (ix3 p q b') := by
  unfold iblk
  show V m c main_v2 _ = _
  rw [V2]
  refine shapeCast_apply _ _ _ _ ?_
  have hi : win0_4.index t = ![t.val, 0] := by simp only [idx t]
  show (S4x8192x2048.rowMajor (ix3 p q b')).val = (S32768x2048.rowMajor _).val
  rw [Shape.rowMajor_val_three, Shape.rowMajor_val_two]
  have e0 : ((((cfg0.win 4).blk t).view.emb (ix2 a b)) 0).val = win0_4.index t 0 * 512 + a.val := win0_4.rect_emb_val t (ix2 a b) 0 rfl
  have e1 : ((((cfg0.win 4).blk t).view.emb (ix2 a b)) 1).val = win0_4.index t 1 * 2048 + b.val := win0_4.rect_emb_val t (ix2 a b) 1 rfl
  rw [hi] at e0 e1
  rw [e0, e1]
  show (p.val * 8192 + q.val) * 2048 + b'.val = (t.val * 512 + a.val) * 2048 + (0 * 2048 + b.val)
  omega

theorem emb7 (t : Fin cfg0.N) (a : Fin 512) (b : Fin 2048) : ((((cfg0.win 7).blk t).view.emb (ix2 a b)) 0).val = t.val * 512 + a.val
    ∧ ((((cfg0.win 7).blk t).view.emb (ix2 a b)) 1).val = b.val := by
  have hi : win0_7.index t = ![t.val, 0] := by simp only [idx t]
  have e0 : ((((cfg0.win 7).blk t).view.emb (ix2 a b)) 0).val = win0_7.index t 0 * 512 + a.val := win0_7.rect_emb_val t (ix2 a b) 0 rfl
  have e1 : ((((cfg0.win 7).blk t).view.emb (ix2 a b)) 1).val = win0_7.index t 1 * 2048 + b.val := win0_7.rect_emb_val t (ix2 a b) 1 rfl
  rw [hi] at e0 e1
  exact ⟨e0, e1.trans (by simp)⟩

theorem emb8 (t : Fin cfg0.N) (a : Fin 512) (b : Fin 2048) : ((((cfg0.win 8).blk t).view.emb (ix2 a b)) 0).val = t.val * 512 + a.val
    ∧ ((((cfg0.win 8).blk t).view.emb (ix2 a b)) 1).val = b.val := by
  have hi : win0_8.index t = ![t.val, 0] := by simp only [idx t]
  have e0 : ((((cfg0.win 8).blk t).view.emb (ix2 a b)) 0).val = win0_8.index t 0 * 512 + a.val := win0_8.rect_emb_val t (ix2 a b) 0 rfl
  have e1 : ((((cfg0.win 8).blk t).view.emb (ix2 a b)) 1).val = win0_8.index t 1 * 2048 + b.val := win0_8.rect_emb_val t (ix2 a b) 1 rfl
  rw [hi] at e0 e1
  exact ⟨e0, e1.trans (by simp)⟩

/-- The result arrays, as the reference composes them of the arguments. -/
abbrev H1 (c : Dev nD) := Cert.Reference4Ideal.Read.val_main_v10 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The first result on its four sequences. -/
abbrev H9 (c : Dev nD) := Cert.Reference4Ideal.Read.val_main_v9 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- A block's row of the first result. -/
theorem h1_at (c : Dev nD) (t : Fin cfg0.N) (a : Fin 512) (b : Fin 2048) (p : Fin 4) (q : Fin 8192) (hr : p.val * 8192 + q.val = t.val * 512 + a.val) :
    k0_pay1 (F := Ideal) (iblk m c 0 t) (iblk m c 1 t) (iblk m c 2 t) (View.ld (iblk m c 5 t) r0_1) (iblk m c 3 t) (View.ld (iblk m c 5 t) r0_2) (iblk m c 4 t) (ix2 a b) = H9 m c (ix3 p q b) := by
  pointwise [k0_pay1, H9, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5, Cert.Reference4Ideal.Read.val_main_v6, Cert.Reference4Ideal.Read.val_main_v7, Cert.Reference4Ideal.Read.val_main_v8, Cert.Reference4Ideal.Read.val_main_v9]
  refine congrArg₂ (· + ·) ?_ (congrArg₂ (· + ·) (Finset.sum_congr rfl fun x _ => ?_) (Finset.sum_congr rfl fun x _ => ?_))
  · exact blk4 m c t a b _ _ _ hr rfl
  · refine (congrArg (· * _) (mul_comm _ _)).trans ?_
    refine congrArg₂ (· * ·) (congrArg₂ (· * ·) ?_ (congrArg₂ (· + ·) ?_ ?_)) ?_
    · blk_point [iblk, V, idx t]
    · exact blk0 m c t a x _ _ _ hr rfl
    · exact blk1 m c t a x _ _ _ hr rfl
    · blk_point [iblk, V, idx t]
  · blk_point [iblk, V, idx t]

theorem row_lt (t : Fin cfg0.N) (a : Fin 512) : t.val * 512 + a.val < 32768 := by
  have := t.isLt
  have : cfg0.N = 64 := rfl
  omega

theorem final7 (c : Dev nD) : (dats m 0 c).arrAt 7 cfg0.N = H1 m c := by
  refine (dats m 0 c).arrAt_eq_of_covers 7 _ (by decide +kernel) fun t hf y => ?_
  blk_simp
  rw [after0_7]
  frame_out
  idx_vars y
  have hx : ((View.whole main_v7_0).slice (win0_7.rect t)).emb (ix2 y0 y1) = (ix2 (⟨t.val * 512 + y0.val, row_lt t y0⟩ : Fin 32768) y1 : S32768x2048.Idx) :=
    funext fun a => match a with
      | ⟨0, _⟩ => Fin.ext (emb7 t y0 y1).1
      | ⟨1, _⟩ => Fin.ext (emb7 t y0 y1).2
  rw [hx]
  refine (h1_at m c t y0 y1 ⟨(t.val * 512 + y0.val) / 8192, by have := row_lt t y0; omega⟩ ⟨(t.val * 512 + y0.val) % 8192, Nat.mod_lt _ (by norm_num)⟩ (Nat.div_add_mod' _ _)).trans ?_
  pointwise [H1, H9, Cert.Reference4Ideal.Read.val_main_v10]

/-- The second result, as the reference composes it of the arguments. -/
abbrev N2 (c : Dev nD) := Cert.Reference4Ideal.Read.val_main_v26 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem final8 (c : Dev nD) : (dats m 0 c).arrAt 8 cfg0.N = N2 m c := by
  refine (dats m 0 c).arrAt_eq_of_covers 8 _ (by decide +kernel) fun t hf y => ?_
  blk_simp
  rw [after0_8]
  frame_out
  idx_vars y
  have hx : ((View.whole main_v7_1).slice (win0_8.rect t)).emb (ix2 y0 y1) = (ix2 (⟨t.val * 512 + y0.val, row_lt t y0⟩ : Fin 32768) y1 : S32768x2048.Idx) :=
    funext fun a => match a with
      | ⟨0, _⟩ => Fin.ext (emb8 t y0 y1).1
      | ⟨1, _⟩ => Fin.ext (emb8 t y0 y1).2
  rw [hx]
  have e := fun b => h1_at m c t y0 b ⟨(t.val * 512 + y0.val) / 8192, by have := row_lt t y0; omega⟩ ⟨(t.val * 512 + y0.val) % 8192, Nat.mod_lt _ (by norm_num)⟩ (Nat.div_add_mod' _ _)
  pointwise [k0_pay2, N2, Cert.Reference4Ideal.Read.val_main_v11, Cert.Reference4Ideal.Read.val_main_v12, Cert.Reference4Ideal.Read.val_main_v13, Cert.Reference4Ideal.Read.val_main_v14, Cert.Reference4Ideal.Read.val_main_v15, Cert.Reference4Ideal.Read.val_main_v16, Cert.Reference4Ideal.Read.val_main_v17, Cert.Reference4Ideal.Read.val_main_v18, Cert.Reference4Ideal.Read.val_main_v19, Cert.Reference4Ideal.Read.val_main_v20, Cert.Reference4Ideal.Read.val_main_v21, Cert.Reference4Ideal.Read.val_main_v22, Cert.Reference4Ideal.Read.val_main_v23, Cert.Reference4Ideal.Read.val_main_v24, Cert.Reference4Ideal.Read.val_main_v25, Cert.Reference4Ideal.Read.val_main_v26, Cert.Reference4Ideal.Read.val_main_cst, Cert.Reference4Ideal.Read.val_main_cst_0, Cert.Reference4Ideal.Read.val_main_cst_1]
  refine congrArg₂ (· * ·) (congrArg₂ (· * ·) (e y1) (congrArg Ideal.rsqrt (congrArg (· + _) (congrArg (Ideal.div · _) (Finset.sum_congr rfl fun x _ => congrArg₂ (· * ·) (e x) (e x)))))) ?_
  blk_point [iblk, V, idx t]

end Cert.Kernel4Ideal.OutValue
-- ==== Proof.Gelu.lean ====
module

public import Idealize.ShloMosaic.Lib.Pipeline.ValueKit
public import Idealize.ShloMosaic.Lib.Pointwise

@[expose] public section

noncomputable section

/-! The cubic of the gelu, factored and unfactored. -/

namespace Cert.Gelu

open Idealize.ShloMosaic

theorem bits_c : Ideal.ofBits .f32 0x3F4C422A#32 = ((13386282 / 16777216 : ℝ) : EReal) := by
  simp [Ideal.ofBits, Ideal.ieee, -EReal.coe_mul]; norm_num

theorem bits_q : Ideal.ofBits .f32 0x3D372713#32 = ((12003091 / 268435456 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

/-- The argument of the hyperbolic tangent is the same at every extended real. -/
theorem cubic (x : EReal) (c q k : ℝ) (hc : 0 < c) (hq : 0 < q) (hk : k = c * q) :
    x * ((c : EReal) + (k : EReal) * (x * x)) = (c : EReal) * (x + (q : EReal) * (x * x * x)) := by
  have hk0 : 0 < k := hk ▸ mul_pos hc hq
  induction x with
  | bot => simp [EReal.coe_mul_bot_of_pos, EReal.coe_mul_top_of_pos, hc, hq, hk0]
  | top => simp [EReal.coe_mul_top_of_pos, hc, hq, hk0, EReal.coe_add_top, EReal.top_add_top]
  | coe x =>
    subst hk
    norm_cast
    ring

/-- A half taken out of the sum. -/
theorem half_sum (t : EReal) : ((1 / 2 : ℝ) : EReal) + ((1 / 2 : ℝ) : EReal) * t = ((1 / 2 : ℝ) : EReal) * (1 + t) := by
  rw [EReal.left_distrib_of_nonneg_of_ne_top (by norm_num [← EReal.coe_zero]) (EReal.coe_ne_top _), mul_one]

/-- The gelu with its halves taken in and its cubic factored. -/
theorem gelu_eq (k : EReal) (hk : k = ((80338380498831 / 2251799813685248 : ℝ) : EReal)) {x y : EReal} (h : x = y) :
    x * (Ideal.ofBits .f32 0x3F000000#32 + Ideal.ofBits .f32 0x3F000000#32 * Ideal.tanh (x * (Ideal.ofBits .f32 0x3F4C422A#32 + k * (x * x))))
      = y * (Ideal.ofBits .f32 0x3F000000#32 * (1 + Ideal.tanh (Ideal.ofBits .f32 0x3F4C422A#32 * (y + Ideal.ofBits .f32 0x3D372713#32 * (y * y * y))))) := by
  subst h hk
  rw [bits_half, bits_c, bits_q, half_sum, cubic x (13386282 / 16777216) (12003091 / 268435456) _ (by norm_num) (by norm_num) (by norm_num)]

/-- Twice the gelu, and the gelu times a doubled factor. -/
theorem twice_eq (k c g : EReal) (hk : k = ((80338380498831 / 2251799813685248 : ℝ) : EReal)) (hc : c = ((6693141 / 8388608 : ℝ) : EReal)) {x y : EReal} (h : x = y) :
    x * (1 + Ideal.tanh (x * (c + k * (x * x)))) * g
      = y * (Ideal.ofBits .f32 0x3F000000#32 * (1 + Ideal.tanh (Ideal.ofBits .f32 0x3F4C422A#32 * (y + Ideal.ofBits .f32 0x3D372713#32 * (y * y * y))))) * (((2 : ℝ) : EReal) * g) := by
  subst h hk hc
  rw [bits_half, bits_c, bits_q, cubic x (6693141 / 8388608) (12003091 / 268435456) _ (by norm_num) (by norm_num) (by norm_num)]
  rw [show (6693141 / 8388608 : ℝ) = 13386282 / 16777216 by norm_num]
  generalize 1 + Ideal.tanh _ = t
  rw [show x * (((1 / 2 : ℝ) : EReal) * t) * (((2 : ℝ) : EReal) * g) = (((1 / 2 : ℝ) : EReal) * ((2 : ℝ) : EReal)) * (x * t * g) by ac_rfl]
  rw [← EReal.coe_mul, show (1 / 2 * 2 : ℝ) = 1 by norm_num, EReal.coe_one, one_mul]

end Cert.Gelu
-- ==== Proof.MixIn.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Pipeline.ValueKit.Held
public import Idealize.ShloMosaic.Lib.Pipeline.ReadBack
public import proofs.«01_k».proof.Proof.Gelu
public import Idealize.ShloMosaic.Lib.Pipeline.ValueKit.Point

@[expose] public section

set_option maxRecDepth 16384

noncomputable section

/-! The input projection: the root-mean-square norm of a row, held over the four column blocks, times the weight; the
    last three column blocks through the gelu. -/

namespace Cert.Kernel2Ideal.MixValue

open Cert.Kernel2Ideal Cert.Kernel2Ideal.Gen Idealize.ShloMosaic Idealize.ShloMosaic.TcCoe Idealize.SL.Sem

/-- Where each window's block lies at a grid point. -/
theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

variable (m : (ℓ : Loc nD τ sig) → Buf (Elt Ideal) ℓ)

theorem V0 (c : Dev nD) : V m c main_v0 = shapeCast S32768x2048 (m ((c : Thread nD τ).loc main_arg0)) shapeCasts_S4x8192x2048_S32768x2048 := by
  entry_read
  rfl

theorem emb0 (t : Fin cfg0.N) (a : Fin 1024) (b : Fin 2048) : ((((cfg0.win 0).blk t).view.emb (ix2 a b)) 0).val = (t.val / 4) * 1024 + a.val
    ∧ ((((cfg0.win 0).blk t).view.emb (ix2 a b)) 1).val = 0 * 2048 + b.val := by
  have hi : win0_0.index t = ![(t.val / 4), 0] := by simp only [idx t]
  have e0 : ((((cfg0.win 0).blk t).view.emb (ix2 a b)) 0).val = win0_0.index t 0 * 1024 + a.val := win0_0.rect_emb_val t (ix2 a b) 0 rfl
  have e1 : ((((cfg0.win 0).blk t).view.emb (ix2 a b)) 1).val = win0_0.index t 1 * 2048 + b.val := win0_0.rect_emb_val t (ix2 a b) 1 rfl
  rw [hi] at e0 e1
  exact ⟨e0, e1⟩

theorem emb3 (t : Fin cfg0.N) (a : Fin 1024) (b : Fin 1024) : ((((cfg0.win 3).blk t).view.emb (ix2 a b)) 0).val = (t.val / 4) * 1024 + a.val
    ∧ ((((cfg0.win 3).blk t).view.emb (ix2 a b)) 1).val = (t.val % 4) * 1024 + b.val := by
  have hi : win0_3.index t = ![(t.val / 4), (t.val % 4)] := by simp only [idx t]
  have e0 : ((((cfg0.win 3).blk t).view.emb (ix2 a b)) 0).val = win0_3.index t 0 * 1024 + a.val := win0_3.rect_emb_val t (ix2 a b) 0 rfl
  have e1 : ((((cfg0.win 3).blk t).view.emb (ix2 a b)) 1).val = win0_3.index t 1 * 1024 + b.val := win0_3.rect_emb_val t (ix2 a b) 1 rfl
  rw [hi] at e0 e1
  exact ⟨e0, e1⟩

/-- The block of the flattened activations at a point, read from the activations themselves. -/
theorem blk0 (c : Dev nD) (t : Fin cfg0.N) (a : Fin 1024) (b : Fin 2048) (p : Fin 4) (q : Fin 8192)
    (h : p.val * 8192 + q.val = t.val / 4 * 1024 + a.val) :
    iblk m c 0 t (ix2 a b) = m ((c : Thread nD τ).loc main_arg0) (ix3 p q b) := by
  unfold iblk
  show V m c main_v0 _ = _
  rw [V0]
  refine shapeCast_apply _ _ _ _ ?_
  show (S4x8192x2048.rowMajor (ix3 p q b)).val = (S32768x2048.rowMajor _).val
  rw [Shape.rowMajor_val_three, Shape.rowMajor_val_two, (emb0 t a b).1, (emb0 t a b).2]
  show (p.val * 8192 + q.val) * 2048 + b.val = (t.val / 4 * 1024 + a.val) * 2048 + (0 * 2048 + b.val)
  omega

/-- The normed activations, as the reference composes them. -/
abbrev NX (c : Dev nD) := Cert.Reference2Ideal.Read.val_main_v13 (F := Ideal) (m ((c : Thread nD τ).loc main_arg0)) (m ((c : Thread nD τ).loc main_arg1))

/-- The result, as the reference composes it. -/
abbrev Z (c : Dev nD) := Cert.Reference2Ideal.Read.val_main_v32 (F := Ideal) (m ((c : Thread nD τ).loc main_arg0)) (m ((c : Thread nD τ).loc main_arg1)) (m ((c : Thread nD τ).loc main_arg2))

/-- A row of the normed block. -/
theorem norm_at (c : Dev nD) (t : Fin cfg0.N) (a : Fin 1024) (b : Fin 2048) (p : Fin 4) (q : Fin 8192)
    (h : p.val * 8192 + q.val = t.val / 4 * 1024 + a.val) :
    k0_pay1 (F := Ideal) (iblk m c 0 t) (iblk m c 1 t) (ix2 a b) = NX m c (ix3 p q b) := by
  have e := fun b => blk0 m c t a b p q h
  pointwise [k0_pay1, NX, Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_cst, Cert.Reference2Ideal.Read.val_main_cst_0, Cert.Reference2Ideal.Read.val_main_cst_1]
  refine congrArg₂ (· * ·) (congrArg₂ (· * ·) (e b) (congrArg Ideal.rsqrt (congrArg (· + _) (congrArg (Ideal.div · _) (Finset.sum_congr rfl fun x _ => congrArg₂ (· * ·) (e x) (e x)))))) ?_
  blk_point [iblk, V, idx t]

theorem scr_A (c : Dev nD) (t : Fin cfg0.N) (h : t.val % 4 = 0) : (outsAt0 m c t.val t.isLt).2 = k0_pay1 (F := Ideal) (iblk m c 0 t) (iblk m c 1 t) := by
  rw [outsAt0_A m c t h h (by omega)]
  frame_out

theorem scr_B (c : Dev nD) (t : Fin cfg0.N) (h : ¬t.val % 4 = 0) : (outsAt0 m c t.val t.isLt).2 = (outsAt0 m c (t.val - 1) (Nat.lt_of_le_of_lt (Nat.sub_le _ _) t.isLt)).2 := by
  rw [outsAt0_B m c t h h (by omega)]
  rfl

/-- The held scratch is the block's own norm at every point. -/
theorem scr (c : Dev nD) (t : Fin cfg0.N) : (outsAt0 m c t.val t.isLt).2 = k0_pay1 (F := Ideal) (iblk m c 0 ⟨4 * (t.val / 4), Pipeline.run_start_lt t⟩) (iblk m c 1 ⟨4 * (t.val / 4), Pipeline.run_start_lt t⟩) :=
  Pipeline.eq_of_write_hold (fun n h => (outsAt0 m c n h).2) 4 (fun t => k0_pay1 (F := Ideal) (iblk m c 0 t) (iblk m c 1 t)) (scr_A m c) (scr_B m c) t

theorem scr_at (c : Dev nD) (t : Fin cfg0.N) (a : Fin 1024) (b : Fin 2048) (p : Fin 4) (q : Fin 8192)
    (h : p.val * 8192 + q.val = t.val / 4 * 1024 + a.val) : (outsAt0 m c t.val t.isLt).2 (ix2 a b) = NX m c (ix3 p q b) := by
  rw [scr]
  exact norm_at m c _ a b p q (by show _ = 4 * (t.val / 4) / 4 * 1024 + _; omega)

theorem out_A (c : Dev nD) (t : Fin cfg0.N) (h : t.val % 4 = 0) : (outsAt0 m c t.val t.isLt).1 = k0_pay2 (F := Ideal) (outsAt0 m c t.val t.isLt).2 (iblk m c 2 t) := by
  rw [scr_A m c t h, outsAt0_A m c t h h (by omega)]
  frame_out

theorem out_B (c : Dev nD) (t : Fin cfg0.N) (h : ¬t.val % 4 = 0) : (outsAt0 m c t.val t.isLt).1 = k0_pay3 (F := Ideal) (outsAt0 m c t.val t.isLt).2 (iblk m c 2 t) := by
  rw [scr_B m c t h, outsAt0_B m c t h h (by omega)]
  frame_out
  simp only [read_unread_whole]

/-- The weight's column block, read from the weight. -/
theorem blk2 (c : Dev nD) (t : Fin cfg0.N) (a : Fin 2048) (b : Fin 1024) (col : Fin 4096) (h : col.val = t.val % 4 * 1024 + b.val) :
    iblk m c 2 t (ix2 a b) = m ((c : Thread nD τ).loc main_arg2) (ix3 0 a col) := by
  blk_point [iblk, V, idx t]

theorem final3 (c : Dev nD) : (dats m 0 c).arrAt 3 cfg0.N = Z m c := by
  refine (dats m 0 c).arrAt_eq_of_covers 3 _ (by decide +kernel) fun t hf y => ?_
  blk_simp
  rw [after0_3]
  idx_vars y
  have hN : t.val < 128 := t.isLt
  have hr : t.val / 4 * 1024 + y0.val < 32768 := by omega
  have hc : t.val % 4 * 1024 + y1.val < 4096 := by omega
  have hx : ((View.whole main_v5).slice (win0_3.rect t)).emb (ix2 y0 y1) = (ix2 (⟨t.val / 4 * 1024 + y0.val, hr⟩ : Fin 32768) (⟨t.val % 4 * 1024 + y1.val, hc⟩ : Fin 4096) : S32768x4096.Idx) :=
    funext fun a => match a with
      | ⟨0, _⟩ => Fin.ext (emb3 t y0 y1).1
      | ⟨1, _⟩ => Fin.ext (emb3 t y0 y1).2
  rw [hx]
  have e := fun b => scr_at m c t y0 b ⟨(t.val / 4 * 1024 + y0.val) / 8192, by omega⟩ ⟨(t.val / 4 * 1024 + y0.val) % 8192, Nat.mod_lt _ (by norm_num)⟩ (Nat.div_add_mod' _ _)
  by_cases h : t.val % 4 = 0
  · rw [out_A m c t h]
    generalize (outsAt0 m c t.val t.isLt).2 = S at e
    pointwise [k0_pay2, Z, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_cst_2, Cert.Reference2Ideal.Read.val_main_cst_3, Cert.Reference2Ideal.Read.val_main_cst_4, Cert.Reference2Ideal.Read.val_main_cst_5]
    refine Eq.trans ?_ (dif_pos (by omega)).symm
    show (_ : EReal) = _
    exact Finset.sum_congr rfl fun x _ => congrArg₂ (· * ·) (e x) (blk2 m c t x y1 _ (by first | rfl | (simp only []; omega)))
  · rw [out_B m c t h]
    generalize (outsAt0 m c t.val t.isLt).2 = S at e
    pointwise [k0_pay2, k0_pay3, Z, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_cst_2, Cert.Reference2Ideal.Read.val_main_cst_3, Cert.Reference2Ideal.Read.val_main_cst_4, Cert.Reference2Ideal.Read.val_main_cst_5]
    refine Eq.trans ?_ (dif_neg (by omega)).symm
    exact Cert.Gelu.gelu_eq _ (IdealRules.named_const.ideal_named_scalar _ _ _ _ rfl)
      (Finset.sum_congr rfl fun x _ => congrArg₂ (· * ·) (e x) (blk2 m c t x y1 _ (by show 1024 + (_ - 1024) = _; omega)))

end Cert.Kernel2Ideal.MixValue
-- ==== Proof.Experts.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Pipeline.ValueKit.Held
public import Idealize.ShloMosaic.Lib.Pipeline.ReadBack
public import Idealize.ShloMosaic.Lib.WritesUnit
public import Idealize.ShloMosaic.Lib.WholeRead
public import Idealize.ShloMosaic.Lib.Pipeline.ValueKit.Point
public import proofs.«01_k».proof.Proof.Gelu

@[expose] public section

set_option maxRecDepth 16384

noncomputable section

/-! The experts' products: at each grid point a thousand experts, added to what the point before left. -/

namespace Cert.Kernel3Ideal.Experts

open Cert.Kernel3Ideal Cert.Kernel3Ideal.Gen Idealize.ShloMosaic Idealize.ShloMosaic.TcCoe Idealize.SL.Sem

/-- What the kernel has of one expert: its product through twice the gelu, times the gate. -/
def wt (k s p g : EReal) : EReal := p * (1 + Ideal.tanh (p * (s + k * (p * p)))) * g

/-- The named constants. -/
abbrev kc : EReal := Named.named (F := Ideal) (φ := .bf16) κ "cubic" 0x3D12#16
abbrev ks : EReal := Named.named (F := Ideal) (φ := .bf16) κ "scale" 0x3F4C#16

/-- A block's experts at one entry. -/
def part (x0 x1 x2 : Vec Ideal S1024x2048 .bf16) (x3 : Vec Ideal S1024x1024 .bf16) (r : Fin 1024) (d : Fin 2048) (e : Fin 1024) : EReal :=
  wt kc ks (∑ j : Fin 2048, x0 (ix2 r j) * x1 (ix2 e j) : EReal) (x3 (ix2 r e)) * x2 (ix2 e d)

/-- The block after a point's experts are added, before the residual rows. -/
abbrev whole (x0 x1 x2 : Vec Ideal S1024x2048 .bf16) (x3 : Vec Ideal S1024x1024 .bf16) (prev : Vec Ideal S1024x2048 .f32) : FVec Ideal S1024x2048 .f32 :=
  k0_pay1 (F := Ideal)
    (k0_pay5 x0 (View.ld x1 (Rect.unit (s := S1024x2048) ![0, 0] S512x2048.size inb_S1024x2048_S512x2048_0_0))
      (View.ld x3 (Rect.unit (s := S1024x1024) ![0, 0] S1024x512.size inb_S1024x1024_S1024x512_0_0))
      (View.ld x2 (Rect.unit (s := S1024x2048) ![0, 0] S512x2048.size inb_S1024x2048_S512x2048_0_0)))
    (k0_pay6 x0 (View.ld x1 (Rect.unit (s := S1024x2048) ![512, 0] S512x2048.size inb_S1024x2048_S512x2048_512_0)))
    (k0_pay7 x0 (View.ld x1 (Rect.unit (s := S1024x2048) ![512, 0] S512x2048.size inb_S1024x2048_S512x2048_512_0)))
    (View.ld x3 (Rect.unit (s := S1024x1024) ![0, 512] S1024x512.size inb_S1024x1024_S1024x512_0_512))
    (View.ld x2 (Rect.unit (s := S1024x2048) ![512, 0] S512x2048.size inb_S1024x2048_S512x2048_512_0)) prev

theorem whole_at (x0 x1 x2 : Vec Ideal S1024x2048 .bf16) (x3 : Vec Ideal S1024x1024 .bf16) (prev : Vec Ideal S1024x2048 .f32) (r : Fin 1024) (d : Fin 2048) :
    whole x0 x1 x2 x3 prev (ix2 r d) = (prev (ix2 r d) + ∑ e : Fin 1024, part x0 x1 x2 x3 r d e : EReal) := by
  pointwise [whole, k0_pay1, k0_pay5, k0_pay6, k0_pay7]
  refine congrArg (prev (ix2 r d) + ·) ?_
  exact (Fin.sum_univ_two_halves 512 512 rfl (fun e => part x0 x1 x2 x3 r d e)).symm

/-- The residual rows, added where a point has them. -/
def rows (i : grid0.Coords) (x4 : Vec Ideal S64x2048 .f32) (r : Fin 1024) (d : Fin 2048) : EReal :=
  if h : 64 * (i 1).val ≤ r.val ∧ r.val < 64 * (i 1).val + 64 then x4 (ix2 (⟨r.val - 64 * (i 1).val, by omega⟩ : Fin 64) d) else 0

theorem slice_at (i : grid0.Coords) (w : Vec Ideal S1024x2048 .f32) (x4 : Vec Ideal S64x2048 .f32) (L : List (View.Piece (Elt Ideal) S1024x2048 .f32)) (r : Fin 1024) (d : Fin 2048) :
    View.canon ((⟨Rect.unit (s := S1024x2048) (k0_off1 i) S64x2048.size (k0_off1_inb i), k0_pay2 (F := Ideal) (View.ld w (Rect.unit (s := S1024x2048) (k0_off1 i) S64x2048.size (k0_off1_inb i))) x4⟩ : View.Piece (Elt Ideal) S1024x2048 .f32)
      :: (⟨Rect.unit (s := S1024x2048) ![0, 0] S1024x2048.size inb_S1024x2048_S1024x2048_0_0, w⟩ : View.Piece (Elt Ideal) S1024x2048 .f32) :: L) (ix2 r d)
      = (w (ix2 r d) + rows i x4 r d : EReal) := by
  unfold rows
  have ho := k0_off1_eq i
  split
  · rename_i h
    have hy : (Rect.unit (s := S1024x2048) (k0_off1 i) S64x2048.size (k0_off1_inb i)).emb (ix2 (⟨r.val - 64 * (i 1).val, by omega⟩ : Fin 64) d) = ix2 r d := funext fun a => match a with
      | ⟨0, _⟩ => Fin.ext (by
          show k0_off1 i 0 + 1 * (r.val - 64 * (i 1).val) = r.val
          rw [ho]
          show 64 * (i 1).val + 1 * (r.val - 64 * (i 1).val) = r.val
          omega)
      | ⟨1, _⟩ => Fin.ext (by
          show k0_off1 i 1 + 1 * d.val = d.val
          rw [ho]
          show 0 + 1 * d.val = d.val
          omega)
    rw [← hy, View.canon_cons_emb]
    pointwise [k0_pay2]
    refine congrArg (· + _) (congrArg w (funext fun a => match a with
      | ⟨0, _⟩ => Fin.ext (by
          show k0_off1 i 0 + (r.val - 64 * (i 1).val) = k0_off1 i 0 + 1 * (r.val - 64 * (i 1).val)
          omega)
      | ⟨1, _⟩ => Fin.ext (by
          show k0_off1 i 1 + d.val = k0_off1 i 1 + 1 * d.val
          omega)))
  · rename_i h
    rw [View.canon_cons_of_not_mem, View.canon_cons_unit_lit _ _ _ (by decide)]
    · exact (add_zero (w (ix2 r d) : EReal)).symm
    · intro hm
      have hm' : ix2 r d ∈ (Rect.unit (s := S1024x2048) (k0_off1 i) S64x2048.size (k0_off1_inb i)).set := hm
      have e := (Rect.mem_set_unit (inb := k0_off1_inb i)).mp hm' 0
      rw [ho] at e
      have e1 : 64 * (i 1).val ≤ r.val := e.1
      have e2 : r.val < 64 * (i 1).val + 64 := e.2
      exact h ⟨e1, e2⟩

variable (m : (ℓ : Loc nD τ sig) → Buf (Elt Ideal) ℓ) (c : Dev nD) (t : Fin cfg0.N)

/-- A point's sum, from what the point before left. -/
def sumAt (prev : Vec Ideal S1024x2048 .f32) : Vec Ideal S1024x2048 .f32 := fun y =>
  (prev y + (∑ e : Fin 1024, part (iblk m c 0 t) (iblk m c 1 t) (iblk m c 2 t) (iblk m c 3 t) (y 0) (y 1) e + rows (grid0.coords t) (iblk m c 4 t) (y 0) (y 1)) : EReal)

theorem sumAt_eq (prev : Vec Ideal S1024x2048 .f32) (L : List (View.Piece (Elt Ideal) S1024x2048 .f32)) :
    View.canon ((⟨Rect.unit (s := S1024x2048) (k0_off1 (grid0.coords t)) S64x2048.size (k0_off1_inb (grid0.coords t)), k0_pay2 (F := Ideal) (View.ld (whole (iblk m c 0 t) (iblk m c 1 t) (iblk m c 2 t) (iblk m c 3 t) prev) (Rect.unit (s := S1024x2048) (k0_off1 (grid0.coords t)) S64x2048.size (k0_off1_inb (grid0.coords t)))) (iblk m c 4 t)⟩ : View.Piece (Elt Ideal) S1024x2048 .f32)
      :: (⟨Rect.unit (s := S1024x2048) ![0, 0] S1024x2048.size inb_S1024x2048_S1024x2048_0_0, whole (iblk m c 0 t) (iblk m c 1 t) (iblk m c 2 t) (iblk m c 3 t) prev⟩ : View.Piece (Elt Ideal) S1024x2048 .f32) :: L)
      = sumAt m c t prev := by
  funext y
  obtain ⟨r, d, rfl⟩ : ∃ (r : Fin 1024) (d : Fin 2048), y = ix2 r d := ⟨y 0, y 1, funext fun a => match a with | ⟨0, _⟩ => rfl | ⟨1, _⟩ => rfl⟩
  rw [slice_at, whole_at]
  exact add_assoc _ _ _

theorem out_B (h0 : ¬t.val % 16 = 0) (h1 : ¬t.val % 16 = 15) : outsAt0 m c t.val t.isLt = sumAt m c t (outsAt0 m c (t.val - 1) (Nat.lt_of_le_of_lt (Nat.sub_le _ _) t.isLt)) := by
  rw [outsAt0_B m c t h0 h1]
  frame_out
  exact sumAt_eq m c t _ _

theorem out_C (h0 : ¬t.val % 16 = 0) (h1 : t.val % 16 = 15) : outsAt0 m c t.val t.isLt = k0_pay3 (F := Ideal) (sumAt m c t (outsAt0 m c (t.val - 1) (Nat.lt_of_le_of_lt (Nat.sub_le _ _) t.isLt))) (iblk m c 5 t) := by
  rw [outsAt0_C m c t h0 h1]
  frame_out
  rw [View.readCov_eq_canon', sumAt_eq m c t]
  refine congrArg (fun w => k0_pay3 (F := Ideal) w (iblk m c 5 t)) ?_
  exact View.ld_unit_lit _ _ (by decide)

theorem out_A (h0 : t.val % 16 = 0) (h1 : ¬t.val % 16 = 15) : outsAt0 m c t.val t.isLt = sumAt m c t (k0_pay4 (F := Ideal)) := by
  rw [outsAt0_A m c t h0 h1]
  frame_out
  exact sumAt_eq m c t _ _

theorem lt512 : t.val < 512 := lt_of_lt_of_eq t.isLt (show cfg0.N = 512 from N_0)

/-- Where each window's block lies at a grid point. -/
theorem idx : ∀ t : Fin cfg0.N, win0_0.index t = ![t.val / 16, 0] ∧ win0_1.index t = ![t.val % 16, 0] ∧ win0_2.index t = ![t.val % 16, 0]
    ∧ win0_3.index t = ![t.val / 16, t.val % 16] ∧ win0_4.index t = ![t.val, 0] ∧ win0_5.index t = ![0, 0] ∧ win0_6.index t = ![t.val / 16, 0] ∧ ((grid0.coords t) 1).val = t.val % 16 :=
  (by decide +kernel : ∀ t : Fin grid0.N, _)

theorem blk0 (a : Fin 1024) (b : Fin 2048) (R : Fin 32768) (h : R.val = t.val / 16 * 1024 + a.val) :
    iblk m c 0 t (ix2 a b) = m ((c : Thread nD τ).loc main_arg0) (ix2 R b) := by
  blk_point [iblk, V, idx t]

theorem blk1 (a : Fin 1024) (b : Fin 2048) (R : Fin 16384) (h : R.val = t.val % 16 * 1024 + a.val) :
    iblk m c 1 t (ix2 a b) = m ((c : Thread nD τ).loc main_arg1) (ix3 0 R b) := by
  blk_point [iblk, V, idx t]

theorem blk2 (a : Fin 1024) (b : Fin 2048) (R : Fin 16384) (h : R.val = t.val % 16 * 1024 + a.val) :
    iblk m c 2 t (ix2 a b) = m ((c : Thread nD τ).loc main_arg2) (ix3 0 R b) := by
  blk_point [iblk, V, idx t]

theorem blk3 (a : Fin 1024) (b : Fin 1024) (R : Fin 32768) (C : Fin 16384) (h : R.val = t.val / 16 * 1024 + a.val) (h' : C.val = t.val % 16 * 1024 + b.val) :
    iblk m c 3 t (ix2 a b) = m ((c : Thread nD τ).loc main_arg3) (ix2 R C) := by
  blk_point [iblk, V, idx t]

theorem blk4 (a : Fin 64) (b : Fin 2048) (R : Fin 32768) (h : R.val = t.val * 64 + a.val) :
    iblk m c 4 t (ix2 a b) = m ((c : Thread nD τ).loc main_arg4) (ix2 R b) := by
  blk_point [iblk, V, idx t]

theorem blk5 (b : Fin 2048) :
    iblk m c 5 t (ix2 0 b) = m ((c : Thread nD τ).loc main_arg5) (ix1 b) := by
  blk_point [iblk, V, idx t]

/-- The residual sum, as the reference composes it. -/
abbrev H (c : Dev nD) := Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The result, as the reference composes it. -/
abbrev Z (c : Dev nD) := Cert.Reference3Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem two_word : Ideal.ofBits .f32 0x40000000#32 = ((2 : ℝ) : EReal) := by
  simp [Ideal.ofBits, Ideal.ieee, -EReal.coe_mul]; norm_num

theorem wt_of (k q p g : EReal) (hk : k = ((80338380498831 / 2251799813685248 : ℝ) : EReal)) (hq : q = ((6693141 / 8388608 : ℝ) : EReal)) :
    p * (Ideal.ofBits .f32 0x3F000000#32 * (1 + Ideal.tanh (Ideal.ofBits .f32 0x3F4C422A#32 * (p + Ideal.ofBits .f32 0x3D372713#32 * (p * p * p))))) * (Ideal.ofBits .f32 0x40000000#32 * g)
      = wt k q p g := by
  rw [two_word]
  exact (Cert.Gelu.twice_eq k q g hk hq rfl).symm

theorem kc_eq : kc = ((80338380498831 / 2251799813685248 : ℝ) : EReal) := IdealRules.named_const.ideal_named_scalar _ _ _ _ rfl

theorem ks_eq : ks = ((6693141 / 8388608 : ℝ) : EReal) := IdealRules.named_const.ideal_named_scalar _ _ _ _ rfl

/-- One expert's activation, its gate and its output weight. -/
def dotOf (a0 : S32768x2048.Idx → EReal) (a1 : S1x16384x2048.Idx → EReal) (R : Fin 32768) (E : Fin 16384) : EReal :=
  ∑ j : Fin 2048, a0 (ix2 R j) * a1 (ix3 0 E j)
def gateOf (a3 : S32768x16384.Idx → EReal) (R : Fin 32768) (E : Fin 16384) : EReal := a3 (ix2 R E)
def downOf (a2 : S1x16384x2048.Idx → EReal) (d : Fin 2048) (E : Fin 16384) : EReal := a2 (ix3 0 E d)

theorem sum_of (h : EReal) (P G D : Fin 16384 → EReal) :
    h + ∑ x, P x * (Ideal.ofBits .f32 0x3F000000#32 * (1 + Ideal.tanh (Ideal.ofBits .f32 0x3F4C422A#32 * (P x + Ideal.ofBits .f32 0x3D372713#32 * (P x * P x * P x))))) * (Ideal.ofBits .f32 0x40000000#32 * G x) * D x
      = h + ∑ E, wt kc ks (P E) (G E) * D E := by
  refine congrArg (h + ·) (Finset.sum_congr rfl fun E _ => ?_)
  rw [wt_of kc ks _ _ kc_eq ks_eq]

/-- One expert's share of the sum. -/
def shareOf (a0 : S32768x2048.Idx → EReal) (a1 a2 : S1x16384x2048.Idx → EReal) (a3 : S32768x16384.Idx → EReal) (R : Fin 32768) (d : Fin 2048) (E : Fin 16384) : EReal :=
  wt kc ks (∑ j : Fin 2048, a0 (ix2 R j) * a1 (ix3 0 E j)) (a3 (ix2 R E)) * a2 (ix3 0 E d)

abbrev share (R : Fin 32768) (d : Fin 2048) (E : Fin 16384) : EReal :=
  shareOf (m ((c : Thread nD τ).loc main_arg0)) (m ((c : Thread nD τ).loc main_arg1)) (m ((c : Thread nD τ).loc main_arg2)) (m ((c : Thread nD τ).loc main_arg3)) R d E

/-- The residual stream. -/
def resid (R : Fin 32768) (d : Fin 2048) : EReal := m ((c : Thread nD τ).loc main_arg4) (ix2 R d)

theorem ref_at (R : Fin 32768) (d : Fin 2048) : H m c (ix2 R d) = (resid m c R d + ∑ E : Fin 16384, share m c R d E : EReal) := by
  pointwise [H, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_v6, Cert.Reference3Ideal.Read.val_main_v7, Cert.Reference3Ideal.Read.val_main_v8, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_v19, Cert.Reference3Ideal.Read.val_main_v20, Cert.Reference3Ideal.Read.val_main_v21, Cert.Reference3Ideal.Read.val_main_v22, Cert.Reference3Ideal.Read.val_main_cst, Cert.Reference3Ideal.Read.val_main_cst_0, Cert.Reference3Ideal.Read.val_main_cst_1, Cert.Reference3Ideal.Read.val_main_cst_2, Cert.Reference3Ideal.Read.val_main_cst_3]
  exact sum_of (resid m c R d) (dotOf (m ((c : Thread nD τ).loc main_arg0)) (m ((c : Thread nD τ).loc main_arg1)) R) (gateOf (m ((c : Thread nD τ).loc main_arg3)) R) (downOf (m ((c : Thread nD τ).loc main_arg2)) d)

theorem pay3_at (w : Vec Ideal S1024x2048 .f32) (r : Fin 1024) (d : Fin 2048) (R : Fin 32768) (hw : ∀ d, w (ix2 r d) = H m c (ix2 R d)) :
    k0_pay3 (F := Ideal) w (iblk m c 5 t) (ix2 r d) = Z m c (ix2 R d) := by
  unfold H at hw
  pointwise [k0_pay3, Z, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34, Cert.Reference3Ideal.Read.val_main_v35, Cert.Reference3Ideal.Read.val_main_cst_4, Cert.Reference3Ideal.Read.val_main_cst_5, Cert.Reference3Ideal.Read.val_main_cst_6]
  exact congrArg₂ (· * ·) (congrArg₂ (· * ·) (hw d) (congrArg Ideal.rsqrt (congrArg (· + _) (congrArg (Ideal.div · _) (Finset.sum_congr rfl fun x _ => congrArg₂ (· * ·) (hw x) (hw x)))))) (blk5 m c t d)

/-- The sum at a point before the norm. -/
def acc (n : ℕ) (hn : n < cfg0.N) : S1024x2048.Idx → EReal :=
  if n % 16 = 15 then sumAt m c ⟨n, hn⟩ (outsAt0 m c (n - 1) (Nat.lt_of_le_of_lt (Nat.sub_le _ _) hn)) else outsAt0 m c n hn

/-- What one point adds. -/
def term (t : Fin cfg0.N) (y : S1024x2048.Idx) : EReal :=
  ∑ e : Fin 1024, part (iblk m c 0 t) (iblk m c 1 t) (iblk m c 2 t) (iblk m c 3 t) (y 0) (y 1) e + rows (grid0.coords t) (iblk m c 4 t) (y 0) (y 1)

theorem acc_A (h : t.val % 16 = 0) (y : S1024x2048.Idx) : acc m c t.val t.isLt y = (fun _ => (0 : EReal)) y + term m c t y := by
  unfold acc
  rw [if_neg (by omega), out_A m c t h (by omega)]
  show (k0_pay4 (F := Ideal) y + term m c t y : EReal) = _
  refine congrArg (· + term m c t y) ?_
  show Ideal.ofBits .f32 0x00000000#32 = 0
  simp [Ideal.ofBits, Ideal.ieee]

theorem acc_S (h : ¬t.val % 16 = 0) (y : S1024x2048.Idx) : acc m c t.val t.isLt y = acc m c (t.val - 1) (Nat.lt_of_le_of_lt (Nat.sub_le _ _) t.isLt) y + term m c t y := by
  have hp : acc m c (t.val - 1) (Nat.lt_of_le_of_lt (Nat.sub_le _ _) t.isLt) = outsAt0 m c (t.val - 1) (Nat.lt_of_le_of_lt (Nat.sub_le _ _) t.isLt) := if_neg (by omega)
  rw [hp]
  unfold acc
  split
  · rfl
  · rename_i h1
    rw [out_B m c t h h1]
    rfl

theorem acc_flush (h : t.val % 16 = 15) (y : S1024x2048.Idx) : acc m c t.val t.isLt y = ∑ s : Fin 16, term m c ⟨16 * (t.val / 16) + s.val, Pipeline.run_point_lt_of_flush t h s⟩ y := by
  rw [Pipeline.eq_sum_fin_of_reset_step_apply_of_flush (fun n hn => acc m c n hn) 16 (fun _ => 0) (term m c) (acc_A m c) (acc_S m c) t h y]
  exact zero_add _

theorem part_at (r : Fin 1024) (d : Fin 2048) (e : Fin 1024) (R : Fin 32768) (E : Fin 16384) (h : R.val = t.val / 16 * 1024 + r.val) (h' : E.val = t.val % 16 * 1024 + e.val) :
    part (iblk m c 0 t) (iblk m c 1 t) (iblk m c 2 t) (iblk m c 3 t) r d e = share m c R d E := by
  unfold part share shareOf
  refine congrArg₂ (· * ·) (congrArg₂ (wt kc ks) (Finset.sum_congr rfl fun j _ => congrArg₂ (· * ·) (blk0 m c t r j R h) (blk1 m c t e j E h')) (blk3 m c t r e R E h h')) (blk2 m c t e d E h')

theorem rows_at (r : Fin 1024) (d : Fin 2048) (R : Fin 32768) (h : R.val = t.val / 16 * 1024 + r.val) :
    rows (grid0.coords t) (iblk m c 4 t) r d = if r.val / 64 = t.val % 16 then resid m c R d else (0 : EReal) := by
  have hc : ((grid0.coords t) 1).val = t.val % 16 := (idx t).2.2.2.2.2.2.2
  unfold rows
  by_cases hr : r.val / 64 = t.val % 16
  · rw [if_pos hr, dif_pos (by rw [hc]; omega)]
    exact blk4 m c t _ d R (by show R.val = t.val * 64 + (r.val - 64 * ((grid0.coords t) 1).val); rw [hc]; omega)
  · rw [if_neg hr, dif_neg (by rw [hc]; omega)]

theorem acc_eq (h : t.val % 16 = 15) (r : Fin 1024) (d : Fin 2048) (R : Fin 32768) (hR : R.val = t.val / 16 * 1024 + r.val) :
    acc m c t.val t.isLt (ix2 r d) = H m c (ix2 R d) := by
  rw [acc_flush m c t h, ref_at]
  have hr := r.isLt
  have e1 : ∀ s : Fin 16, term m c ⟨16 * (t.val / 16) + s.val, Pipeline.run_point_lt_of_flush t h s⟩ (ix2 r d)
      = (∑ e : Fin 1024, share m c R d ⟨s.val * 1024 + e.val, by have := s.isLt; have := e.isLt; omega⟩ + (if s = (⟨r.val / 64, by omega⟩ : Fin 16) then resid m c R d else (0 : EReal)) : EReal) := fun s => by
    have hs := s.isLt
    have hd : (16 * (t.val / 16) + s.val) / 16 = t.val / 16 := by omega
    have hm : (16 * (t.val / 16) + s.val) % 16 = s.val := by omega
    unfold term
    refine congrArg₂ (· + ·) (Finset.sum_congr rfl fun e _ => ?_) ?_
    · exact part_at m c _ r d e R _ (by show R.val = (16 * (t.val / 16) + s.val) / 16 * 1024 + r.val; rw [hd]; exact hR) (by show s.val * 1024 + e.val = (16 * (t.val / 16) + s.val) % 16 * 1024 + e.val; rw [hm])
    · refine (rows_at m c _ r d R (by show R.val = (16 * (t.val / 16) + s.val) / 16 * 1024 + r.val; rw [hd]; exact hR)).trans ?_
      refine if_congr ?_ rfl rfl
      show r.val / 64 = (16 * (t.val / 16) + s.val) % 16 ↔ _
      rw [hm, Fin.ext_iff]
      exact eq_comm
  rw [Finset.sum_congr rfl fun s _ => e1 s, Finset.sum_add_distrib, Finset.sum_ite_eq' Finset.univ, if_pos (Finset.mem_univ _), add_comm]
  refine congrArg (resid m c R d + ·) ?_
  exact Fin.sum_mul_add_fin 16 1024 (fun E => share m c R d E) rfl

theorem final6 : (dats m 0 c).arrAt 6 cfg0.N = Z m c := by
  refine (dats m 0 c).arrAt_eq_of_covers 6 _ (by decide +kernel) fun t hf y => ?_
  blk_simp
  rw [after0_6]
  idx_vars y
  have h15 : t.val % 16 = 15 := (flush0_6 t).mp hf
  have hN := lt512 t
  have hr : t.val / 16 * 1024 + y0.val < 32768 := by omega
  have hi : win0_6.index t = ![t.val / 16, 0] := by simp only [idx t]
  have e0 := win0_6.rect_emb_val t (ix2 y0 y1) 0 rfl
  have e1 := win0_6.rect_emb_val t (ix2 y0 y1) 1 rfl
  rw [hi] at e0 e1
  have hx : ((View.whole main_v5).slice (win0_6.rect t)).emb (ix2 y0 y1) = (ix2 (⟨t.val / 16 * 1024 + y0.val, hr⟩ : Fin 32768) y1 : S32768x2048.Idx) :=
    funext fun a => match a with
      | ⟨0, _⟩ => Fin.ext e0
      | ⟨1, _⟩ => Fin.ext (e1.trans (by show 0 * 2048 + y1.val = y1.val; omega))
  rw [hx, out_C m c t (by omega) h15]
  have ea : acc m c t.val t.isLt = sumAt m c t (outsAt0 m c (t.val - 1) (Nat.lt_of_le_of_lt (Nat.sub_le _ _) t.isLt)) := if_pos h15
  refine pay3_at m c t _ y0 y1 _ fun d => ?_
  rw [← ea]
  exact acc_eq m c t h15 y0 d _ rfl

end Cert.Kernel3Ideal.Experts
-- ==== Proof.Gmlp.lean ====
module

public import proofs.«01_k».proof.Proof.Gen.Kernel5Ideal.Value
public import Idealize.ShloMosaic.Lib.Pipeline.ValueKit
public import Idealize.ShloMosaic.Lib.Pointwise
public import Idealize.ShloMosaic.Lib.Pipeline.ValueKit.Tiles

@[expose] public section

set_option maxRecDepth 16384

noncomputable section

/-! One block of the gating unit: each of its eight chunks of rows is the block's own formula at a place. -/

namespace Cert.Kernel5Ideal.Gmlp

open Cert.Kernel5Ideal Cert.Kernel5Ideal.Gen Idealize.ShloMosaic Idealize.ShloMosaic.TcCoe Idealize.SL.Sem

/-- The head a column belongs to. -/
def headOf (C : Fin 1024) : Fin 8 := ⟨C.val / 128, by omega⟩

/-- One head's product at a row of a chunk whose rows lie at `R`. -/
def dotAt (x4 : S8x128x128.Idx → EReal) (v : S1024x1024.Idx → EReal) (R : Fin 128 → Fin 1024) (p : Fin 128) (h : Fin 8) (C : Fin 1024) : EReal :=
  ∑ q : Fin 128, x4 (ix3 h p q) * v (ix2 (R q) C)

/-- The gated mix at one place of a block. -/
def mixAt (x0 : S1024x1024.Idx → EReal) (v : S1024x1024.Idx → EReal) (x4 : S8x128x128.Idx → EReal) (x5 : S128x1024.Idx → EReal)
    (R : Fin 128 → Fin 1024) (p : Fin 128) (h : Fin 8) (C : Fin 1024) : EReal :=
  x0 (ix2 (R p) C) * (dotAt x4 v R p h C + x5 (ix2 p C))

theorem piece0 (x0 : Vec Ideal S1024x1024 .f32) (x1 : Vec Ideal S1024x1024 .f32) (x2 x3 : Vec Ideal S1x1024 .f32) (v : FVec Ideal S1024x1024 .bf16) (hv : k0_pay2 (F := Ideal) (View.ld x1 r0_0) (View.ld x2 r0_1) (View.ld x3 r0_1) = v) (x4 : Vec Ideal S8x128x128 .bf16) (x5 : Vec Ideal S128x1024 .f32)
    (p : Fin 128) (C : Fin 1024) :
    k0_pay7 (F := Ideal) v (k0_pay3 (View.ld x1 r0_0) (View.ld x2 r0_1) (View.ld x3 r0_1) (View.ld x4 r0_2)) (k0_pay4 (View.ld x1 r0_0) (View.ld x2 r0_1) (View.ld x3 r0_1) (View.ld x4 r0_3)) (k0_pay5 (View.ld x4 r0_4)) (k0_pay6 (View.ld x1 r0_0) (View.ld x2 r0_1) (View.ld x3 r0_1)) (View.ld x4 r0_5) (View.ld x4 r0_6) (View.ld x4 r0_7) (View.ld x4 r0_8) (View.ld x4 r0_9) (View.ld x0 r0_10) (View.ld x5 r0_11) (ix2 p C)
      = mixAt x0 v x4 x5 (fun q => ⟨q.val, by omega⟩) p (headOf C) C := by
  unfold k0_pay3 k0_pay4 k0_pay6
  rw [hv]
  pointwise [k0_pay5, k0_pay7]
  refine congrArg (x0 _ * ·) (congrArg (· + x5 _) ?_)
  split_ifs <;> exact congrArg₂ (fun (h : Fin 8) (C : Fin 1024) => dotAt x4 v (fun q => ⟨q.val, by omega⟩) p h C) (Fin.ext (by show _ = C.val / 128; first | omega | (simp; omega))) (Fin.ext (by first | rfl | (show _ = C.val; dsimp only; omega)))

theorem piece1 (x0 : Vec Ideal S1024x1024 .f32) (v : FVec Ideal S1024x1024 .bf16) (x4 : Vec Ideal S8x128x128 .bf16) (x5 : Vec Ideal S128x1024 .f32)
    (p : Fin 128) (C : Fin 1024) :
    k0_pay17 (F := Ideal) (k0_pay8 v (View.ld x4 r0_2)) (k0_pay9 v (View.ld x4 r0_3)) (k0_pay10 v (View.ld x4 r0_4)) (k0_pay11 v (View.ld x4 r0_5)) (k0_pay12 v (View.ld x4 r0_6)) (k0_pay13 v (View.ld x4 r0_7)) (k0_pay14 v (View.ld x4 r0_8)) (k0_pay15 (View.ld x4 r0_9)) (k0_pay16 v) (constant S128x128 .f32 0x00000000#32) (View.ld x0 r0_12) (View.ld x5 r0_11) (ix2 p C)
      = mixAt x0 v x4 x5 (fun q => ⟨128 + q.val, by omega⟩) p (headOf C) C := by
  pointwise [k0_pay8, k0_pay9, k0_pay10, k0_pay11, k0_pay12, k0_pay13, k0_pay14, k0_pay15, k0_pay16, k0_pay17]
  refine congrArg (x0 _ * ·) (congrArg (· + x5 _) ?_)
  split_ifs <;> exact congrArg₂ (fun (h : Fin 8) (C : Fin 1024) => dotAt x4 v (fun q => ⟨128 + q.val, by omega⟩) p h C) (Fin.ext (by show _ = C.val / 128; first | omega | (simp; omega))) (Fin.ext (by first | rfl | (show _ = C.val; dsimp only; omega)))

theorem piece2 (x0 : Vec Ideal S1024x1024 .f32) (v : FVec Ideal S1024x1024 .bf16) (x4 : Vec Ideal S8x128x128 .bf16) (x5 : Vec Ideal S128x1024 .f32)
    (p : Fin 128) (C : Fin 1024) :
    k0_pay23 (F := Ideal) v (k0_pay18 v (View.ld x4 r0_2)) (k0_pay19 v (View.ld x4 r0_3)) (k0_pay20 v (View.ld x4 r0_4)) (k0_pay21 v (View.ld x4 r0_5)) (k0_pay22 v (View.ld x4 r0_6)) (View.ld x4 r0_7) (View.ld x4 r0_8) (View.ld x4 r0_9) (View.ld x0 r0_13) (View.ld x5 r0_11) (ix2 p C)
      = mixAt x0 v x4 x5 (fun q => ⟨256 + q.val, by omega⟩) p (headOf C) C := by
  pointwise [k0_pay18, k0_pay19, k0_pay20, k0_pay21, k0_pay22, k0_pay23]
  refine congrArg (x0 _ * ·) (congrArg (· + x5 _) ?_)
  split_ifs <;> exact congrArg₂ (fun (h : Fin 8) (C : Fin 1024) => dotAt x4 v (fun q => ⟨256 + q.val, by omega⟩) p h C) (Fin.ext (by show _ = C.val / 128; first | omega | (simp; omega))) (Fin.ext (by first | rfl | (show _ = C.val; dsimp only; omega)))

theorem piece3 (x0 : Vec Ideal S1024x1024 .f32) (v : FVec Ideal S1024x1024 .bf16) (x4 : Vec Ideal S8x128x128 .bf16) (x5 : Vec Ideal S128x1024 .f32)
    (p : Fin 128) (C : Fin 1024) :
    k0_pay27 (F := Ideal) v (k0_pay24 v (View.ld x4 r0_2)) (k0_pay25 v (View.ld x4 r0_3)) (k0_pay26 v (View.ld x4 r0_4)) (View.ld x4 r0_5) (View.ld x4 r0_6) (View.ld x4 r0_7) (View.ld x4 r0_8) (View.ld x4 r0_9) (View.ld x0 r0_14) (View.ld x5 r0_11) (ix2 p C)
      = mixAt x0 v x4 x5 (fun q => ⟨384 + q.val, by omega⟩) p (headOf C) C := by
  pointwise [k0_pay24, k0_pay25, k0_pay26, k0_pay27]
  refine congrArg (x0 _ * ·) (congrArg (· + x5 _) ?_)
  split_ifs <;> exact congrArg₂ (fun (h : Fin 8) (C : Fin 1024) => dotAt x4 v (fun q => ⟨384 + q.val, by omega⟩) p h C) (Fin.ext (by show _ = C.val / 128; first | omega | (simp; omega))) (Fin.ext (by first | rfl | (show _ = C.val; dsimp only; omega)))

theorem piece4 (x0 : Vec Ideal S1024x1024 .f32) (v : FVec Ideal S1024x1024 .bf16) (x4 : Vec Ideal S8x128x128 .bf16) (x5 : Vec Ideal S128x1024 .f32)
    (p : Fin 128) (C : Fin 1024) :
    k0_pay31 (F := Ideal) (k0_pay30 v (k0_pay28 (View.ld x4 r0_2)) (k0_pay29 v) (View.ld x4 r0_3) (View.ld x4 r0_4) (View.ld x4 r0_5) (View.ld x4 r0_6) (View.ld x4 r0_7) (View.ld x4 r0_8) (View.ld x4 r0_9)) (View.ld x0 r0_15) (View.ld x5 r0_11) (ix2 p C)
      = mixAt x0 v x4 x5 (fun q => ⟨512 + q.val, by omega⟩) p (headOf C) C := by
  pointwise [k0_pay28, k0_pay29, k0_pay30, k0_pay31]
  refine congrArg (x0 _ * ·) (congrArg (· + x5 _) ?_)
  split_ifs <;> exact congrArg₂ (fun (h : Fin 8) (C : Fin 1024) => dotAt x4 v (fun q => ⟨512 + q.val, by omega⟩) p h C) (Fin.ext (by show _ = C.val / 128; first | omega | (simp; omega))) (Fin.ext (by first | rfl | (show _ = C.val; dsimp only; omega)))

theorem piece5 (x0 : Vec Ideal S1024x1024 .f32) (v : FVec Ideal S1024x1024 .bf16) (x4 : Vec Ideal S8x128x128 .bf16) (x5 : Vec Ideal S128x1024 .f32)
    (p : Fin 128) (C : Fin 1024) :
    k0_pay39 (F := Ideal) v (k0_pay32 v (View.ld x4 r0_2)) (k0_pay33 v (View.ld x4 r0_3)) (k0_pay34 v (View.ld x4 r0_4)) (k0_pay35 v (View.ld x4 r0_5)) (k0_pay36 v (View.ld x4 r0_6)) (k0_pay37 (View.ld x4 r0_7)) (k0_pay38 v) (constant S128x128 .f32 0x00000000#32) (View.ld x4 r0_8) (View.ld x4 r0_9) (View.ld x0 r0_16) (View.ld x5 r0_11) (ix2 p C)
      = mixAt x0 v x4 x5 (fun q => ⟨640 + q.val, by omega⟩) p (headOf C) C := by
  pointwise [k0_pay32, k0_pay33, k0_pay34, k0_pay35, k0_pay36, k0_pay37, k0_pay38, k0_pay39]
  refine congrArg (x0 _ * ·) (congrArg (· + x5 _) ?_)
  split_ifs <;> exact congrArg₂ (fun (h : Fin 8) (C : Fin 1024) => dotAt x4 v (fun q => ⟨640 + q.val, by omega⟩) p h C) (Fin.ext (by show _ = C.val / 128; first | omega | (simp; omega))) (Fin.ext (by first | rfl | (show _ = C.val; dsimp only; omega)))

theorem piece6 (x0 : Vec Ideal S1024x1024 .f32) (v : FVec Ideal S1024x1024 .bf16) (x4 : Vec Ideal S8x128x128 .bf16) (x5 : Vec Ideal S128x1024 .f32)
    (p : Fin 128) (C : Fin 1024) :
    k0_pay43 (F := Ideal) v (k0_pay40 v (View.ld x4 r0_2)) (k0_pay41 v (View.ld x4 r0_3)) (k0_pay42 v (View.ld x4 r0_4)) (View.ld x4 r0_5) (View.ld x4 r0_6) (View.ld x4 r0_7) (View.ld x4 r0_8) (View.ld x4 r0_9) (View.ld x0 r0_17) (View.ld x5 r0_11) (ix2 p C)
      = mixAt x0 v x4 x5 (fun q => ⟨768 + q.val, by omega⟩) p (headOf C) C := by
  pointwise [k0_pay40, k0_pay41, k0_pay42, k0_pay43]
  refine congrArg (x0 _ * ·) (congrArg (· + x5 _) ?_)
  split_ifs <;> exact congrArg₂ (fun (h : Fin 8) (C : Fin 1024) => dotAt x4 v (fun q => ⟨768 + q.val, by omega⟩) p h C) (Fin.ext (by show _ = C.val / 128; first | omega | (simp; omega))) (Fin.ext (by first | rfl | (show _ = C.val; dsimp only; omega)))

theorem piece7 (x0 : Vec Ideal S1024x1024 .f32) (v : FVec Ideal S1024x1024 .bf16) (x4 : Vec Ideal S8x128x128 .bf16) (x5 : Vec Ideal S128x1024 .f32)
    (p : Fin 128) (C : Fin 1024) :
    k0_pay1 (F := Ideal) (k0_pay45 v (k0_pay44 v (View.ld x4 r0_2)) (View.ld x4 r0_3) (View.ld x4 r0_4) (View.ld x4 r0_5) (View.ld x4 r0_6) (View.ld x4 r0_7) (View.ld x4 r0_8) (View.ld x4 r0_9)) (View.ld x0 r0_18) (View.ld x5 r0_11) (ix2 p C)
      = mixAt x0 v x4 x5 (fun q => ⟨896 + q.val, by omega⟩) p (headOf C) C := by
  pointwise [k0_pay1, k0_pay44, k0_pay45]
  refine congrArg (x0 _ * ·) (congrArg (· + x5 _) ?_)
  split_ifs <;> exact congrArg₂ (fun (h : Fin 8) (C : Fin 1024) => dotAt x4 v (fun q => ⟨896 + q.val, by omega⟩) p h C) (Fin.ext (by show _ = C.val / 128; first | omega | (simp; omega))) (Fin.ext (by first | rfl | (show _ = C.val; dsimp only; omega)))

/-- The block's own formula, at every place. -/
def gated (x0 : S1024x1024.Idx → EReal) (v : S1024x1024.Idx → EReal) (x4 : S8x128x128.Idx → EReal) (x5 : S128x1024.Idx → EReal) (r C : Fin 1024) : EReal :=
  mixAt x0 v x4 x5 (fun q => ⟨r.val / 128 * 128 + q.val, by omega⟩) (⟨r.val % 128, by omega⟩) (headOf C) C

theorem place (x0 : S1024x1024.Idx → EReal) (v : S1024x1024.Idx → EReal) (x4 : S8x128x128.Idx → EReal) (x5 : S128x1024.Idx → EReal)
    (R : Fin 128 → Fin 1024) (p : Fin 128) (D r C : Fin 1024) (hR : ∀ q, (R q).val = r.val / 128 * 128 + q.val) (hp : p.val = r.val % 128) (hD : D = C) :
    mixAt x0 v x4 x5 R p (headOf D) D = gated x0 v x4 x5 r C := by
  subst hD
  have e : R = fun q => ⟨r.val / 128 * 128 + q.val, by omega⟩ := funext fun q => Fin.ext (hR q)
  have e' : p = ⟨r.val % 128, by omega⟩ := Fin.ext hp
  exact congrArg₂ (fun R p => mixAt x0 v x4 x5 R p (headOf D) D) e e'

theorem out_at (x0 x1 : Vec Ideal S1024x1024 .f32) (x2 x3 : Vec Ideal S1x1024 .f32) (x4 : Vec Ideal S8x128x128 .bf16) (x5 : Vec Ideal S128x1024 .f32) (r C : Fin 1024) :
    out0_6 (F := Ideal) x0 x1 x2 x3 x4 x5 (ix2 r C) = gated x0 (k0_pay2 (F := Ideal) (View.ld x1 r0_0) (View.ld x2 r0_1) (View.ld x3 r0_1)) x4 x5 r C := by
  unfold out0_6
  canon_tiles x h
  · obtain ⟨p, D, rfl⟩ : ∃ (p : Fin 128) (D : Fin 1024), x = ix2 p D := ⟨x 0, x 1, funext fun a => match a with | ⟨0, _⟩ => rfl | ⟨1, _⟩ => rfl⟩
    have e0 : r.val = 896 + p.val := h0
    have e1 : C.val = D.val := h1
    exact (piece7 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 768 + p.val := h0
    have e1 : C.val = D.val := h1
    exact (piece6 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 640 + p.val := h0
    have e1 : C.val = D.val := h1
    exact (piece5 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 512 + p.val := h0
    have e1 : C.val = D.val := h1
    exact (piece4 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 384 + p.val := h0
    have e1 : C.val = D.val := h1
    exact (piece3 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 256 + p.val := h0
    have e1 : C.val = D.val := h1
    exact (piece2 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = 128 + p.val := h0
    have e1 : C.val = D.val := h1
    exact (piece1 x0 (k0_pay46 x0 x1 x2 x3 x4 x5) x4 x5 p D).trans (place _ _ _ _ _ _ _ _ _ (fun q => by dsimp only; omega) (by omega) (Fin.ext (by omega)))
  · obtain ⟨p, D, rfl⟩ : ∃ (p : Fin 128) (D : Fin 1024), x = ix2 p D := ⟨x 0, x 1, funext fun a => match a with | ⟨0, _⟩ => rfl | ⟨1, _⟩ => rfl⟩
    have e0 : r.val = p.val := h0
    have e1 : C.val = D.val := h1
    exact (piece0 x0 x1 x2 x3 (k0_pay46 x0 x1 x2 x3 x4 x5) rfl x4 x5 p D).trans (place _ _ _ _ _ _ _ _ _ (fun q => by dsimp only; omega) (by omega) (Fin.ext (by omega)))

end Cert.Kernel5Ideal.Gmlp

end
-- ==== Proof.GmlpValue.lean ====
module

public import proofs.«01_k».proof.Proof.Gen.Kernel5Ideal.Value
public import proofs.«01_k».proof.Proof.Gmlp
public import proofs.«01_k».proof.Proof.Gen.Reference5Ideal.Read
public import Idealize.ShloMosaic.Lib.Pipeline.ValueKit
public import Idealize.ShloMosaic.Lib.Pipeline.ValueKit.Held
public import Idealize.ShloMosaic.Lib.Pipeline.ValueKit.Point
public import Idealize.ShloMosaic.Lib.Pointwise
public import Idealize.ShloMosaic.Lib.WritesUnit
public import Idealize.ShloMosaic.Lib.WholeRead

@[expose] public section

set_option maxRecDepth 16384

noncomputable section

/-! The gating unit's value: every block is the reference's formula at the block's own rows. -/

namespace Cert.Kernel5Ideal.GmlpValue

open Cert.Kernel5Ideal Cert.Kernel5Ideal.Gen Cert.Reference5Ideal.Read Idealize.ShloMosaic Idealize.ShloMosaic.TcCoe Idealize.SL.Sem

variable (m : (ℓ : Loc nD τ sig) → Buf (Elt Ideal) ℓ) (c : Dev nD) (t : Fin cfg0.N)

theorem lt32 : t.val < 32 := lt_of_lt_of_eq t.isLt (show cfg0.N = 32 from N_0)

/-- Where each window's block lies at a grid point. -/
theorem idx : ∀ t : Fin cfg0.N, win0_0.index t = ![t.val, 2] ∧ win0_1.index t = ![t.val, 3] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

theorem blk0 (a : Fin 1024) (b : Fin 1024) (R : Fin 32768) (C : Fin 4096) (h : R.val = t.val * 1024 + a.val) (h' : C.val = 2 * 1024 + b.val) :
    iblk m c 0 t (ix2 a b) = m ((c : Thread nD τ).loc main_arg0) (ix2 R C) := by
  blk_point [iblk, V, idx t]

theorem blk1 (a : Fin 1024) (b : Fin 1024) (R : Fin 32768) (C : Fin 4096) (h : R.val = t.val * 1024 + a.val) (h' : C.val = 3 * 1024 + b.val) :
    iblk m c 1 t (ix2 a b) = m ((c : Thread nD τ).loc main_arg0) (ix2 R C) := by
  blk_point [iblk, V, idx t]

theorem blk2 (b : Fin 1024) :
    iblk m c 2 t (ix2 0 b) = m ((c : Thread nD τ).loc main_arg1) (ix2 0 b) := by
  blk_point [iblk, V, idx t]

theorem blk3 (b : Fin 1024) :
    iblk m c 3 t (ix2 0 b) = m ((c : Thread nD τ).loc main_arg2) (ix2 0 b) := by
  blk_point [iblk, V, idx t]

theorem blk4 (h : Fin 8) (p q : Fin 128) :
    iblk m c 4 t (ix3 h p q) = m ((c : Thread nD τ).loc main_arg3) (ix4 0 h p q) := by
  blk_point [iblk, V, idx t]

theorem blk5 (p : Fin 128) (C : Fin 1024) (h : Fin 8) (hh : h.val = C.val / 128) :
    iblk m c 5 t (ix2 p C) = m ((c : Thread nD τ).loc main_arg4) (ix3 0 h p) := by
  blk_point [iblk, V, idx t]

/-- The result, as the reference composes it. -/
abbrev Z (c : Dev nD) := val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The normed half, as the reference composes it. -/
abbrev N (c : Dev nD) := val_main_v25 (F := Ideal) (m ((c : Thread nD τ).loc main_arg0)) (m ((c : Thread nD τ).loc main_arg1)) (m ((c : Thread nD τ).loc main_arg2))

theorem norm_at (x1 : Vec Ideal S1024x1024 .f32) (x2 x3 : Vec Ideal S1x1024 .f32) (a0 : Vec Ideal S32768x4096 .f32) (a1 a2 : Vec Ideal S1x1024 .f32)
    (r : Fin 1024) (R : Fin 32768) (C : Fin 1024)
    (h1 : ∀ C : Fin 1024, x1 (ix2 r C) = a0 (ix2 R (⟨3072 + C.val, by omega⟩ : Fin 4096))) (h2 : ∀ C, x2 (ix2 0 C) = a1 (ix2 0 C)) (h3 : ∀ C, x3 (ix2 0 C) = a2 (ix2 0 C)) :
    k0_pay2 (F := Ideal) (View.ld x1 r0_0) (View.ld x2 r0_1) (View.ld x3 r0_1) (ix2 r C) = val_main_v25 (F := Ideal) a0 a1 a2 (ix2 R C) := by
  pointwise [k0_pay2, val_main_v1, val_main_v2, val_main_v3, val_main_cst, val_main_v4, val_main_v5, val_main_cst_0, val_main_v6, val_main_v7, val_main_v8, val_main_v9, val_main_v10, val_main_cst_1, val_main_v11, val_main_v12, val_main_cst_2, val_main_v13, val_main_v14, val_main_cst_3, val_main_v15, val_main_v16, val_main_v17, val_main_v18, val_main_v19, val_main_v20, val_main_v21, val_main_v22, val_main_v23, val_main_v24, val_main_v25]
  simp only [h1, h2, h3]

/-- The reference's formula, over the normed half. -/
def formula (a0 : S32768x4096.Idx → EReal) (n : S32768x1024.Idx → EReal) (a3 : S1x8x128x128.Idx → EReal) (a4 : S1x8x128.Idx → EReal) (R : Fin 32768) (C : Fin 1024) : EReal :=
  a0 (ix2 R (⟨2048 + C.val, by omega⟩ : Fin 4096))
    * (∑ q : Fin 128, a3 (ix4 0 (⟨C.val / 128, by omega⟩ : Fin 8) (⟨R.val % 128, by omega⟩ : Fin 128) q) * n (ix2 (⟨R.val / 128 * 128 + q.val, by omega⟩ : Fin 32768) C)
      + a4 (ix3 0 (⟨C.val / 128, by omega⟩ : Fin 8) (⟨R.val % 128, by omega⟩ : Fin 128)))

theorem ref_at (a0 : Vec Ideal S32768x4096 .f32) (a1 a2 : Vec Ideal S1x1024 .f32) (a3 : Vec Ideal S1x8x128x128 .f32) (a4 : Vec Ideal S1x8x128 .f32)
    (R : Fin 32768) (C : Fin 1024) :
    val_main_v37 (F := Ideal) a0 a1 a2 a3 a4 (ix2 R C) = formula a0 (val_main_v25 (F := Ideal) a0 a1 a2) a3 a4 R C := by
  pointwise [val_main_v0, val_main_v26, val_main_v27, val_main_v28, val_main_v29, val_main_v30, val_main_v31, val_main_v32, val_main_v33, val_main_v34, val_main_v35, val_main_v36, val_main_v37]
  unfold formula
  refine congrArg (a0 _ * ·) (congrArg (· + a4 _) (Finset.sum_congr rfl fun q _ => ?_))
  exact mul_comm _ _

/-- A block's formula is the reference's, where the block's arrays are the arrays' own places. -/
theorem gated_eq (x0 v : S1024x1024.Idx → EReal) (x4 : S8x128x128.Idx → EReal) (x5 : S128x1024.Idx → EReal)
    (a0 : S32768x4096.Idx → EReal) (n : S32768x1024.Idx → EReal) (a3 : S1x8x128x128.Idx → EReal) (a4 : S1x8x128.Idx → EReal)
    (t : ℕ) (ht : t < 32) (r C : Fin 1024)
    (h0 : ∀ (a b : Fin 1024) (R : Fin 32768) (D : Fin 4096), R.val = t * 1024 + a.val → D.val = 2 * 1024 + b.val → x0 (ix2 a b) = a0 (ix2 R D))
    (hv : ∀ (a b : Fin 1024) (R : Fin 32768), R.val = t * 1024 + a.val → v (ix2 a b) = n (ix2 R b))
    (h4 : ∀ (h : Fin 8) (p q : Fin 128), x4 (ix3 h p q) = a3 (ix4 0 h p q))
    (h5 : ∀ (p : Fin 128) (C : Fin 1024) (h : Fin 8), h.val = C.val / 128 → x5 (ix2 p C) = a4 (ix3 0 h p)) :
    Gmlp.gated x0 v x4 x5 r C = formula a0 n a3 a4 (⟨t * 1024 + r.val, by omega⟩ : Fin 32768) C := by
  have hr : (⟨(t * 1024 + r.val) % 128, by omega⟩ : Fin 128) = ⟨r.val % 128, by omega⟩ := Fin.ext (by show (t * 1024 + r.val) % 128 = r.val % 128; omega)
  unfold Gmlp.gated Gmlp.mixAt Gmlp.dotAt formula Gmlp.headOf
  rw [hr]
  refine congrArg₂ (· * ·) (h0 _ _ _ _ ?_ ?_) (congrArg₂ (· + ·) (Finset.sum_congr rfl fun q _ => congrArg₂ (· * ·) (h4 _ _ _) (hv _ _ _ ?_)) (h5 _ _ _ rfl))
  · show t * 1024 + r.val = t * 1024 + (r.val / 128 * 128 + r.val % 128)
    omega
  · show 2048 + C.val = 2 * 1024 + C.val
    omega
  · show (t * 1024 + r.val) / 128 * 128 + q.val = t * 1024 + (r.val / 128 * 128 + q.val)
    omega

theorem final6 : (dats m 0 c).arrAt 6 cfg0.N = Z m c := by
  refine (dats m 0 c).arrAt_eq_of_covers 6 _ (by decide +kernel) fun t hf y => ?_
  blk_simp
  rw [after0_6]
  idx_vars y
  have hN := lt32 t
  have hr : t.val * 1024 + y0.val < 32768 := by omega
  have hi : win0_6.index t = ![t.val, 0] := by simp only [idx t]
  have e0 := win0_6.rect_emb_val t (ix2 y0 y1) 0 rfl
  have e1 := win0_6.rect_emb_val t (ix2 y0 y1) 1 rfl
  rw [hi] at e0 e1
  have hx : ((View.whole main_v10).slice (win0_6.rect t)).emb (ix2 y0 y1) = (ix2 (⟨t.val * 1024 + y0.val, hr⟩ : Fin 32768) y1 : S32768x1024.Idx) :=
    funext fun a => match a with
      | ⟨0, _⟩ => Fin.ext e0
      | ⟨1, _⟩ => Fin.ext (e1.trans (by show 0 * 1024 + y1.val = y1.val; omega))
  rw [hx, Gmlp.out_at]
  refine (gated_eq _ _ _ _ _ _ _ _ t.val hN y0 y1 (blk0 m c t) (fun a b R h => ?_) (blk4 m c t) (blk5 m c t)).trans (ref_at _ _ _ _ _ _ _).symm
  exact norm_at _ _ _ _ _ _ a R b (fun C => blk1 m c t a C R _ h (by show 3072 + C.val = 3 * 1024 + C.val; omega)) (blk2 m c t) (blk3 m c t)

end Cert.Kernel5Ideal.GmlpValue

end
-- ==== Proof.Calls.lean ====
module

public import proofs.«01_k».proof.Defs
public import proofs.«01_k».proof.Proof.OutProj
public import proofs.«01_k».proof.Proof.MixIn
public import proofs.«01_k».proof.Proof.Experts
public import proofs.«01_k».proof.Proof.GmlpValue
public import proofs.«01_k».proof.Proof.Gen.Reference2Ideal.Run
public import proofs.«01_k».proof.Proof.Gen.Reference4Ideal.Run
public import proofs.«01_k».proof.Proof.Gen.Reference3Ideal.Run
public import proofs.«01_k».proof.Proof.Gen.Reference5Ideal.Run
public import Idealize.ShloMosaic.Adequacy
public import Idealize.ShloMosaic.Init

@[expose] public section

set_option maxRecDepth 16384

noncomputable section

/-! The claims of the input projection, of the experts, of the output projection and of the gating unit: both programs of each pair run from agreeing
    arguments to the reference's own stages, so their results are equal. -/

namespace Cert.Proof.Calls

open Idealize.ShloMosaic Idealize.ShloMosaic.TcCoe Idealize.SL.Sem

theorem mix_in : Cert.algebraic_Kernel2Ideal_Reference2Ideal := fun m ρ m' ρ' _ hag =>
  ⟨fun c => Cert.Kernel2Ideal.MixValue.Z m c,
    (θ_run Cert.Kernel2Ideal.defs _ _).mono
      (fun _ h c => ⟨(h c).1.trans (Cert.Kernel2Ideal.MixValue.final3 m c), (h c).2⟩)
      (Cert.Kernel2Ideal.Value.run_blocks (F := Ideal) m ρ),
    (θ_run Cert.Reference2Ideal.defs _ _).mono
      (fun _ h c => ⟨(h c).1.trans (by
          obtain ⟨h0, h1, h2⟩ := hag c
          show _ = Cert.Reference2Ideal.Read.val_main_v32 (F := Ideal) _ _ _
          rw [← h0, ← h1, ← h2]
          exact Cert.Reference2Ideal.Read.val_main_v32_eq (F := Ideal) m' c), (h c).2⟩)
      (Cert.Reference2Ideal.Value.run (F := Ideal) m' ρ')⟩

theorem out_proj : Cert.algebraic_Kernel4Ideal_Reference4Ideal := fun m ρ m' ρ' _ hag =>
  ⟨fun c => Cert.Kernel4Ideal.OutValue.H1 m c, fun c => Cert.Kernel4Ideal.OutValue.N2 m c,
    (θ_run Cert.Kernel4Ideal.defs _ _).mono
      (fun _ h c => ⟨(h c).1.trans (Cert.Kernel4Ideal.OutValue.final7 m c), (h c).2.1.trans (Cert.Kernel4Ideal.OutValue.final8 m c), (h c).2.2⟩)
      (Cert.Kernel4Ideal.Value.run_blocks (F := Ideal) m ρ),
    (θ_run Cert.Reference4Ideal.defs _ _).mono
      (fun _ h c => ⟨(h c).1.trans ((Cert.Reference4Ideal.Read.val_main_v10_eq (F := Ideal) _ _ _ _ _ _).trans (by
          obtain ⟨h0, h1, h2, h3, h4, h5, h6⟩ := hag c
          rw [h0, h1, h2, h3, h4, h5])),
        (h c).2.1.trans ((Cert.Reference4Ideal.Read.val_main_v26_eq (F := Ideal) _ _ _ _ _ _ _).trans (by
          obtain ⟨h0, h1, h2, h3, h4, h5, h6⟩ := hag c
          rw [h0, h1, h2, h3, h4, h5, h6])), (h c).2.2⟩)
      (Cert.Reference4Ideal.Value.run (F := Ideal) m' ρ')⟩

theorem experts : Cert.algebraic_Kernel3Ideal_Reference3Ideal := fun m ρ m' ρ' _ hag =>
  ⟨fun c => Cert.Kernel3Ideal.Experts.Z m c,
    (θ_run Cert.Kernel3Ideal.defs _ _).mono
      (fun _ h c => ⟨(h c).1.trans (Cert.Kernel3Ideal.Experts.final6 m c), (h c).2⟩)
      (Cert.Kernel3Ideal.Value.run_blocks (F := Ideal) m ρ),
    (θ_run Cert.Reference3Ideal.defs _ _).mono
      (fun _ h c => ⟨(h c).1.trans (by
          obtain ⟨h0, h1, h2, h3, h4, h5⟩ := hag c
          show _ = Cert.Reference3Ideal.Read.val_main_v35 (F := Ideal) _ _ _ _ _ _
          rw [← h0, ← h1, ← h2, ← h3, ← h4, ← h5]
          exact Cert.Reference3Ideal.Read.val_main_v35_eq (F := Ideal) m' c), (h c).2⟩)
      (Cert.Reference3Ideal.Value.run (F := Ideal) m' ρ')⟩

theorem gmlp : Cert.algebraic_Kernel5Ideal_Reference5Ideal := fun m ρ m' ρ' _ hag =>
  ⟨fun c => Cert.Kernel5Ideal.GmlpValue.Z m c,
    (θ_run Cert.Kernel5Ideal.defs _ _).mono
      (fun _ h c => ⟨(h c).1.trans (Cert.Kernel5Ideal.GmlpValue.final6 m c), (h c).2⟩)
      (Cert.Kernel5Ideal.Value.run_blocks (F := Ideal) m ρ),
    (θ_run Cert.Reference5Ideal.defs _ _).mono
      (fun _ h c => ⟨(h c).1.trans ((Cert.Reference5Ideal.Read.val_main_v37_eq (F := Ideal) _ _ _ _ _).trans (by
          obtain ⟨h0, h1, h2, h3, h4⟩ := hag c
          rw [h0, h1, h2, h3, h4])), (h c).2⟩)
      (Cert.Reference5Ideal.Value.run (F := Ideal) m' ρ')⟩

end Cert.Proof.Calls

end
-- ==== Proof.LruRun.lean ====
/-
  The recurrence kernel's whole body, run once at a point that starts a batch row and once at any other
  point: what the two result blocks and the two carried rows hold afterwards, as lists of written pieces.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x8x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x8x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S512x1024 .f32 := Memref.whole cc0_scratch0
abbrev scM0_1 : Memref sig .tc .vmem S512x1024 .f32 := Memref.whole cc0_scratch1
abbrev scM0_2 : Memref sig .tc .vmem S1x1024 .f32 := Memref.whole cc0_scratch2
abbrev scM0_3 : Memref sig .tc .vmem S1x1024 .f32 := Memref.whole cc0_scratch3
/-- The scratch `arg19` the kernel carries between points, as a view: what it holds is stated through it. -/
abbrev VS0_2 : View sig .tc .vmem S1x1024 .f32 := scM0_2.view
/-- The scratch `arg20` the kernel carries between points, as a view: what it holds is stated through it. -/
abbrev VS0_3 : View sig .tc .vmem S1x1024 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 2000000 in
/-- The body at a point that starts a batch row. -/
noncomputable def kernelRun0_A (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole) (hc0 : cond0_0 i)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x9 : Vec F S2x1024 .f32) (x10 : Vec F S2x8x128x128 .bf16) (x11 : Vec F S2x1024 .f32) (x12 : Vec F S2x1024 .f32) :
    Σ' (L13 : List (View.Piece (Elt F) S1x512x1024 .f32)) (L14 : List (View.Piece (Elt F) S1x512x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3)) -∗ K ⟨⟩))
          ⊢ wp frame (wpE (defs₀ (F := F)) Variants.none c none) E (cc0__lru_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0__lru_kernel_eq_skeleton]; unfold cc0__lru_kernel_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

set_option maxHeartbeats 2000000 in
/-- The body at any other point. -/
noncomputable def kernelRun0_B (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole) (hc0 : ¬cond0_0 i)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x9 : Vec F S2x1024 .f32) (x10 : Vec F S2x8x128x128 .bf16) (x11 : Vec F S2x1024 .f32) (x12 : Vec F S2x1024 .f32) (xs2 : Vec F S1x1024 .f32) (xs3 : Vec F S1x1024 .f32) :
    Σ' (L13 : List (View.Piece (Elt F) S1x512x1024 .f32)) (L14 : List (View.Piece (Elt F) S1x512x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs2 ∗ owns (c : Thread nD τ) arg20 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3)) -∗ K ⟨⟩))
          ⊢ wp frame (wpE (defs₀ (F := F)) Variants.none c none) E (cc0__lru_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0__lru_kernel_eq_skeleton]; unfold cc0__lru_kernel_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg19.eq_unread hfs2; obtain rfl := harg20.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.KernelIdeal.Lru

end
-- ==== Proof.LruFrame.lean ====
/-
  The recurrence kernel's grid: what each point leaves in the two result blocks and in the two carried rows, and that
  the program runs from any memory to arrays holding exactly that, with its arguments unchanged.
-/
module

public import proofs.«01_k».proof.Proof.LruRun
public import proofs.«01_k».proof.Proof.Gen.KernelIdeal.Launch
public import Idealize.ShloMosaic.Lib.Claim

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body's run at a point that starts a batch row, at the point's blocks. -/
abbrev runA (c : Dev nD) (t : Fin cfg0.N) (h : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at any other point, at the point's blocks, from the carried rows. -/
abbrev runB (c : Dev nD) (t : Fin cfg0.N) (h : ¬t.val % 16 = 0) (xs2 xs3 : Vec F S1x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs2 xs3

/-- The result blocks, as views of one of their staging buffers. -/
abbrev VO0_13 : View sig .tc .vmem S1x512x1024 .f32 := (Memref.whole cc0_stg13_0 : Memref sig .tc .vmem S1x512x1024 .f32).view
abbrev VO0_14 : View sig .tc .vmem S1x512x1024 .f32 := (Memref.whole cc0_stg14_0 : Memref sig .tc .vmem S1x512x1024 .f32).view
theorem coverA_13 (c : Dev nD) (t : Fin cfg0.N) (h : t.val % 16 = 0) (y : S1x512x1024.Idx) :
    ∃ pc ∈ (runA m c t h).1, y ∈ pc.1.set :=
  View.cover_of_tiledL (runA m c t h).1 ![1, 8, 1024] (by sl_kernel_rfl) y
theorem coverA_14 (c : Dev nD) (t : Fin cfg0.N) (h : t.val % 16 = 0) (y : S1x512x1024.Idx) :
    ∃ pc ∈ (runA m c t h).2.1, y ∈ pc.1.set :=
  View.cover_of_tiledL (runA m c t h).2.1 ![1, 8, 1024] (by sl_kernel_rfl) y
theorem coverA_s2 (c : Dev nD) (t : Fin cfg0.N) (h : t.val % 16 = 0) (y : S1x1024.Idx) :
    ∃ pc ∈ (runA m c t h).2.2.1, y ∈ pc.1.set :=
  View.cover_of_tiledL (runA m c t h).2.2.1 S1x1024.size (by sl_kernel_rfl) y
theorem coverA_s3 (c : Dev nD) (t : Fin cfg0.N) (h : t.val % 16 = 0) (y : S1x1024.Idx) :
    ∃ pc ∈ (runA m c t h).2.2.2.1, y ∈ pc.1.set :=
  View.cover_of_tiledL (runA m c t h).2.2.2.1 S1x1024.size (by sl_kernel_rfl) y
/-- What such a point leaves: both result blocks, both carried rows. -/
def outA (c : Dev nD) (t : Fin cfg0.N) (h : t.val % 16 = 0) : Vec F S1x512x1024 .f32 × Vec F S1x512x1024 .f32 × Vec F S1x1024 .f32 × Vec F S1x1024 .f32 :=
  (VO0_13.read (Elt F) (VO0_13.writes (Elt F) VO0_13.junk (runA m c t h).1),
    VO0_14.read (Elt F) (VO0_14.writes (Elt F) VO0_14.junk (runA m c t h).2.1),
    VS0_2.read (Elt F) (VS0_2.writes (Elt F) VS0_2.junk (runA m c t h).2.2.1),
    VS0_3.read (Elt F) (VS0_3.writes (Elt F) VS0_3.junk (runA m c t h).2.2.2.1))
theorem coverB_13 (c : Dev nD) (t : Fin cfg0.N) (h : ¬t.val % 16 = 0) (xs2 xs3 : Vec F S1x1024 .f32) (y : S1x512x1024.Idx) :
    ∃ pc ∈ (runB m c t h xs2 xs3).1, y ∈ pc.1.set :=
  View.cover_of_tiledL (runB m c t h xs2 xs3).1 ![1, 8, 1024] (by sl_kernel_rfl) y
theorem coverB_14 (c : Dev nD) (t : Fin cfg0.N) (h : ¬t.val % 16 = 0) (xs2 xs3 : Vec F S1x1024 .f32) (y : S1x512x1024.Idx) :
    ∃ pc ∈ (runB m c t h xs2 xs3).2.1, y ∈ pc.1.set :=
  View.cover_of_tiledL (runB m c t h xs2 xs3).2.1 ![1, 8, 1024] (by sl_kernel_rfl) y
theorem coverB_s2 (c : Dev nD) (t : Fin cfg0.N) (h : ¬t.val % 16 = 0) (xs2 xs3 : Vec F S1x1024 .f32) (y : S1x1024.Idx) :
    ∃ pc ∈ (runB m c t h xs2 xs3).2.2.1, y ∈ pc.1.set :=
  View.cover_of_tiledL (runB m c t h xs2 xs3).2.2.1 S1x1024.size (by sl_kernel_rfl) y
theorem coverB_s3 (c : Dev nD) (t : Fin cfg0.N) (h : ¬t.val % 16 = 0) (xs2 xs3 : Vec F S1x1024 .f32) (y : S1x1024.Idx) :
    ∃ pc ∈ (runB m c t h xs2 xs3).2.2.2.1, y ∈ pc.1.set :=
  View.cover_of_tiledL (runB m c t h xs2 xs3).2.2.2.1 S1x1024.size (by sl_kernel_rfl) y
/-- What such a point leaves: both result blocks, both carried rows. -/
def outB (c : Dev nD) (t : Fin cfg0.N) (h : ¬t.val % 16 = 0) (xs2 xs3 : Vec F S1x1024 .f32) : Vec F S1x512x1024 .f32 × Vec F S1x512x1024 .f32 × Vec F S1x1024 .f32 × Vec F S1x1024 .f32 :=
  (VO0_13.read (Elt F) (VO0_13.writes (Elt F) VO0_13.junk (runB m c t h xs2 xs3).1),
    VO0_14.read (Elt F) (VO0_14.writes (Elt F) VO0_14.junk (runB m c t h xs2 xs3).2.1),
    VS0_2.read (Elt F) (VS0_2.writes (Elt F) VS0_2.junk (runB m c t h xs2 xs3).2.2.1),
    VS0_3.read (Elt F) (VS0_3.writes (Elt F) VS0_3.junk (runB m c t h xs2 xs3).2.2.2.1))
/-- What every point leaves, by recursion on the points before it. -/
def outsAt0 (c : Dev nD) : (n : ℕ) → n < cfg0.N → Vec F S1x512x1024 .f32 × Vec F S1x512x1024 .f32 × Vec F S1x1024 .f32 × Vec F S1x1024 .f32
  | 0, hn => outA m c ⟨0, hn⟩ (Nat.zero_mod _)
  | n + 1, hn =>
    if h : (n + 1) % 16 = 0 then outA m c ⟨n + 1, hn⟩ h
    else outB m c ⟨n + 1, hn⟩ h (outsAt0 c n (Nat.lt_of_succ_lt hn)).2.2.1 (outsAt0 c n (Nat.lt_of_succ_lt hn)).2.2.2

theorem outsAt0_A (c : Dev nD) (t : Fin cfg0.N) (h : t.val % 16 = 0) : outsAt0 m c t.val t.isLt = outA m c t h := by
  obtain ⟨n, hn⟩ := t
  cases n with
  | zero => rfl
  | succ n => exact dif_pos h

theorem outsAt0_B (c : Dev nD) (t : Fin cfg0.N) (h : ¬t.val % 16 = 0) :
    outsAt0 m c t.val t.isLt = outB m c t h (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h
  | succ n => exact dif_neg h

/-- The invariant between points: after the first, the carried rows hold what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (outsAt0 m c n hn).2.2.1 ∗ owns (c : Thread nD τ) scM0_3 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare (outsAt0 m c n hn).2.2.1 ∗ owns (c : Thread nD τ) scM0_3 fullShare (outsAt0 m c n hn).2.2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (outsAt0 m c (n - 1) (by omega)).2.2.1 ∗ owns (c : Thread nD τ) scM0_3 fullShare (outsAt0 m c (n - 1) (by omega)).2.2.2) ∗ (∃ r, prngReg c r)) := by
  cases n with
  | zero => exact absurd rfl hz
  | succ n => rfl

/-- The pipeline's proof data: every input buffer at its block, both results at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem leaves0_0 (c : Dev nD) (t : Fin cfg0.N) : (dats m 0 c).leavesExact 0 t = owns (c : Thread nD τ) (ms0_0 t) fullShare ((dats m 0 c).after 0 t) := by
  have h : ∀ t : Fin cfg0.N, cfg0.idle 0 (grid0.coords t) = false := fun _ => rfl
  unfold Dat.leavesExact; rw [h t]
theorem leaves0_1 (c : Dev nD) (t : Fin cfg0.N) : (dats m 0 c).leavesExact 1 t = owns (c : Thread nD τ) (ms0_1 t) fullShare ((dats m 0 c).after 1 t) := by
  have h : ∀ t : Fin cfg0.N, cfg0.idle 1 (grid0.coords t) = false := fun _ => rfl
  unfold Dat.leavesExact; rw [h t]
theorem leaves0_2 (c : Dev nD) (t : Fin cfg0.N) : (dats m 0 c).leavesExact 2 t = owns (c : Thread nD τ) (ms0_2 t) fullShare ((dats m 0 c).after 2 t) := by
  have h : ∀ t : Fin cfg0.N, cfg0.idle 2 (grid0.coords t) = false := fun _ => rfl
  unfold Dat.leavesExact; rw [h t]
theorem leaves0_3 (c : Dev nD) (t : Fin cfg0.N) : (dats m 0 c).leavesExact 3 t = owns (c : Thread nD τ) (ms0_3 t) fullShare ((dats m 0 c).after 3 t) := by
  have h : ∀ t : Fin cfg0.N, cfg0.idle 3 (grid0.coords t) = false := fun _ => rfl
  unfold Dat.leavesExact; rw [h t]
theorem leaves0_4 (c : Dev nD) (t : Fin cfg0.N) : (dats m 0 c).leavesExact 4 t = owns (c : Thread nD τ) (ms0_4 t) fullShare ((dats m 0 c).after 4 t) := by
  have h : ∀ t : Fin cfg0.N, cfg0.idle 4 (grid0.coords t) = false := fun _ => rfl
  unfold Dat.leavesExact; rw [h t]
theorem leaves0_5 (c : Dev nD) (t : Fin cfg0.N) : (dats m 0 c).leavesExact 5 t = owns (c : Thread nD τ) (ms0_5 t) fullShare ((dats m 0 c).after 5 t) := by
  have h : ∀ t : Fin cfg0.N, cfg0.idle 5 (grid0.coords t) = false := fun _ => rfl
  unfold Dat.leavesExact; rw [h t]
theorem leaves0_6 (c : Dev nD) (t : Fin cfg0.N) : (dats m 0 c).leavesExact 6 t = owns (c : Thread nD τ) (ms0_6 t) fullShare ((dats m 0 c).after 6 t) := by
  have h : ∀ t : Fin cfg0.N, cfg0.idle 6 (grid0.coords t) = false := fun _ => rfl
  unfold Dat.leavesExact; rw [h t]
theorem leaves0_7 (c : Dev nD) (t : Fin cfg0.N) : (dats m 0 c).leavesExact 7 t = owns (c : Thread nD τ) (ms0_7 t) fullShare ((dats m 0 c).after 7 t) := by
  have h : ∀ t : Fin cfg0.N, cfg0.idle 7 (grid0.coords t) = false := fun _ => rfl
  unfold Dat.leavesExact; rw [h t]
theorem leaves0_8 (c : Dev nD) (t : Fin cfg0.N) : (dats m 0 c).leavesExact 8 t = owns (c : Thread nD τ) (ms0_8 t) fullShare ((dats m 0 c).after 8 t) := by
  have h : ∀ t : Fin cfg0.N, cfg0.idle 8 (grid0.coords t) = false := fun _ => rfl
  unfold Dat.leavesExact; rw [h t]
theorem leaves0_9 (c : Dev nD) (t : Fin cfg0.N) : (dats m 0 c).leavesExact 9 t = owns (c : Thread nD τ) (ms0_9 t) fullShare ((dats m 0 c).after 9 t) := by
  have h : ∀ t : Fin cfg0.N, cfg0.idle 9 (grid0.coords t) = false := fun _ => rfl
  unfold Dat.leavesExact; rw [h t]
theorem leaves0_10 (c : Dev nD) (t : Fin cfg0.N) : (dats m 0 c).leavesExact 10 t = owns (c : Thread nD τ) (ms0_10 t) fullShare ((dats m 0 c).after 10 t) := by
  have h : ∀ t : Fin cfg0.N, cfg0.idle 10 (grid0.coords t) = false := fun _ => rfl
  unfold Dat.leavesExact; rw [h t]
theorem leaves0_11 (c : Dev nD) (t : Fin cfg0.N) : (dats m 0 c).leavesExact 11 t = owns (c : Thread nD τ) (ms0_11 t) fullShare ((dats m 0 c).after 11 t) := by
  have h : ∀ t : Fin cfg0.N, cfg0.idle 11 (grid0.coords t) = false := fun _ => rfl
  unfold Dat.leavesExact; rw [h t]
theorem leaves0_12 (c : Dev nD) (t : Fin cfg0.N) : (dats m 0 c).leavesExact 12 t = owns (c : Thread nD τ) (ms0_12 t) fullShare ((dats m 0 c).after 12 t) := by
  have h : ∀ t : Fin cfg0.N, cfg0.idle 12 (grid0.coords t) = false := fun _ => rfl
  unfold Dat.leavesExact; rw [h t]
theorem leaves0_13 (c : Dev nD) (t : Fin cfg0.N) : (dats m 0 c).leavesExact 13 t = owns (c : Thread nD τ) (ms0_13 t) fullShare ((dats m 0 c).after 13 t) := by
  have h : ∀ t : Fin cfg0.N, cfg0.idle 13 (grid0.coords t) = false := by decide +kernel
  unfold Dat.leavesExact; rw [h t]
theorem leaves0_14 (c : Dev nD) (t : Fin cfg0.N) : (dats m 0 c).leavesExact 14 t = owns (c : Thread nD τ) (ms0_14 t) fullShare ((dats m 0 c).after 14 t) := by
  have h : ∀ t : Fin cfg0.N, cfg0.idle 14 (grid0.coords t) = false := by decide +kernel
  unfold Dat.leavesExact; rw [h t]

/-- What the body is called with, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  simp only [leaves0_0, leaves0_1, leaves0_2, leaves0_3, leaves0_4, leaves0_5, leaves0_6, leaves0_7, leaves0_8, leaves0_9, leaves0_10, leaves0_11, leaves0_12, leaves0_13, leaves0_14]
  simp only [after0_0, after0_1, after0_2, after0_3, after0_4, after0_5, after0_6, after0_7, after0_8, after0_9, after0_10, after0_11, after0_12, after0_13, after0_14]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h : t.val % 16 = 0
  · by_cases hz : t.val = 0
    · rw [PhiS_castSucc m c t, PhiS_zero m c _ _ hz, PhiA0_eq]
      rw [outsAt0_A m c t h]
      unfold outA; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA m c t h).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%e13, H13⟩, ⟨%e14, H14⟩, HS0, HS1, ⟨%es2, HS2⟩, ⟨%es3, HS3⟩⟩
      isplitl [HS0 HS1 HS2 HS3 Hg]
      · isplitl [HS0 HS1 HS2 HS3]
        · isplitl [HS0]; · iexact HS0
          isplitl [HS1]; · iexact HS1
          isplitl [HS2]
          · unfold owns; iexists _; isplitr
            swap; · iexact HS2
            ipureintro; exact View.read_writes_of_cover _ _ _ _ _ (coverA_s2 m c t h)
          unfold owns; iexists _; isplitr
          swap; · iexact HS3
          ipureintro; exact View.read_writes_of_cover _ _ _ _ _ (coverA_s3 m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h)
      unfold owns; iexists _; isplitr
      swap; · iexact H14
      ipureintro; exact View.read_writes_of_cover _ _ _ _ _ (coverA_14 m c t h)
    · rw [PhiS_castSucc m c t, PhiS_pos m c _ _ hz]
      rw [outsAt0_A m c t h]
      unfold outA; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA m c t h).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      isplitl [HS2]; · iexists _; iexact HS2
      isplitl [HS3]; · iexists _; iexact HS3
      iintro ⟨H0, H1, H2, H3, H4, H5, H6, H7, H8, H9, H10, H11, H12, ⟨%e13, H13⟩, ⟨%e14, H14⟩, HS0, HS1, ⟨%es2, HS2⟩, ⟨%es3, HS3⟩⟩
      isplitl [HS0 HS1 HS2 HS3 Hg]
      · isplitl [HS0 HS1 HS2 HS3]
        · isplitl [HS0]; · iexact HS0
          isplitl [HS1]; · iexact HS1
          isplitl [HS2]
          · unfold owns; iexists _; isplitr
            swap; · iexact HS2
            ipureintro; exact View.read_writes_of_cover _ _ _ _ _ (coverA_s2 m c t h)
          unfold owns; iexists _; isplitr
          swap; · iexact HS3
          ipureintro; exact View.read_writes_of_cover _ _ _ _ _ (coverA_s3 m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h)
      unfold owns; iexists _; isplitr
      swap; · iexact H14
      ipureintro; exact View.read_writes_of_cover _ _ _ _ _ (coverA_14 m c t h)
  · by_cases hz : t.val = 0
    · exfalso; omega
    · rw [PhiS_castSucc m c t, PhiS_pos m c _ _ hz]
      rw [outsAt0_B m c t h]
      unfold outB; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB m c t h _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%e13, H13⟩, ⟨%e14, H14⟩, HS0, HS1, ⟨%es2, HS2⟩, ⟨%es3, HS3⟩⟩
      isplitl [HS0 HS1 HS2 HS3 Hg]
      · isplitl [HS0 HS1 HS2 HS3]
        · isplitl [HS0]; · iexact HS0
          isplitl [HS1]; · iexact HS1
          isplitl [HS2]
          · unfold owns; iexists _; isplitr
            swap; · iexact HS2
            ipureintro; exact View.read_writes_of_cover _ _ _ _ _ (coverB_s2 m c t h _ _)
          unfold owns; iexists _; isplitr
          swap; · iexact HS3
          ipureintro; exact View.read_writes_of_cover _ _ _ _ _ (coverB_s3 m c t h _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB_13 m c t h _ _)
      unfold owns; iexists _; isplitr
      swap; · iexact H14
      ipureintro; exact View.read_writes_of_cover _ _ _ _ _ (coverB_14 m c t h _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The run, to every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs from any memory, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

/-- Both result arrays at the end are what the points' blocks make of them. -/
theorem run_blocks : θ_run defs (onTc (τ := τ) (main (F := F))) ⟨m, fun _ => 0, ρ⟩ (fun r => ∀ c : Dev nD,
      r.2.mem ((c.tc : Thread nD τ).loc main_v18_0) = (dats m 0 c).arrAt 13 cfg0.N
      ∧ r.2.mem ((c.tc : Thread nD τ).loc main_v18_1) = (dats m 0 c).arrAt 14 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) := by
  have h1 : θ_run defs (onTc (τ := τ) (main (F := F))) ⟨m, fun _ => 0, ρ⟩ (fun r => ∀ c : Dev nD,
      r.2.mem ((c.tc : Thread nD τ).loc main_v18_0) = (dats m 0 c).arrAt 13 cfg0.N
      ∧ r.2.mem ((c.tc : Thread nD τ).loc main_v18_1) = (dats m 0 c).arrAt 14 cfg0.N) :=
    (θ_run defs _ _).mono (fun r h c => ⟨(h c).1 13, (h c).1 14⟩) (run_main m ρ)
  exact (θ_run defs _ _).mono (fun _ h c => ⟨(h.1 c).1, (h.1 c).2, h.2.1 c⟩) (θ_run_and h1 (frame m ρ))

end Cert.KernelIdeal.Lru

end
-- ==== Proof.LruScalar.lean ====
module

public import Idealize.ShloMosaic.Lib.Pipeline.ValueKit
public import Idealize.ShloMosaic.Lib.Pointwise
public import Mathlib.Analysis.SpecialFunctions.Trigonometric.DerivHyp

@[expose] public section

noncomputable section

/-! The recurrence's coefficients at one entry: with the logistic function, the exponential and the square root as the
layer has them, and with the hyperbolic tangent, the power of two and the reciprocal square root. -/

namespace Cert.Lru

open Idealize.ShloMosaic

/-- The logistic function, spelled out. -/
def sg (x : EReal) : EReal := Ideal.div 1 (1 + Ideal.exp (-x))

/-- The softplus, with its largest part taken out. -/
def sp (x : EReal) : EReal := max x 0 + Ideal.log (1 + Ideal.exp (-(max x (-x))))

/-- The logarithm of the decay. -/
def logA (R l : EReal) : EReal := (((-8 : ℝ) : EReal) * sp (-l)) * sg R

/-- The decay. -/
def aR (R l : EReal) : EReal := Ideal.exp (logA R l)

/-- The gated input. -/
def uR (R I l x : EReal) : EReal := Ideal.sqrt (-(Ideal.exp (((2 : ℝ) : EReal) * logA R l) - 1)) * (sg I * x)

/-- The decay, with a power of two and a hyperbolic tangent. -/
def aK (κ p l : EReal) : EReal := Ideal.exp2 (κ * sp (-l) + κ * sp (-l) * Ideal.tanh p)

/-- The gated input, with a reciprocal square root and a hyperbolic tangent. -/
def uK (κ p q l x : EReal) : EReal :=
  (if 0 < 1 - aK κ p l * aK κ p l then ((1 / 2 : ℝ) : EReal) * (1 - aK κ p l * aK κ p l) * Ideal.rsqrt (1 - aK κ p l * aK κ p l) else 0)
    * ((1 + Ideal.tanh q) * x)

theorem real_sg (r : ℝ) : 1 + Real.tanh (1 / 2 * r) = 2 * (1 + Real.exp (-r))⁻¹ := by
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  have hp := Real.exp_pos (1 / 2 * r)
  rw [Real.tanh_eq_sinh_div_cosh, Real.sinh_eq, Real.cosh_eq, h1, h2]
  field_simp
  ring

/-- One and the hyperbolic tangent of a half is twice the logistic function. -/
theorem tanh_half (R : EReal) : ∃ s : ℝ, 0 ≤ s ∧ sg R = (s : EReal) ∧ 1 + Ideal.tanh (((1 / 2 : ℝ) : EReal) * R) = ((2 * s : ℝ) : EReal)
    ∧ Ideal.tanh (((1 / 2 : ℝ) : EReal) * R) = ((2 * s - 1 : ℝ) : EReal) := by
  induction R with
  | bot =>
    refine ⟨0, le_rfl, ?_, ?_, ?_⟩
    · show Ideal.div 1 (1 + Ideal.exp (-⊥)) = _
      rw [EReal.neg_bot]
      show Ideal.div 1 (1 + ⊤) = _
      rw [show (1 : EReal) + ⊤ = ⊤ from EReal.coe_add_top 1]
      simp [Ideal.div]
    · rw [EReal.coe_mul_bot_of_pos (by norm_num)]
      show ((1 : ℝ) : EReal) + ((-1 : ℝ) : EReal) = _
      rw [← EReal.coe_add]; norm_num
    · rw [EReal.coe_mul_bot_of_pos (by norm_num)]
      show (-1 : EReal) = _
      norm_num
  | top =>
    refine ⟨1, zero_le_one, ?_, ?_, ?_⟩
    · show Ideal.div 1 (1 + Ideal.exp (-⊤)) = _
      rw [EReal.neg_top]
      show Ideal.div 1 (1 + 0) = _
      simp [Ideal.div]
    · rw [EReal.coe_mul_top_of_pos (by norm_num)]
      show (1 : EReal) + 1 = _
      norm_cast
    · rw [EReal.coe_mul_top_of_pos (by norm_num)]
      show (1 : EReal) = _
      norm_num
  | coe r =>
    have hp : 0 < 1 + Real.exp (-r) := by have := Real.exp_pos (-r); linarith
    refine ⟨(1 + Real.exp (-r))⁻¹, (inv_pos.mpr hp).le, ?_, ?_, ?_⟩
    · show Ideal.div 1 (1 + Ideal.exp (-(r : EReal))) = _
      rw [← EReal.coe_neg]
      show Ideal.div 1 (1 + (Real.exp (-r) : EReal)) = _
      rw [← EReal.coe_one, ← EReal.coe_add]
      unfold Ideal.div
      rw [if_neg (by exact_mod_cast hp.ne'), EReal.coe_one, one_mul, EReal.coe_inv]
    · rw [← EReal.coe_mul]
      show (1 : EReal) + (Real.tanh (1 / 2 * r) : EReal) = _
      rw [← EReal.coe_one, ← EReal.coe_add, real_sg]
    · rw [← EReal.coe_mul]
      show (Real.tanh (1 / 2 * r) : EReal) = _
      rw [← real_sg]; congr 1; ring

/-- The softplus of anything but `+∞` is a number, not negative. -/
theorem sp_real (x : EReal) (hx : x ≠ ⊤) : ∃ s : ℝ, 0 ≤ s ∧ sp x = (s : EReal) := by
  induction x with
  | bot =>
    refine ⟨0, le_rfl, ?_⟩
    unfold sp
    rw [EReal.neg_bot, max_eq_right bot_le, max_eq_right bot_le, EReal.neg_top]
    show (0 : EReal) + Ideal.log (1 + 0) = _
    rw [add_zero, ← EReal.coe_one]
    show (0 : EReal) + (if (1 : ℝ) ≤ 0 then ⊥ else (Real.log 1 : EReal)) = _
    rw [if_neg (by norm_num), Real.log_one]; simp
  | top => exact absurd rfl hx
  | coe r =>
    have hp := Real.exp_pos (-(max r (-r)))
    refine ⟨max r 0 + Real.log (1 + Real.exp (-(max r (-r)))), add_nonneg (le_max_right _ _) (Real.log_nonneg (by linarith)), ?_⟩
    unfold sp
    have e1 : max (r : EReal) (-(r : EReal)) = ((max r (-r) : ℝ) : EReal) := by rw [← EReal.coe_neg]; exact (EReal.coe_strictMono.monotone.map_max).symm
    have e2 : max (r : EReal) 0 = ((max r 0 : ℝ) : EReal) := by rw [← EReal.coe_zero]; exact (EReal.coe_strictMono.monotone.map_max).symm
    rw [e1, e2, ← EReal.coe_neg]
    show _ + Ideal.log (1 + (Real.exp (-(max r (-r))) : EReal)) = _
    rw [← EReal.coe_one, ← EReal.coe_add]
    show _ + (if (1 + Real.exp (-(max r (-r)))) ≤ 0 then ⊥ else (Real.log (1 + Real.exp (-(max r (-r)))) : EReal)) = _
    rw [if_neg (by linarith), ← EReal.coe_add]

theorem neg_ne_top {l : EReal} (hl : l ≠ ⊥) : -l ≠ ⊤ := fun h => hl (by rw [← neg_neg l, h, EReal.neg_top])

/-- The decay is a number between nought and one. -/
theorem aR_real (R l : EReal) (hl : l ≠ ⊥) : ∃ s e : ℝ, 0 ≤ s ∧ 0 ≤ e ∧ sg R = (s : EReal) ∧ sp (-l) = (e : EReal) ∧ logA R l = ((-8 * e * s : ℝ) : EReal)
    ∧ aR R l = (Real.exp (-8 * e * s) : EReal) := by
  obtain ⟨s, hs, e1, -, -⟩ := tanh_half R
  obtain ⟨e, he, e2⟩ := sp_real (-l) (neg_ne_top hl)
  have e3 : logA R l = ((-8 * e * s : ℝ) : EReal) := by unfold logA; rw [e1, e2, ← EReal.coe_mul, ← EReal.coe_mul]
  exact ⟨s, e, hs, he, e1, e2, e3, by unfold aR; rw [e3]; rfl⟩

theorem aR_fin (R l : EReal) (hl : l ≠ ⊥) : 0 ≤ aR R l ∧ aR R l ≠ ⊤ := by
  obtain ⟨s, e, -, -, -, -, -, h⟩ := aR_real R l hl
  rw [h]
  exact ⟨by exact_mod_cast (Real.exp_pos _).le, EReal.coe_ne_top _⟩

/-- The two decays agree. -/
theorem aK_eq {κ : EReal} (hκ : κ = (((-4) * (Real.log 2)⁻¹ : ℝ) : EReal)) (R l : EReal) (hl : l ≠ ⊥) :
    aK κ (((1 / 2 : ℝ) : EReal) * R) l = aR R l := by
  subst hκ
  obtain ⟨s, e, hs, he, e1, e2, -, h⟩ := aR_real R l hl
  obtain ⟨s', hs', e1', -, e3⟩ := tanh_half R
  have : s' = s := by rw [e1] at e1'; exact_mod_cast e1'.symm
  subst this
  rw [h]
  unfold aK
  rw [e2, e3, ← EReal.coe_mul, ← EReal.coe_mul, ← EReal.coe_add]
  show (((2 : ℝ) ^ (_ : ℝ) : ℝ) : EReal) = _
  rw [Real.rpow_def_of_pos (by norm_num : (0 : ℝ) < 2)]
  have hl2 : Real.log 2 ≠ 0 := (Real.log_pos (by norm_num)).ne'
  congr 2
  field_simp
  ring

/-- The two gated inputs agree. -/
theorem uK_eq {κ : EReal} (hκ : κ = (((-4) * (Real.log 2)⁻¹ : ℝ) : EReal)) (R I l x : EReal) (hl : l ≠ ⊥) :
    uK κ (((1 / 2 : ℝ) : EReal) * R) (((1 / 2 : ℝ) : EReal) * I) l x = uR R I l x := by
  unfold uK
  rw [aK_eq hκ R l hl]
  obtain ⟨s, e, hs, he, e1, e2, e3, h⟩ := aR_real R l hl
  obtain ⟨i, hi, i1, i2, -⟩ := tanh_half I
  unfold uR
  rw [h, e3, i1, i2]
  have hE : Ideal.exp (((2 : ℝ) : EReal) * ((-8 * e * s : ℝ) : EReal)) = ((Real.exp (-8 * e * s) * Real.exp (-8 * e * s) : ℝ) : EReal) := by
    rw [← EReal.coe_mul, ← Real.exp_add]
    show (Real.exp _ : EReal) = _
    congr 2; ring
  rw [hE]
  have ha0 := Real.exp_pos (-8 * e * s)
  have ha1 : Real.exp (-8 * e * s) ≤ 1 := Real.exp_le_one_iff.mpr (by have := mul_nonneg he hs; nlinarith)
  generalize Real.exp (-8 * e * s) = a at *
  have hy : (1 : EReal) - (a : EReal) * (a : EReal) = ((1 - a * a : ℝ) : EReal) := by
    rw [← EReal.coe_mul, ← EReal.coe_one, ← EReal.coe_sub]
  have hy' : -(((a * a : ℝ) : EReal) - 1) = ((1 - a * a : ℝ) : EReal) := by
    rw [← EReal.coe_one, ← EReal.coe_sub, ← EReal.coe_neg]; congr 1; ring
  rw [hy, hy']
  have hn : 0 ≤ 1 - a * a := by nlinarith
  generalize 1 - a * a = y at *
  have hs1 : Ideal.sqrt (y : EReal) = (Real.sqrt y : EReal) := by
    show (if y < 0 then ⊥ else (Real.sqrt y : EReal)) = _
    rw [if_neg (by linarith)]
  rw [hs1]
  rcases hn.lt_or_eq with hpos | h0
  · have hr : Ideal.rsqrt (y : EReal) = ((Real.sqrt y)⁻¹ : ℝ) := by
      show (if y < 0 then ⊥ else if y = 0 then ⊤ else (((Real.sqrt y)⁻¹ : ℝ) : EReal)) = _
      rw [if_neg (by linarith), if_neg hpos.ne']
    rw [if_pos (by exact_mod_cast hpos), hr, ← EReal.coe_mul, ← EReal.coe_mul]
    have hq := Real.sqrt_pos.mpr hpos
    have e4 : (1 / 2 * y * (Real.sqrt y)⁻¹ : ℝ) = 1 / 2 * Real.sqrt y := by
      have := Real.mul_self_sqrt hn
      field_simp
      nlinarith
    rw [e4, ← mul_assoc, ← mul_assoc, ← EReal.coe_mul, ← EReal.coe_mul]
    congr 2; ring
  · rw [← h0, Real.sqrt_zero, if_neg (by simp), EReal.coe_zero, zero_mul, zero_mul]

end Cert.Lru

end

end
-- ==== Proof.LruSpec.lean ====
module

public import Idealize.ShloMosaic.Lib.Pointwise
public import proofs.«01_k».proof.Proof.LruScalar

@[expose] public section

set_option maxRecDepth 16384

noncomputable section

/-! The recurrence's coefficients, entry by entry: the depthwise convolution, the two gates of a direction, the decay and
    the gated input. -/

namespace Cert.Lru

open Idealize.ShloMosaic

/-- The first column block of the input, padded by two rows of zeros before and one behind. -/
def zat (z : (⟨3, ![4, 8192, 4096]⟩ : Shape).Idx → EReal) (b : Fin 4) (t : Nat) (l : Fin 1024) : EReal :=
  if h : 2 ≤ t ∧ t < 8194 then z (ix3 b ⟨t - 2, by omega⟩ ⟨l.val, by omega⟩) else 0

/-- The depthwise convolution of four taps. -/
def xc (z : (⟨3, ![4, 8192, 4096]⟩ : Shape).Idx → EReal) (w : (⟨3, ![1, 4, 1024]⟩ : Shape).Idx → EReal) (bi : (⟨2, ![1, 1024]⟩ : Shape).Idx → EReal)
    (b : Fin 4) (t : Nat) (l : Fin 1024) : EReal :=
  bi (ix2 0 l) + zat z b t l * w (ix3 0 0 l) + zat z b (t + 1) l * w (ix3 0 1 l) + zat z b (t + 2) l * w (ix3 0 2 l) + zat z b (t + 3) l * w (ix3 0 3 l)

/-- A lane of a head. -/
def lane (l : Fin 1024) (k : Fin 128) : Fin 1024 := ⟨l.val / 128 * 128 + k.val, by omega⟩

/-- A gate before its logistic: the head's product with its matrix, and the bias. -/
def gate (X : Fin 1024 → EReal) (W : (⟨5, ![1, 2, 8, 128, 128]⟩ : Shape).Idx → EReal) (B : (⟨3, ![1, 2, 1024]⟩ : Shape).Idx → EReal)
    (d : Fin 2) (l : Fin 1024) : EReal :=
  (∑ k : Fin 128, W (ix5 0 d ⟨l.val / 128, by omega⟩ k ⟨l.val % 128, by omega⟩) * X (lane l k)) + B (ix3 0 d l)

end Cert.Lru
-- ==== Proof.LruBlock.lean ====
module

public import Idealize.ShloMosaic.Lib.Pointwise
public import proofs.«01_k».proof.Proof.Gen.KernelIdeal.Skeleton
public import proofs.«01_k».proof.Proof.LruSpec

@[expose] public section

set_option maxRecDepth 16384

noncomputable section

/-! The arithmetic of a block of rows, entry by entry: the buffer of rows with its neighbours, the convolution, the gates,
    the decay and the gated input. -/

namespace Cert.KernelIdeal.Lru

open Idealize.ShloMosaic Cert.KernelIdeal Cert.KernelIdeal.Gen Cert.Lru

/-! ### The buffer of rows -/

/-- Eight rows before, the block, eight rows behind; the outer rows are zeros at the ends. -/
def buf (c5 c12 : BitVec 1) (v5 : FVec Ideal S1x8x1024 .f32) (v9 : FVec Ideal S1x512x1024 .f32) (v12 : FVec Ideal S1x8x1024 .f32) :
    FVec Ideal S528x1024 .f32 :=
  concatenate S528x1024 0
    [⟨S8x1024, Scalar.select c5 (shapeCast S8x1024 v5 shapeCasts_S1x8x1024_S8x1024) (broadcast S8x1024 (Scalar.ofBits .f32 0x00000000#32 : Ideal .f32))⟩,
     ⟨S512x1024, shapeCast S512x1024 v9 shapeCasts_S1x512x1024_S512x1024⟩,
     ⟨S8x1024, Scalar.select c12 (shapeCast S8x1024 v12 shapeCasts_S1x8x1024_S8x1024) (broadcast S8x1024 (Scalar.ofBits .f32 0x00000000#32 : Ideal .f32))⟩]
    concatenates_S8x1024_S512x1024_S8x1024_S528x1024_d0

theorem zero_word : (Scalar.ofBits .f32 0x00000000#32 : Ideal .f32) = (0 : EReal) := by
  show Ideal.ofBits .f32 0x00000000#32 = _
  simp [Ideal.ofBits, Ideal.ieee]

theorem one_word : (Scalar.ofBits .f32 0x3F800000#32 : Ideal .f32) = (1 : EReal) := by
  show Ideal.ofBits .f32 0x3F800000#32 = _
  simp [Ideal.ofBits, Ideal.ieee, -EReal.coe_mul]; norm_num

theorem half_word : (Scalar.ofBits .f32 0x3F000000#32 : Ideal .f32) = ((1 / 2 : ℝ) : EReal) := by
  show Ideal.ofBits .f32 0x3F000000#32 = _
  simp [Ideal.ofBits, Ideal.ieee, -EReal.coe_mul]; norm_num

/-- A row of the buffer is a row of the padded sequence. -/
theorem buf_at (Z : ℕ → Fin 1024 → EReal) (j : ℕ) (hj : j < 16) (c5 c12 : BitVec 1)
    (h5c : c5 = BitVec.ofBool (decide (0 < j))) (h12c : c12 = BitVec.ofBool (decide (j < 15)))
    (v5 : FVec Ideal S1x8x1024 .f32) (v9 : FVec Ideal S1x512x1024 .f32) (v12 : FVec Ideal S1x8x1024 .f32)
    (h9 : ∀ (r : Fin 512) (l : Fin 1024), v9 (ix3 0 r l) = Z (512 * j + r.val + 2) l)
    (h5 : 0 < j → ∀ (r : Fin 8) (l : Fin 1024), v5 (ix3 0 r l) = Z (512 * j + r.val - 6) l)
    (h12 : j < 15 → ∀ (r : Fin 8) (l : Fin 1024), v12 (ix3 0 r l) = Z (512 * j + 514 + r.val) l)
    (z0 : ∀ l, Z 0 l = 0) (z1 : ∀ l, Z 1 l = 0) (z2 : ∀ l, Z 8194 l = 0)
    (q : Fin 528) (l : Fin 1024) (h6 : 6 ≤ q.val) (h520 : q.val ≤ 520) :
    buf c5 c12 v5 v9 v12 (ix2 q l) = Z (512 * j + q.val - 6) l := by
  unfold buf
  rw [concatenate_cons_apply, concatenateAt_cons]
  split
  · rename_i hq'
    have hq : q.val < 8 := hq'
    by_cases h : 0 < j
    · rw [h5c, decide_eq_true h]
      refine Eq.trans ?_ (h5 h ⟨q.val, hq⟩ l)
      refine shapeCast_apply v5 _ _ (ix3 0 ⟨q.val, hq⟩ l) ?_
      show (S1x8x1024.rowMajor (ix3 0 ⟨q.val, hq⟩ l)).val = (S8x1024.rowMajor _).val
      rw [Shape.rowMajor_val_two, Shape.rowMajor_val_three]
      show (0 * 8 + q.val) * 1024 + l.val = q.val * 1024 + l.val
      omega
    · rw [h5c, decide_eq_false h]
      refine Eq.trans zero_word ?_
      obtain rfl : j = 0 := by omega
      have : q.val = 6 ∨ q.val = 7 := by omega
      rcases this with e | e <;> rw [e]
      · exact (z0 l).symm
      · exact (z1 l).symm
  · rename_i hq'
    have hq : ¬ q.val < 8 := hq'
    rw [concatenateAt_cons]
    split
    · rename_i hq2'
      have hq2 : q.val - 8 < 512 := hq2'
      refine Eq.trans ?_ ((h9 ⟨q.val - 8, by omega⟩ l).trans (congrArg (Z · l) (show 512 * j + (q.val - 8) + 2 = 512 * j + q.val - 6 by omega)))
      refine shapeCast_apply v9 _ _ (ix3 0 ⟨q.val - 8, by omega⟩ l) ?_
      show (S1x512x1024.rowMajor (ix3 0 ⟨q.val - 8, _⟩ l)).val = (S512x1024.rowMajor _).val
      rw [Shape.rowMajor_val_two, Shape.rowMajor_val_three]
      show (0 * 512 + (q.val - 8)) * 1024 + l.val = (q.val - 8) * 1024 + l.val
      omega
    · rename_i hq2'
      have hq2 : ¬ q.val - 8 < 512 := hq2'
      rw [concatenateAt_singleton]
      have e : q.val = 520 := by omega
      by_cases h : j < 15
      · rw [h12c, decide_eq_true h]
        refine Eq.trans ?_ ((h12 h ⟨0, by omega⟩ l).trans (congrArg (Z · l) (show 512 * j + 514 + 0 = 512 * j + q.val - 6 by omega)))
        refine shapeCast_apply v12 _ _ (ix3 0 ⟨0, by omega⟩ l) ?_
        show (S1x8x1024.rowMajor (ix3 0 ⟨0, _⟩ l)).val = (S8x1024.rowMajor _).val
        rw [Shape.rowMajor_val_two, Shape.rowMajor_val_three]
        show (0 * 8 + 0) * 1024 + l.val = (q.val - 8 - 512) * 1024 + l.val
        omega
      · rw [h12c, decide_eq_false h]
        refine Eq.trans zero_word ?_
        obtain rfl : j = 15 := by omega
        rw [e]
        exact (z2 l).symm

/-! ### The convolution -/

theorem rot_at (w : BitVec 32) (n : ℕ) (hw : w.toNat = n) (hn : n < 528) (x : FVec Ideal S528x1024 .f32) (r k : Fin 528) (c : Fin 1024)
    (hk : k.val = (r.val + 528 - n) % 528) :
    dynamicRotate 0 w none x rotates_S528x1024_d0 (ix2 r c) = x (ix2 k c) := by
  refine congrArg x (funext fun b => ?_)
  match b with
  | ⟨0, _⟩ =>
    apply Fin.ext
    show (r.val + 528 - (w.toNat + 0) % 528) % 528 = k.val
    rw [hw, hk]; omega
  | ⟨1, _⟩ => rfl

/-- The block's rows of the buffer, displaced. -/
def tapK (w : BitVec 32) (X : FVec Ideal S528x1024 .f32) : FVec Ideal S512x1024 .f32 :=
  extractStridedSlice S512x1024 ![8, 0] (dynamicRotate 0 w none X rotates_S528x1024_d0) slices_S528x1024_o8_0_S512x1024

theorem tapK_at (w : BitVec 32) (n : ℕ) (hw : w.toNat = n) (hn : n < 528) (X : FVec Ideal S528x1024 .f32) (r : Fin 512) (l : Fin 1024)
    (k : Fin 528) (hk : k.val = (r.val + 8 + 528 - n) % 528) : tapK w X (ix2 r l) = X (ix2 k l) := by
  unfold tapK
  refine (extractStridedSlice_apply ![8, 0] _ _ (ix2 r l) (ix2 (⟨r.val + 8, by have := r.isLt; omega⟩ : Fin 528) l) (fun a => match a with
    | ⟨0, _⟩ => Nat.add_comm _ _
    | ⟨1, _⟩ => (Nat.zero_add _).symm)).trans ?_
  exact rot_at w n hw hn X ⟨r.val + 8, by have := r.isLt; omega⟩ k l hk

/-- The convolution of a block. -/
def convK (X : FVec Ideal S528x1024 .f32) (b w0 w1 w2 w3 : FVec Ideal S1x1024 .f32) : FVec Ideal S512x1024 .f32 :=
  addf (addf (addf (addf
    (addf (broadcastTo S512x1024 (shapeCast S1x1024 b shapeCasts_S1x1024_S1x1024) broadcasts_S1x1024_S512x1024)
      (broadcast S512x1024 (Scalar.ofBits .f32 0x00000000#32)))
    (mulf (tapK 2#32 X) (broadcastTo S512x1024 (shapeCast S1x1024 w0 shapeCasts_S1x1024_S1x1024) broadcasts_S1x1024_S512x1024)))
    (mulf (tapK 1#32 X) (broadcastTo S512x1024 (shapeCast S1x1024 w1 shapeCasts_S1x1024_S1x1024) broadcasts_S1x1024_S512x1024)))
    (mulf (extractStridedSlice S512x1024 ![8, 0] X slices_S528x1024_o8_0_S512x1024)
      (broadcastTo S512x1024 (shapeCast S1x1024 w2 shapeCasts_S1x1024_S1x1024) broadcasts_S1x1024_S512x1024)))
    (mulf (tapK 527#32 X) (broadcastTo S512x1024 (shapeCast S1x1024 w3 shapeCasts_S1x1024_S1x1024) broadcasts_S1x1024_S512x1024))

theorem convK_at (X : FVec Ideal S528x1024 .f32) (b w0 w1 w2 w3 : FVec Ideal S1x1024 .f32) (r : Fin 512) (l : Fin 1024) :
    (convK X b w0 w1 w2 w3 (ix2 r l) : EReal)
      = b (ix2 0 l) + X (ix2 ⟨r.val + 6, by omega⟩ l) * w0 (ix2 0 l) + X (ix2 ⟨r.val + 7, by omega⟩ l) * w1 (ix2 0 l)
        + X (ix2 ⟨r.val + 8, by omega⟩ l) * w2 (ix2 0 l) + X (ix2 ⟨r.val + 9, by omega⟩ l) * w3 (ix2 0 l) := by
  have t0 := tapK_at 2#32 2 rfl (by norm_num) X r l ⟨r.val + 6, by omega⟩ (by show r.val + 6 = (r.val + 8 + 528 - 2) % 528; have := r.isLt; omega)
  have t1 := tapK_at 1#32 1 rfl (by norm_num) X r l ⟨r.val + 7, by omega⟩ (by show r.val + 7 = (r.val + 8 + 528 - 1) % 528; have := r.isLt; omega)
  have t3 := tapK_at 527#32 527 rfl (by norm_num) X r l ⟨r.val + 9, by omega⟩ (by show r.val + 9 = (r.val + 8 + 528 - 527) % 528; have := r.isLt; omega)
  have t2 := extractStridedSlice_apply ![8, 0] X slices_S528x1024_o8_0_S512x1024 (ix2 r l) (ix2 (⟨r.val + 8, by have := r.isLt; omega⟩ : Fin 528) l) (fun a => match a with
    | ⟨0, _⟩ => Nat.add_comm _ _
    | ⟨1, _⟩ => (Nat.zero_add _).symm)
  have hb : ∀ v : FVec Ideal S1x1024 .f32,
      broadcastTo S512x1024 (shapeCast S1x1024 v shapeCasts_S1x1024_S1x1024) broadcasts_S1x1024_S512x1024 (ix2 r l) = v (ix2 0 l) := by
    intro v
    pointwise []
  show (((((broadcastTo S512x1024 (shapeCast S1x1024 b shapeCasts_S1x1024_S1x1024) broadcasts_S1x1024_S512x1024 (ix2 r l) : EReal)
      + (Scalar.ofBits .f32 0x00000000#32 : Ideal .f32)) + tapK 2#32 X (ix2 r l) * _) + tapK 1#32 X (ix2 r l) * _) + _ * _) + tapK 527#32 X (ix2 r l) * _ = _
  rw [t0, t1, t2, t3, hb b, hb w0, hb w1, hb w2, hb w3, zero_word, add_zero]

theorem conv_fwd (i : grid0.Coords) (v5 : FVec Ideal S1x8x1024 .f32) (v9 : FVec Ideal S1x512x1024 .f32) (v12 : FVec Ideal S1x8x1024 .f32)
    (b w0 w1 w2 w3 : FVec Ideal S1x1024 .f32) :
    k0_pay26 (F := Ideal) (k0_pay22 i v5 v9 v12) (k0_pay23 i v5 v9 v12 b w0) (k0_pay24 i v5 v9 v12) (k0_pay25 w1) w2 w3
      = convK (buf (Scalar.cmpi .sgt (BitVec.ofNat 32 (i 1).val) 0#32) (Scalar.cmpi .slt (BitVec.ofNat 32 (i 1).val) 15#32) v5 v9 v12) b w0 w1 w2 w3 := rfl

theorem conv_bwd (a : BitVec 32) (v5 : FVec Ideal S1x8x1024 .f32) (v9 : FVec Ideal S1x512x1024 .f32) (v12 : FVec Ideal S1x8x1024 .f32)
    (b w0 w1 w2 w3 : FVec Ideal S1x1024 .f32) :
    k0_pay50 (F := Ideal) (k0_pay46 a v5 v9 v12) (k0_pay47 b) (k0_pay48 a v5 v9 v12) (k0_pay49 w0) w1 w2 w3
      = convK (buf (Scalar.cmpi .sgt (Scalar.subi 15#32 a) 0#32) (Scalar.cmpi .slt (Scalar.subi 15#32 a) 15#32) v5 v9 v12) b w0 w1 w2 w3 := rfl

theorem c5_fwd : ∀ n : Fin 16, Scalar.cmpi .sgt (BitVec.ofNat 32 n.val) 0#32 = BitVec.ofBool (decide (0 < n.val)) := by decide +kernel
theorem c12_fwd : ∀ n : Fin 16, Scalar.cmpi .slt (BitVec.ofNat 32 n.val) 15#32 = BitVec.ofBool (decide (n.val < 15)) := by decide +kernel
theorem c5_bwd : ∀ n : Fin 16, Scalar.cmpi .sgt (Scalar.subi 15#32 (BitVec.ofNat 32 n.val)) 0#32 = BitVec.ofBool (decide (0 < 15 - n.val)) := by decide +kernel
theorem c12_bwd : ∀ n : Fin 16, Scalar.cmpi .slt (Scalar.subi 15#32 (BitVec.ofNat 32 n.val)) 15#32 = BitVec.ofBool (decide (15 - n.val < 15)) := by decide +kernel

/-! ### The gates -/

/-- A head's product. -/
def headK (x : FVec Ideal S512x128 .bf16) (w : FVec Ideal S1x1x128x128 .bf16) : FVec Ideal S512x128 .f32 :=
  matmul dot_S512x128_S128x128_S512x128_1_0_0_1_n_n none x (shapeCast S128x128 w shapeCasts_S1x1x128x128_S128x128) (constant S512x128 .f32 0x00000000#32)

theorem headK_at (x : FVec Ideal S512x128 .bf16) (w : FVec Ideal S1x1x128x128 .bf16) (r : Fin 512) (c : Fin 128) :
    (headK x w (ix2 r c) : EReal) = ∑ k : Fin 128, x (ix2 r k) * w (ix4 0 0 k c) := by
  pointwise [headK]

/-- A gate of a block. -/
def gateK (x : FVec Ideal S512x1024 .bf16) (W : Fin 8 → FVec Ideal S1x1x128x128 .bf16) (b : FVec Ideal S1x1024 .f32) : FVec Ideal S512x1024 .f32 :=
  addf (concatenate S512x1024 1
    [⟨S512x128, headK (extractStridedSlice S512x128 ![0, 0] x slices_S512x1024_o0_0_S512x128) (W 0)⟩,
     ⟨S512x128, headK (extractStridedSlice S512x128 ![0, 128] x slices_S512x1024_o0_128_S512x128) (W 1)⟩,
     ⟨S512x128, headK (extractStridedSlice S512x128 ![0, 256] x slices_S512x1024_o0_256_S512x128) (W 2)⟩,
     ⟨S512x128, headK (extractStridedSlice S512x128 ![0, 384] x slices_S512x1024_o0_384_S512x128) (W 3)⟩,
     ⟨S512x128, headK (extractStridedSlice S512x128 ![0, 512] x slices_S512x1024_o0_512_S512x128) (W 4)⟩,
     ⟨S512x128, headK (extractStridedSlice S512x128 ![0, 640] x slices_S512x1024_o0_640_S512x128) (W 5)⟩,
     ⟨S512x128, headK (extractStridedSlice S512x128 ![0, 768] x slices_S512x1024_o0_768_S512x128) (W 6)⟩,
     ⟨S512x128, headK (extractStridedSlice S512x128 ![0, 896] x slices_S512x1024_o0_896_S512x128) (W 7)⟩]
    concatenates_S512x128_S512x128_S512x128_S512x128_S512x128_S512x128_S512x128_S512x128_S512x1024_d1)
    (broadcastTo S512x1024 (shapeCast S1x1024 b shapeCasts_S1x1024_S1x1024) broadcasts_S1x1024_S512x1024)

/-- Eight pieces side by side. -/
theorem pieces_at (p : Fin 8 → FVec Ideal S512x128 .f32) (r : Fin 512) (l : Fin 1024) :
    concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
      concatenates_S512x128_S512x128_S512x128_S512x128_S512x128_S512x128_S512x128_S512x128_S512x1024_d1 (ix2 r l)
      = p ⟨l.val / 128, by omega⟩ (ix2 r ⟨l.val % 128, by omega⟩) := by
  have key : ∀ (n : Fin 8) (c : ℕ) (hc : c < 128) (hl : l.val = n.val * 128 + c) (j : S512x128.Idx) (hj0 : (j 0).val = r.val) (hj1 : (j 1).val = c),
      p n j = p ⟨l.val / 128, by omega⟩ (ix2 r ⟨l.val % 128, by omega⟩) := by
    intro n c hc hl j hj0 hj1
    have e : n = ⟨l.val / 128, by omega⟩ := Fin.ext (by show n.val = l.val / 128; omega)
    have e' : j = ix2 r ⟨l.val % 128, by omega⟩ := funext fun a => match a with
      | ⟨0, _⟩ => Fin.ext hj0
      | ⟨1, _⟩ => Fin.ext (hj1.trans (by show c = l.val % 128; omega))
    exact (congrArg (p n) e').trans (congrArg (fun m => p m _) e)
  rw [concatenate_cons_apply]
  rw [concatenateAt_cons]
  split
  · rename_i h
    exact key 0 (l.val) h (by have h' : l.val < 128 := h; show l.val = 0 * 128 + (l.val); omega) _ rfl rfl
  rename_i h0'
  have h0 : ¬ l.val < 128 := h0'
  rw [concatenateAt_cons]
  split
  · rename_i h
    exact key 1 (l.val - 128) h (by have h' : l.val - 128 < 128 := h; show l.val = 1 * 128 + (l.val - 128); omega) _ rfl rfl
  rename_i h1'
  have h1 : ¬ l.val - 128 < 128 := h1'
  rw [concatenateAt_cons]
  split
  · rename_i h
    exact key 2 (l.val - 128 - 128) h (by have h' : l.val - 128 - 128 < 128 := h; show l.val = 2 * 128 + (l.val - 128 - 128); omega) _ rfl rfl
  rename_i h2'
  have h2 : ¬ l.val - 128 - 128 < 128 := h2'
  rw [concatenateAt_cons]
  split
  · rename_i h
    exact key 3 (l.val - 128 - 128 - 128) h (by have h' : l.val - 128 - 128 - 128 < 128 := h; show l.val = 3 * 128 + (l.val - 128 - 128 - 128); omega) _ rfl rfl
  rename_i h3'
  have h3 : ¬ l.val - 128 - 128 - 128 < 128 := h3'
  rw [concatenateAt_cons]
  split
  · rename_i h
    exact key 4 (l.val - 128 - 128 - 128 - 128) h (by have h' : l.val - 128 - 128 - 128 - 128 < 128 := h; show l.val = 4 * 128 + (l.val - 128 - 128 - 128 - 128); omega) _ rfl rfl
  rename_i h4'
  have h4 : ¬ l.val - 128 - 128 - 128 - 128 < 128 := h4'
  rw [concatenateAt_cons]
  split
  · rename_i h
    exact key 5 (l.val - 128 - 128 - 128 - 128 - 128) h (by have h' : l.val - 128 - 128 - 128 - 128 - 128 < 128 := h; show l.val = 5 * 128 + (l.val - 128 - 128 - 128 - 128 - 128); omega) _ rfl rfl
  rename_i h5'
  have h5 : ¬ l.val - 128 - 128 - 128 - 128 - 128 < 128 := h5'
  rw [concatenateAt_cons]
  split
  · rename_i h
    exact key 6 (l.val - 128 - 128 - 128 - 128 - 128 - 128) h (by have h' : l.val - 128 - 128 - 128 - 128 - 128 - 128 < 128 := h; show l.val = 6 * 128 + (l.val - 128 - 128 - 128 - 128 - 128 - 128); omega) _ rfl rfl
  rename_i h6'
  have h6 : ¬ l.val - 128 - 128 - 128 - 128 - 128 - 128 < 128 := h6'
  rw [concatenateAt_singleton]
  exact key 7 (l.val - 128 - 128 - 128 - 128 - 128 - 128 - 128) (by omega) (by show l.val = 7 * 128 + (l.val - 128 - 128 - 128 - 128 - 128 - 128 - 128); omega) _ rfl rfl

theorem gateK_at (x : FVec Ideal S512x1024 .bf16) (W : Fin 8 → FVec Ideal S1x1x128x128 .bf16) (b : FVec Ideal S1x1024 .f32) (r : Fin 512) (l : Fin 1024) :
    (gateK x W b (ix2 r l) : EReal)
      = (∑ k : Fin 128, x (ix2 r (lane l k)) * W ⟨l.val / 128, by omega⟩ (ix4 0 0 k ⟨l.val % 128, by omega⟩)) + b (ix2 0 l) := by
  have hb : broadcastTo S512x1024 (shapeCast S1x1024 b shapeCasts_S1x1024_S1x1024) broadcasts_S1x1024_S512x1024 (ix2 r l) = b (ix2 0 l) := by
    pointwise []
  have hs : ∀ n : Fin 8, ∃ h, (extractStridedSlice S512x128 ![0, 128 * n.val] x h : FVec Ideal S512x128 .bf16) = fun y => x (ix2 (y 0) ⟨128 * n.val + (y 1).val, by have := (y 1).isLt; have : (y 1).val < 128 := this; omega⟩) := by
    intro n
    have h : ∀ n : Fin 8, S512x1024.Slices ![0, 128 * n.val] S512x128 := by decide
    refine ⟨h n, funext fun y => ?_⟩
    refine extractStridedSlice_apply _ _ _ _ _ (fun a => match a with
      | ⟨0, _⟩ => (Nat.zero_add _).symm
      | ⟨1, _⟩ => rfl)
  have hp := pieces_at (fun n => headK (fun y => x (ix2 (y 0) ⟨128 * n.val + (y 1).val, by have := (y 1).isLt; have : (y 1).val < 128 := this; omega⟩)) (W n)) r l
  unfold gateK
  obtain ⟨_, e0⟩ := hs 0
  obtain ⟨_, e1⟩ := hs 1
  obtain ⟨_, e2⟩ := hs 2
  obtain ⟨_, e3⟩ := hs 3
  obtain ⟨_, e4⟩ := hs 4
  obtain ⟨_, e5⟩ := hs 5
  obtain ⟨_, e6⟩ := hs 6
  obtain ⟨_, e7⟩ := hs 7
  rw [show extractStridedSlice S512x128 ![0, 0] x slices_S512x1024_o0_0_S512x128 = _ from e0,
    show extractStridedSlice S512x128 ![0, 128] x slices_S512x1024_o0_128_S512x128 = _ from e1,
    show extractStridedSlice S512x128 ![0, 256] x slices_S512x1024_o0_256_S512x128 = _ from e2,
    show extractStridedSlice S512x128 ![0, 384] x slices_S512x1024_o0_384_S512x128 = _ from e3,
    show extractStridedSlice S512x128 ![0, 512] x slices_S512x1024_o0_512_S512x128 = _ from e4,
    show extractStridedSlice S512x128 ![0, 640] x slices_S512x1024_o0_640_S512x128 = _ from e5,
    show extractStridedSlice S512x128 ![0, 768] x slices_S512x1024_o0_768_S512x128 = _ from e6,
    show extractStridedSlice S512x128 ![0, 896] x slices_S512x1024_o0_896_S512x128 = _ from e7]
  show (concatenate S512x1024 1 _ _ (ix2 r l) : EReal) + _ = _
  rw [hb]
  refine congrArg (· + b (ix2 0 l)) (Eq.trans hp ?_)
  rw [headK_at]
  show (_ : EReal) = _
  refine Finset.sum_congr rfl fun k _ => congrArg (· * _) (congrArg x (congrArg (ix2 r) (Fin.ext ?_)))
  show 128 * (l.val / 128) + k.val = l.val / 128 * 128 + k.val
  omega

/-! ### The decay and the gated input -/

variable {κ' : EReal}

theorem aK_fwd (hκ : (Named.named κ "decay" 0xC0B8AA3B#32 : Ideal .f32) = κ') (g : FVec Ideal S512x1024 .f32) (lam : FVec Ideal S1x1024 .f32) (r : Fin 512) (l : Fin 1024) :
    (k0_pay38 (F := Ideal) g lam (ix2 r l) : EReal) = aK κ' (g (ix2 r l)) (lam (ix2 0 l)) := by
  pointwise [k0_pay38, aK, sp, hκ, zero_word, one_word]
  simp only [zero_sub]
  rfl

theorem aK_bwd (hκ : (Named.named κ "decay" 0xC0B8AA3B#32 : Ideal .f32) = κ') (g : FVec Ideal S512x1024 .f32) (lam : FVec Ideal S1x1024 .f32) (r : Fin 512) (l : Fin 1024) :
    (k0_pay66 (F := Ideal) g lam (ix2 r l) : EReal) = aK κ' (g (ix2 r l)) (lam (ix2 0 l)) := by
  pointwise [k0_pay66, aK, sp, hκ, zero_word, one_word]
  simp only [zero_sub]
  rfl

theorem a_fwd_at (hκ : (Named.named κ "decay" 0xC0B8AA3B#32 : Ideal .f32) = κ') (g : FVec Ideal S512x1024 .f32) (lam : FVec Ideal S1x1024 .f32) (r : Fin 512) (l : Fin 1024) :
    (k0_pay39 (F := Ideal) g lam (ix2 r l) : EReal) = aK κ' (g (ix2 r l)) (lam (ix2 0 l)) := by
  rw [← aK_fwd hκ]
  pointwise [k0_pay39]

theorem a_bwd_at (hκ : (Named.named κ "decay" 0xC0B8AA3B#32 : Ideal .f32) = κ') (g : FVec Ideal S512x1024 .f32) (lam : FVec Ideal S1x1024 .f32) (r : Fin 512) (l : Fin 1024) :
    (k0_pay67 (F := Ideal) g lam (ix2 r l) : EReal) = aK κ' (g (ix2 r l)) (lam (ix2 0 l)) := by
  rw [← aK_bwd hκ]
  pointwise [k0_pay67]

theorem mask_at (y : EReal) (a b : EReal) :
    Scalar.select (Ideal.cmp .ogt y 0) a b = if 0 < y then a else b := by
  unfold Scalar.select Ideal.cmp
  by_cases h : 0 < y
  · simp [h]
  · simp [h]

theorem u_fwd_at (hκ : (Named.named κ "decay" 0xC0B8AA3B#32 : Ideal .f32) = κ') (x p q : FVec Ideal S512x1024 .f32) (lam : FVec Ideal S1x1024 .f32) (r : Fin 512) (l : Fin 1024) :
    (k0_pay41 (F := Ideal) (k0_pay40 x p q lam) (ix2 r l) : EReal) = uK κ' (p (ix2 r l)) (q (ix2 r l)) (lam (ix2 0 l)) (x (ix2 r l)) := by
  have e := aK_fwd hκ p lam r l
  unfold uK
  rw [← e]
  pointwise [k0_pay41, k0_pay40, zero_word, one_word, half_word]

theorem u_bwd_at (hκ : (Named.named κ "decay" 0xC0B8AA3B#32 : Ideal .f32) = κ') (x p q : FVec Ideal S512x1024 .f32) (lam : FVec Ideal S1x1024 .f32) (r : Fin 512) (l : Fin 1024) :
    (k0_pay1 (F := Ideal) x (tanh q) (k0_pay69 p lam) (k0_pay70 p lam) k0_pay71 (ix2 r l) : EReal)
      = uK κ' (p (ix2 r l)) (q (ix2 r l)) (lam (ix2 0 l)) (x (ix2 r l)) := by
  have e := aK_bwd hκ p lam r l
  unfold uK
  rw [← e]
  pointwise [k0_pay1, k0_pay69, k0_pay70, k0_pay71, k0_pay68, zero_word, one_word, half_word]

/-! ### The halved gates -/

theorem mul_sum_nn {n : ℕ} (c : ℝ) (hc : 0 ≤ c) (f : Fin n → EReal) : (∑ k, (c : EReal) * f k) = (c : EReal) * ∑ k, f k := by
  classical
  induction (Finset.univ : Finset (Fin n)) using Finset.induction_on with
  | empty => simp
  | insert a s ha ih =>
    rw [Finset.sum_insert ha, Finset.sum_insert ha, ih, EReal.left_distrib_of_nonneg_of_ne_top (by exact_mod_cast hc) (EReal.coe_ne_top c)]

/-- With halved matrix and bias, half the gate. -/
theorem gateK_half (x : FVec Ideal S512x1024 .bf16) (W : Fin 8 → FVec Ideal S1x1x128x128 .bf16) (b : FVec Ideal S1x1024 .f32)
    (X : Fin 1024 → EReal) (W0 : (⟨5, ![1, 2, 8, 128, 128]⟩ : Shape).Idx → EReal) (B0 : (⟨3, ![1, 2, 1024]⟩ : Shape).Idx → EReal) (d : Fin 2)
    (r : Fin 512) (hx : ∀ l, (x (ix2 r l) : EReal) = X l)
    (hW : ∀ h k c, (W h (ix4 0 0 k c) : EReal) = ((1 / 2 : ℝ) : EReal) * W0 (ix5 0 d h k c))
    (hb : ∀ l, (b (ix2 0 l) : EReal) = ((1 / 2 : ℝ) : EReal) * B0 (ix3 0 d l)) (l : Fin 1024) :
    (gateK x W b (ix2 r l) : EReal) = ((1 / 2 : ℝ) : EReal) * gate X W0 B0 d l := by
  rw [gateK_at, hb]
  unfold gate
  rw [EReal.left_distrib_of_nonneg_of_ne_top (by exact_mod_cast (by norm_num : (0:ℝ) ≤ 1 / 2)) (EReal.coe_ne_top _), ← mul_sum_nn _ (by norm_num)]
  refine congrArg (· + _) ?_
  show (_ : EReal) = _
  refine Finset.sum_congr rfl fun k _ => ?_
  rw [hx, hW, mul_left_comm, mul_comm (X _)]

/-! ### The gates' text -/

section
variable (r : FVec Ideal S528x1024 .f32) (r1 r2 : FVec Ideal S512x1024 .f32) (r3 w2 w3 b : FVec Ideal S1x1024 .f32) (W : Fin 8 → FVec Ideal S1x1x128x128 .bf16)

theorem gate1_fwd :
    k0_pay33 (F := Ideal) (k0_pay27 r r1 r2 r3 w2 w3) (k0_pay28 r r1 r2 r3 w2 w3 (W 0)) (k0_pay29 r r1 r2 r3 w2 w3 (W 1)) (k0_pay30 r r1 r2 r3 w2 w3 (W 2))
      (k0_pay31 r r1 r2 r3 w2 w3 (W 3)) (k0_pay32 r r1 r2 r3 w2 w3) (W 4) (W 5) (W 6) (W 7) b
      = gateK (k0_pay26 r r1 r2 r3 w2 w3) W b := rfl

theorem gate2_fwd :
    k0_pay37 (F := Ideal) (k0_pay27 r r1 r2 r3 w2 w3) (k0_pay34 (k0_pay27 r r1 r2 r3 w2 w3) (W 0)) (k0_pay35 (k0_pay27 r r1 r2 r3 w2 w3) (W 1))
      (k0_pay36 (k0_pay27 r r1 r2 r3 w2 w3)) (W 2) (W 3) (W 4) (W 5) (W 6) (W 7) b
      = gateK (k0_pay26 r r1 r2 r3 w2 w3) W b := rfl

end

section
variable (r : FVec Ideal S528x1024 .f32) (r1 r2 : FVec Ideal S512x1024 .f32) (r3 w1 w2 w3 b : FVec Ideal S1x1024 .f32) (W : Fin 8 → FVec Ideal S1x1x128x128 .bf16)

theorem gate1_bwd :
    k0_pay56 (F := Ideal) (k0_pay51 r r1 r2 r3 w1 w2 w3) (k0_pay52 r r1 r2 r3 w1 w2 w3 (W 0)) (k0_pay53 r r1 r2 r3 w1 w2 w3 (W 1)) (k0_pay54 r r1 r2 r3 w1 w2 w3 (W 2))
      (k0_pay55 r r1 r2 r3 w1 w2 w3) (W 3) (W 4) (W 5) (W 6) (W 7) b
      = gateK (k0_pay50 r r1 r2 r3 w1 w2 w3) W b := rfl

theorem gate2_bwd (x : FVec Ideal S512x1024 .bf16) :
    k0_pay65 (F := Ideal) (k0_pay57 x (W 0)) (k0_pay58 x (W 1)) (k0_pay59 x (W 2)) (k0_pay60 x (W 3)) (k0_pay61 x (W 4)) (k0_pay62 x (W 5)) (k0_pay63 x (W 6))
      (k0_pay64 x) (W 7) b = tanh (gateK x W b) := rfl

end

end Cert.KernelIdeal.Lru
-- ==== Proof.LruBlk.lean ====
module

public import Idealize.ShloMosaic.Lib.Pipeline.ValueKit
public import Idealize.ShloMosaic.Lib.Pipeline.ValueKit.Point
public import Idealize.ShloMosaic.Lib.Pointwise
public import proofs.«01_k».proof.Proof.Gen.KernelIdeal.Frame
public import proofs.«01_k».proof.Proof.LruBlock

@[expose] public section

set_option maxRecDepth 16384

noncomputable section

/-! The recurrence kernel's blocks at a point, read from the arguments. -/

namespace Cert.KernelIdeal.Lru

open Cert.KernelIdeal Cert.KernelIdeal.Gen Idealize.ShloMosaic Idealize.ShloMosaic.TcCoe Idealize.SL.Sem

theorem idx : ∀ t : Fin cfg0.N, win0_0.index t = ![t.val / 16, t.val % 16, 0] ∧ win0_1.index t = ![t.val / 16, t.val % 16 * 64 - 1, 0]
    ∧ win0_2.index t = ![t.val / 16, min (t.val % 16 * 64 + 64) 1023, 0]
    ∧ win0_3.index t = ![t.val / 16, 15 - t.val % 16, 0] ∧ win0_4.index t = ![t.val / 16, (15 - t.val % 16) * 64 - 1, 0]
    ∧ win0_5.index t = ![t.val / 16, min ((15 - t.val % 16) * 64 + 64) 1023, 0]
    ∧ win0_6.index t = ![0, 0] ∧ win0_7.index t = ![0, 0] ∧ win0_8.index t = ![0, 0, 0, 0] ∧ win0_9.index t = ![0, 0]
    ∧ win0_10.index t = ![0, 0, 0, 0] ∧ win0_11.index t = ![0, 0] ∧ win0_12.index t = ![0, 0]
    ∧ win0_13.index t = ![t.val / 16, t.val % 16, 0] ∧ win0_14.index t = ![t.val / 16, 15 - t.val % 16, 0] :=
  (by decide +kernel : ∀ t : Fin grid0.N, _)

theorem crd : ∀ t : Fin cfg0.N, (grid0.coords t 1).val = t.val % 16 := (by decide +kernel : ∀ t : Fin grid0.N, _)

variable (m : (ℓ : Loc nD τ sig) → Buf (Elt Ideal) ℓ)

theorem blk0 (c : Dev nD) (t : Fin cfg0.N) (r : Fin 512) (l : Fin 1024) (b : Fin 4) (q : Fin 8192) (l' : Fin 4096)
    (hb : b.val = t.val / 16) (hq : q.val = (t.val % 16) * 512 + r.val) (hl : l'.val = l.val) :
    iblk m c 0 t (ix3 0 r l) = m ((c : Thread nD τ).loc main_arg0) (ix3 b q l') := by
  unfold iblk
  show V m c main_arg0 _ = _
  rw [V_main_arg0]
  have hi : win0_0.index t = ![t.val / 16, t.val % 16, 0] := by simp only [idx t]
  have e0 : ((((cfg0.win 0).blk t).view.emb (ix3 0 r l)) 0).val = win0_0.index t 0 * 1 + 0 := win0_0.rect_emb_val t (ix3 0 r l) 0 rfl
  have e1 : ((((cfg0.win 0).blk t).view.emb (ix3 0 r l)) 1).val = win0_0.index t 1 * 512 + r.val := win0_0.rect_emb_val t (ix3 0 r l) 1 rfl
  have e2 : ((((cfg0.win 0).blk t).view.emb (ix3 0 r l)) 2).val = win0_0.index t 2 * 1024 + l.val := win0_0.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

theorem blk1 (c : Dev nD) (t : Fin cfg0.N) (r : Fin 8) (l : Fin 1024) (b : Fin 4) (q : Fin 8192) (l' : Fin 4096)
    (hb : b.val = t.val / 16) (hq : q.val = (t.val % 16 * 64 - 1) * 8 + r.val) (hl : l'.val = l.val) :
    iblk m c 1 t (ix3 0 r l) = m ((c : Thread nD τ).loc main_arg0) (ix3 b q l') := by
  unfold iblk
  show V m c main_arg0 _ = _
  rw [V_main_arg0]
  have hi : win0_1.index t = ![t.val / 16, t.val % 16 * 64 - 1, 0] := by simp only [idx t]
  have e0 : ((((cfg0.win 1).blk t).view.emb (ix3 0 r l)) 0).val = win0_1.index t 0 * 1 + 0 := win0_1.rect_emb_val t (ix3 0 r l) 0 rfl
  have e1 : ((((cfg0.win 1).blk t).view.emb (ix3 0 r l)) 1).val = win0_1.index t 1 * 8 + r.val := win0_1.rect_emb_val t (ix3 0 r l) 1 rfl
  have e2 : ((((cfg0.win 1).blk t).view.emb (ix3 0 r l)) 2).val = win0_1.index t 2 * 1024 + l.val := win0_1.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

theorem blk2 (c : Dev nD) (t : Fin cfg0.N) (r : Fin 8) (l : Fin 1024) (b : Fin 4) (q : Fin 8192) (l' : Fin 4096)
    (hb : b.val = t.val / 16) (hq : q.val = (min (t.val % 16 * 64 + 64) 1023) * 8 + r.val) (hl : l'.val = l.val) :
    iblk m c 2 t (ix3 0 r l) = m ((c : Thread nD τ).loc main_arg0) (ix3 b q l') := by
  unfold iblk
  show V m c main_arg0 _ = _
  rw [V_main_arg0]
  have hi : win0_2.index t = ![t.val / 16, min (t.val % 16 * 64 + 64) 1023, 0] := by simp only [idx t]
  have e0 : ((((cfg0.win 2).blk t).view.emb (ix3 0 r l)) 0).val = win0_2.index t 0 * 1 + 0 := win0_2.rect_emb_val t (ix3 0 r l) 0 rfl
  have e1 : ((((cfg0.win 2).blk t).view.emb (ix3 0 r l)) 1).val = win0_2.index t 1 * 8 + r.val := win0_2.rect_emb_val t (ix3 0 r l) 1 rfl
  have e2 : ((((cfg0.win 2).blk t).view.emb (ix3 0 r l)) 2).val = win0_2.index t 2 * 1024 + l.val := win0_2.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

theorem blk3 (c : Dev nD) (t : Fin cfg0.N) (r : Fin 512) (l : Fin 1024) (b : Fin 4) (q : Fin 8192) (l' : Fin 4096)
    (hb : b.val = t.val / 16) (hq : q.val = (15 - t.val % 16) * 512 + r.val) (hl : l'.val = l.val) :
    iblk m c 3 t (ix3 0 r l) = m ((c : Thread nD τ).loc main_arg0) (ix3 b q l') := by
  unfold iblk
  show V m c main_arg0 _ = _
  rw [V_main_arg0]
  have hi : win0_3.index t = ![t.val / 16, 15 - t.val % 16, 0] := by simp only [idx t]
  have e0 : ((((cfg0.win 3).blk t).view.emb (ix3 0 r l)) 0).val = win0_3.index t 0 * 1 + 0 := win0_3.rect_emb_val t (ix3 0 r l) 0 rfl
  have e1 : ((((cfg0.win 3).blk t).view.emb (ix3 0 r l)) 1).val = win0_3.index t 1 * 512 + r.val := win0_3.rect_emb_val t (ix3 0 r l) 1 rfl
  have e2 : ((((cfg0.win 3).blk t).view.emb (ix3 0 r l)) 2).val = win0_3.index t 2 * 1024 + l.val := win0_3.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

theorem blk4 (c : Dev nD) (t : Fin cfg0.N) (r : Fin 8) (l : Fin 1024) (b : Fin 4) (q : Fin 8192) (l' : Fin 4096)
    (hb : b.val = t.val / 16) (hq : q.val = ((15 - t.val % 16) * 64 - 1) * 8 + r.val) (hl : l'.val = l.val) :
    iblk m c 4 t (ix3 0 r l) = m ((c : Thread nD τ).loc main_arg0) (ix3 b q l') := by
  unfold iblk
  show V m c main_arg0 _ = _
  rw [V_main_arg0]
  have hi : win0_4.index t = ![t.val / 16, (15 - t.val % 16) * 64 - 1, 0] := by simp only [idx t]
  have e0 : ((((cfg0.win 4).blk t).view.emb (ix3 0 r l)) 0).val = win0_4.index t 0 * 1 + 0 := win0_4.rect_emb_val t (ix3 0 r l) 0 rfl
  have e1 : ((((cfg0.win 4).blk t).view.emb (ix3 0 r l)) 1).val = win0_4.index t 1 * 8 + r.val := win0_4.rect_emb_val t (ix3 0 r l) 1 rfl
  have e2 : ((((cfg0.win 4).blk t).view.emb (ix3 0 r l)) 2).val = win0_4.index t 2 * 1024 + l.val := win0_4.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

theorem blk5 (c : Dev nD) (t : Fin cfg0.N) (r : Fin 8) (l : Fin 1024) (b : Fin 4) (q : Fin 8192) (l' : Fin 4096)
    (hb : b.val = t.val / 16) (hq : q.val = (min ((15 - t.val % 16) * 64 + 64) 1023) * 8 + r.val) (hl : l'.val = l.val) :
    iblk m c 5 t (ix3 0 r l) = m ((c : Thread nD τ).loc main_arg0) (ix3 b q l') := by
  unfold iblk
  show V m c main_arg0 _ = _
  rw [V_main_arg0]
  have hi : win0_5.index t = ![t.val / 16, min ((15 - t.val % 16) * 64 + 64) 1023, 0] := by simp only [idx t]
  have e0 : ((((cfg0.win 5).blk t).view.emb (ix3 0 r l)) 0).val = win0_5.index t 0 * 1 + 0 := win0_5.rect_emb_val t (ix3 0 r l) 0 rfl
  have e1 : ((((cfg0.win 5).blk t).view.emb (ix3 0 r l)) 1).val = win0_5.index t 1 * 8 + r.val := win0_5.rect_emb_val t (ix3 0 r l) 1 rfl
  have e2 : ((((cfg0.win 5).blk t).view.emb (ix3 0 r l)) 2).val = win0_5.index t 2 * 1024 + l.val := win0_5.rect_emb_val t (ix3 0 r l) 2 rfl
  rw [hi] at e0 e1 e2
  refine congrArg (m ((c : Thread nD τ).loc main_arg0)) (funext fun a => ?_)
  match a with
  | ⟨0, _⟩ => exact Fin.ext (e0.trans (show t.val / 16 * 1 + 0 = b.val by omega))
  | ⟨1, _⟩ => exact Fin.ext (e1.trans hq.symm)
  | ⟨2, _⟩ => exact Fin.ext (e2.trans (show 0 * 1024 + l.val = l'.val by omega))

section

theorem sc0 (x : Vec Ideal S1x4x1024 .f32) (k : Fin 4) (l : Fin 1024) : shapeCast S4x1024 x shapeCasts_S1x4x1024_S4x1024 (ix2 k l) = x (ix3 0 k l) := by
  refine shapeCast_apply x _ _ (ix3 0 k l) ?_
  show (S1x4x1024.rowMajor (ix3 0 k l)).val = (S4x1024.rowMajor (ix2 k l)).val
  rw [Shape.rowMajor_val_two, Shape.rowMajor_val_three]
  show (0 * 4 + k.val) * 1024 + l.val = k.val * 1024 + l.val
  omega
theorem sc2 (x : Vec Ideal S1x2x1024 .f32) (k : Fin 2) (l : Fin 1024) : shapeCast S2x1024 x shapeCasts_S1x2x1024_S2x1024 (ix2 k l) = x (ix3 0 k l) := by
  refine shapeCast_apply x _ _ (ix3 0 k l) ?_
  show (S1x2x1024.rowMajor (ix3 0 k l)).val = (S2x1024.rowMajor (ix2 k l)).val
  rw [Shape.rowMajor_val_two, Shape.rowMajor_val_three]
  show (0 * 2 + k.val) * 1024 + l.val = k.val * 1024 + l.val
  omega
theorem sc5 (x : Vec Ideal S1x2x8x128x128 .f32) (d : Fin 2) (h : Fin 8) (k e : Fin 128) :
    shapeCast S2x8x128x128 x shapeCasts_S1x2x8x128x128_S2x8x128x128 (ix4 d h k e) = x (ix5 0 d h k e) := by
  refine shapeCast_apply x _ _ (ix5 0 d h k e) ?_
  show (S1x2x8x128x128.rowMajor (ix5 0 d h k e)).val = (S2x8x128x128.rowMajor (ix4 d h k e)).val
  rw [Shape.rowMajor_val_four, Shape.rowMajor_val_five]
  show (((0 * 2 + d.val) * 8 + h.val) * 128 + k.val) * 128 + e.val = ((d.val * 8 + h.val) * 128 + k.val) * 128 + e.val
  omega
end

theorem half_at : (constant S_ .f32 0x3F000000#32 : FVec Ideal S_ .f32) = fun _ => ((1 / 2 : ℝ) : EReal) := funext fun _ => half_word

theorem V0 (c : Dev nD) : V m c main_v0 = shapeCast S4x1024 (m ((c : Thread nD τ).loc main_arg1)) shapeCasts_S1x4x1024_S4x1024 := by
  entry_read
  rfl
theorem V17 (c : Dev nD) : V m c main_v17 = shapeCast S1x1024 (shapeCast S1024 (m ((c : Thread nD τ).loc main_arg2)) shapeCasts_S1x1024_S1024) shapeCasts_S1024_S1x1024 := by
  entry_read
  rfl
theorem V16 (c : Dev nD) : V m c main_v16 = shapeCast S2x1024 (m ((c : Thread nD τ).loc main_arg7)) shapeCasts_S1x2x1024_S2x1024 := by
  entry_read
  rfl
theorem V5 (c : Dev nD) : V m c main_v5 = (truncf .bf16 (mulf (broadcastInDim S2x8x128x128 ![] bcast_S_S2x8x128x128 (constant S_ .f32 0x3F000000#32 : FVec Ideal S_ .f32) : FVec Ideal S2x8x128x128 .f32)
    (shapeCast S2x8x128x128 (m ((c : Thread nD τ).loc main_arg3)) shapeCasts_S1x2x8x128x128_S2x8x128x128 : FVec Ideal S2x8x128x128 .f32)) bitsLt_bf16_f32 : FVec Ideal S2x8x128x128 .bf16) := by
  entry_read
  rfl
theorem V12 (c : Dev nD) : V m c main_v12 = (truncf .bf16 (mulf (broadcastInDim S2x8x128x128 ![] bcast_S_S2x8x128x128 (constant S_ .f32 0x3F000000#32 : FVec Ideal S_ .f32) : FVec Ideal S2x8x128x128 .f32)
    (shapeCast S2x8x128x128 (m ((c : Thread nD τ).loc main_arg5)) shapeCasts_S1x2x8x128x128_S2x8x128x128 : FVec Ideal S2x8x128x128 .f32)) bitsLt_bf16_f32 : FVec Ideal S2x8x128x128 .bf16) := by
  entry_read
  rfl
theorem V8 (c : Dev nD) : V m c main_v8 = (mulf (broadcastInDim S2x1024 ![] bcast_S_S2x1024 (constant S_ .f32 0x3F000000#32 : FVec Ideal S_ .f32) : FVec Ideal S2x1024 .f32)
    (shapeCast S2x1024 (m ((c : Thread nD τ).loc main_arg4)) shapeCasts_S1x2x1024_S2x1024 : FVec Ideal S2x1024 .f32) : FVec Ideal S2x1024 .f32) := by
  entry_read
  rfl
theorem V15 (c : Dev nD) : V m c main_v15 = (mulf (broadcastInDim S2x1024 ![] bcast_S_S2x1024 (constant S_ .f32 0x3F000000#32 : FVec Ideal S_ .f32) : FVec Ideal S2x1024 .f32)
    (shapeCast S2x1024 (m ((c : Thread nD τ).loc main_arg6)) shapeCasts_S1x2x1024_S2x1024 : FVec Ideal S2x1024 .f32) : FVec Ideal S2x1024 .f32) := by
  entry_read
  rfl

theorem whole6 (t : Fin cfg0.N) (a : Fin 4) (b : Fin 1024) : ((cfg0.win 6).blk t).view.emb (ix2 a b) = ((ix2 a b) : (⟨2, ![4, 1024]⟩ : Shape).Idx) := by
  have hi : win0_6.index t = ![0, 0] := by simp only [idx t]
  have e0 : ((((cfg0.win 6).blk t).view.emb (ix2 a b)) 0).val = win0_6.index t 0 * 4 + a.val := win0_6.rect_emb_val t (ix2 a b) 0 rfl
  have e1 : ((((cfg0.win 6).blk t).view.emb (ix2 a b)) 1).val = win0_6.index t 1 * 1024 + b.val := win0_6.rect_emb_val t (ix2 a b) 1 rfl
  rw [hi] at e0 e1
  refine funext fun i => ?_
  match i with
  | ⟨0, _⟩ => exact Fin.ext (e0.trans (show 0 * 4 + a.val = a.val by omega))
  | ⟨1, _⟩ => exact Fin.ext (e1.trans (show 0 * 1024 + b.val = b.val by omega))

theorem whole7 (t : Fin cfg0.N) (a : Fin 1) (b : Fin 1024) : ((cfg0.win 7).blk t).view.emb (ix2 a b) = ((ix2 a b) : (⟨2, ![1, 1024]⟩ : Shape).Idx) := by
  have hi : win0_7.index t = ![0, 0] := by simp only [idx t]
  have e0 : ((((cfg0.win 7).blk t).view.emb (ix2 a b)) 0).val = win0_7.index t 0 * 1 + a.val := win0_7.rect_emb_val t (ix2 a b) 0 rfl
  have e1 : ((((cfg0.win 7).blk t).view.emb (ix2 a b)) 1).val = win0_7.index t 1 * 1024 + b.val := win0_7.rect_emb_val t (ix2 a b) 1 rfl
  rw [hi] at e0 e1
  refine funext fun i => ?_
  match i with
  | ⟨0, _⟩ => exact Fin.ext (e0.trans (show 0 * 1 + a.val = a.val by omega))
  | ⟨1, _⟩ => exact Fin.ext (e1.trans (show 0 * 1024 + b.val = b.val by omega))

theorem whole8 (t : Fin cfg0.N) (a : Fin 2) (b : Fin 8) (d : Fin 128) (e : Fin 128) : ((cfg0.win 8).blk t).view.emb (ix4 a b d e) = ((ix4 a b d e) : (⟨4, ![2, 8, 128, 128]⟩ : Shape).Idx) := by
  have hi : win0_8.index t = ![0, 0, 0, 0] := by simp only [idx t]
  have e0 : ((((cfg0.win 8).blk t).view.emb (ix4 a b d e)) 0).val = win0_8.index t 0 * 2 + a.val := win0_8.rect_emb_val t (ix4 a b d e) 0 rfl
  have e1 : ((((cfg0.win 8).blk t).view.emb (ix4 a b d e)) 1).val = win0_8.index t 1 * 8 + b.val := win0_8.rect_emb_val t (ix4 a b d e) 1 rfl
  have e2 : ((((cfg0.win 8).blk t).view.emb (ix4 a b d e)) 2).val = win0_8.index t 2 * 128 + d.val := win0_8.rect_emb_val t (ix4 a b d e) 2 rfl
  have e3 : ((((cfg0.win 8).blk t).view.emb (ix4 a b d e)) 3).val = win0_8.index t 3 * 128 + e.val := win0_8.rect_emb_val t (ix4 a b d e) 3 rfl
  rw [hi] at e0 e1 e2 e3
  refine funext fun i => ?_
  match i with
  | ⟨0, _⟩ => exact Fin.ext (e0.trans (show 0 * 2 + a.val = a.val by omega))
  | ⟨1, _⟩ => exact Fin.ext (e1.trans (show 0 * 8 + b.val = b.val by omega))
  | ⟨2, _⟩ => exact Fin.ext (e2.trans (show 0 * 128 + d.val = d.val by omega))
  | ⟨3, _⟩ => exact Fin.ext (e3.trans (show 0 * 128 + e.val = e.val by omega))

theorem whole9 (t : Fin cfg0.N) (a : Fin 2) (b : Fin 1024) : ((cfg0.win 9).blk t).view.emb (ix2 a b) = ((ix2 a b) : (⟨2, ![2, 1024]⟩ : Shape).Idx) := by
  have hi : win0_9.index t = ![0, 0] := by simp only [idx t]
  have e0 : ((((cfg0.win 9).blk t).view.emb (ix2 a b)) 0).val = win0_9.index t 0 * 2 + a.val := win0_9.rect_emb_val t (ix2 a b) 0 rfl
  have e1 : ((((cfg0.win 9).blk t).view.emb (ix2 a b)) 1).val = win0_9.index t 1 * 1024 + b.val := win0_9.rect_emb_val t (ix2 a b) 1 rfl
  rw [hi] at e0 e1
  refine funext fun i => ?_
  match i with
  | ⟨0, _⟩ => exact Fin.ext (e0.trans (show 0 * 2 + a.val = a.val by omega))
  | ⟨1, _⟩ => exact Fin.ext (e1.trans (show 0 * 1024 + b.val = b.val by omega))

theorem whole10 (t : Fin cfg0.N) (a : Fin 2) (b : Fin 8) (d : Fin 128) (e : Fin 128) : ((cfg0.win 10).blk t).view.emb (ix4 a b d e) = ((ix4 a b d e) : (⟨4, ![2, 8, 128, 128]⟩ : Shape).Idx) := by
  have hi : win0_10.index t = ![0, 0, 0, 0] := by simp only [idx t]
  have e0 : ((((cfg0.win 10).blk t).view.emb (ix4 a b d e)) 0).val = win0_10.index t 0 * 2 + a.val := win0_10.rect_emb_val t (ix4 a b d e) 0 rfl
  have e1 : ((((cfg0.win 10).blk t).view.emb (ix4 a b d e)) 1).val = win0_10.index t 1 * 8 + b.val := win0_10.rect_emb_val t (ix4 a b d e) 1 rfl
  have e2 : ((((cfg0.win 10).blk t).view.emb (ix4 a b d e)) 2).val = win0_10.index t 2 * 128 + d.val := win0_10.rect_emb_val t (ix4 a b d e) 2 rfl
  have e3 : ((((cfg0.win 10).blk t).view.emb (ix4 a b d e)) 3).val = win0_10.index t 3 * 128 + e.val := win0_10.rect_emb_val t (ix4 a b d e) 3 rfl
  rw [hi] at e0 e1 e2 e3
  refine funext fun i => ?_
  match i with
  | ⟨0, _⟩ => exact Fin.ext (e0.trans (show 0 * 2 + a.val = a.val by omega))
  | ⟨1, _⟩ => exact Fin.ext (e1.trans (show 0 * 8 + b.val = b.val by omega))
  | ⟨2, _⟩ => exact Fin.ext (e2.trans (show 0 * 128 + d.val = d.val by omega))
  | ⟨3, _⟩ => exact Fin.ext (e3.trans (show 0 * 128 + e.val = e.val by omega))

theorem whole11 (t : Fin cfg0.N) (a : Fin 2) (b : Fin 1024) : ((cfg0.win 11).blk t).view.emb (ix2 a b) = ((ix2 a b) : (⟨2, ![2, 1024]⟩ : Shape).Idx) := by
  have hi : win0_11.index t = ![0, 0] := by simp only [idx t]
  have e0 : ((((cfg0.win 11).blk t).view.emb (ix2 a b)) 0).val = win0_11.index t 0 * 2 + a.val := win0_11.rect_emb_val t (ix2 a b) 0 rfl
  have e1 : ((((cfg0.win 11).blk t).view.emb (ix2 a b)) 1).val = win0_11.index t 1 * 1024 + b.val := win0_11.rect_emb_val t (ix2 a b) 1 rfl
  rw [hi] at e0 e1
  refine funext fun i => ?_
  match i with
  | ⟨0, _⟩ => exact Fin.ext (e0.trans (show 0 * 2 + a.val = a.val by omega))
  | ⟨1, _⟩ => exact Fin.ext (e1.trans (show 0 * 1024 + b.val = b.val by omega))

theorem whole12 (t : Fin cfg0.N) (a : Fin 2) (b : Fin 1024) : ((cfg0.win 12).blk t).view.emb (ix2 a b) = ((ix2 a b) : (⟨2, ![2, 1024]⟩ : Shape).Idx) := by
  have hi : win0_12.index t = ![0, 0] := by simp only [idx t]
  have e0 : ((((cfg0.win 12).blk t).view.emb (ix2 a b)) 0).val = win0_12.index t 0 * 2 + a.val := win0_12.rect_emb_val t (ix2 a b) 0 rfl
  have e1 : ((((cfg0.win 12).blk t).view.emb (ix2 a b)) 1).val = win0_12.index t 1 * 1024 + b.val := win0_12.rect_emb_val t (ix2 a b) 1 rfl
  rw [hi] at e0 e1
  refine funext fun i => ?_
  match i with
  | ⟨0, _⟩ => exact Fin.ext (e0.trans (show 0 * 2 + a.val = a.val by omega))
  | ⟨1, _⟩ => exact Fin.ext (e1.trans (show 0 * 1024 + b.val = b.val by omega))

theorem blk6 (c : Dev nD) (t : Fin cfg0.N) (k : Fin 4) (l : Fin 1024) :
    iblk m c 6 t (ix2 k l) = m ((c : Thread nD τ).loc main_arg1) (ix3 0 k l) := by
  unfold iblk
  show V m c main_v0 (((cfg0.win 6).blk t).view.emb (ix2 k l)) = _
  rw [V0, whole6]
  exact sc0 _ k l

theorem blk7 (c : Dev nD) (t : Fin cfg0.N) (l : Fin 1024) :
    iblk m c 7 t (ix2 0 l) = m ((c : Thread nD τ).loc main_arg2) (ix2 0 l) := by
  unfold iblk
  show V m c main_v17 (((cfg0.win 7).blk t).view.emb (ix2 0 l)) = _
  rw [V17, whole7]
  pointwise []

theorem blk12 (c : Dev nD) (t : Fin cfg0.N) (d : Fin 2) (l : Fin 1024) :
    iblk m c 12 t (ix2 d l) = m ((c : Thread nD τ).loc main_arg7) (ix3 0 d l) := by
  unfold iblk
  show V m c main_v16 (((cfg0.win 12).blk t).view.emb (ix2 d l)) = _
  rw [V16, whole12]
  exact sc2 _ d l

theorem blk8 (c : Dev nD) (t : Fin cfg0.N) (d : Fin 2) (h : Fin 8) (k e : Fin 128) :
    (iblk m c 8 t (ix4 d h k e) : EReal) = ((1 / 2 : ℝ) : EReal) * m ((c : Thread nD τ).loc main_arg3) (ix5 0 d h k e) := by
  unfold iblk
  show (V m c main_v5 (((cfg0.win 8).blk t).view.emb (ix4 d h k e)) : EReal) = _
  rw [V5, whole8, half_at]
  exact congrArg (fun w : EReal => ((1 / 2 : ℝ) : EReal) * w) (sc5 _ d h k e)

theorem blk10 (c : Dev nD) (t : Fin cfg0.N) (d : Fin 2) (h : Fin 8) (k e : Fin 128) :
    (iblk m c 10 t (ix4 d h k e) : EReal) = ((1 / 2 : ℝ) : EReal) * m ((c : Thread nD τ).loc main_arg5) (ix5 0 d h k e) := by
  unfold iblk
  show (V m c main_v12 (((cfg0.win 10).blk t).view.emb (ix4 d h k e)) : EReal) = _
  rw [V12, whole10, half_at]
  exact congrArg (fun w : EReal => ((1 / 2 : ℝ) : EReal) * w) (sc5 _ d h k e)

theorem blk9 (c : Dev nD) (t : Fin cfg0.N) (d : Fin 2) (l : Fin 1024) :
    (iblk m c 9 t (ix2 d l) : EReal) = ((1 / 2 : ℝ) : EReal) * m ((c : Thread nD τ).loc main_arg4) (ix3 0 d l) := by
  unfold iblk
  show (V m c main_v8 (((cfg0.win 9).blk t).view.emb (ix2 d l)) : EReal) = _
  rw [V8, whole9, half_at]
  exact congrArg (fun w : EReal => ((1 / 2 : ℝ) : EReal) * w) (sc2 _ d l)

theorem blk11 (c : Dev nD) (t : Fin cfg0.N) (d : Fin 2) (l : Fin 1024) :
    (iblk m c 11 t (ix2 d l) : EReal) = ((1 / 2 : ℝ) : EReal) * m ((c : Thread nD τ).loc main_arg6) (ix3 0 d l) := by
  unfold iblk
  show (V m c main_v15 (((cfg0.win 11).blk t).view.emb (ix2 d l)) : EReal) = _
  rw [V15, whole11, half_at]
  exact congrArg (fun w : EReal => ((1 / 2 : ℝ) : EReal) * w) (sc2 _ d l)

end Cert.KernelIdeal.Lru
-- ==== Proof.LruScan.lean ====
module

public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

/-! A linear recurrence, and the eight rows of it that are combined pairwise. -/

namespace Cert.KernelIdeal.Lru

open Idealize.ShloMosaic Cert.KernelIdeal Cert.KernelIdeal.Gen

/-- `n` steps of the recurrence `h ↦ A t · h + U t` from step `lo`. -/
def steps (A U : ℕ → EReal) (lo : ℕ) : ℕ → EReal → EReal
  | 0, h => h
  | n + 1, h => A (lo + n) * steps A U lo n h + U (lo + n)

theorem steps_add (A U : ℕ → EReal) (lo m : ℕ) (h : EReal) :
    ∀ n, steps A U lo (m + n) h = steps A U (lo + m) n (steps A U lo m h)
  | 0 => rfl
  | n + 1 => by
    show A (lo + (m + n)) * steps A U lo (m + n) h + U (lo + (m + n)) = _
    rw [steps_add A U lo m h n, ← Nat.add_assoc]; rfl

/-- The recurrence depends only on the coefficients it reads. -/
theorem steps_congr {A U A' U' : ℕ → EReal} (lo lo' : ℕ) :
    ∀ (n : ℕ) (_ : ∀ i, i < n → A (lo + i) = A' (lo' + i) ∧ U (lo + i) = U' (lo' + i)) {h h' : EReal} (_ : h = h'),
      steps A U lo n h = steps A' U' lo' n h'
  | 0, _, _, _, hh => hh
  | n + 1, H, h, h', hh => by
    show A (lo + n) * steps A U lo n h + U (lo + n) = A' (lo' + n) * steps A' U' lo' n h' + U' (lo' + n)
    rw [steps_congr lo lo' n (fun i hi => H i (by omega)) hh, (H n (by omega)).1, (H n (by omega)).2]

/-- Row `r` holds the affine map of the last `w` steps up to `r`. -/
def Level (A U : ℕ → EReal) (w : ℕ) (a s : ℕ → EReal) : Prop :=
  ∀ r, r < 8 → (0 ≤ a r ∧ a r ≠ ⊤) ∧ ∀ h, s r + a r * h = steps A U (r + 1 - w) (min w (r + 1)) h

theorem level_one {A U : ℕ → EReal} (hA : ∀ r, r < 8 → 0 ≤ A r ∧ A r ≠ ⊤) : Level A U 1 A U := by
  intro r hr
  refine ⟨hA r hr, fun h => ?_⟩
  have e : min 1 (r + 1) = 1 := by omega
  rw [e, show r + 1 - 1 = r from rfl, add_comm]; rfl

theorem Level.congr {A U : ℕ → EReal} {w : ℕ} {a s a' s' : ℕ → EReal} (H : Level A U w a s)
    (ha : ∀ r, r < 8 → a' r = a r) (hs : ∀ r, r < 8 → s' r = s r) : Level A U w a' s' := by
  intro r hr; rw [ha r hr, hs r hr]; exact H r hr

theorem mul_fin {x y : EReal} (hx : 0 ≤ x ∧ x ≠ ⊤) (hy : 0 ≤ y ∧ y ≠ ⊤) : 0 ≤ x * y ∧ x * y ≠ ⊤ := by
  refine ⟨mul_nonneg hx.1 hy.1, ?_⟩
  lift x to ℝ using ⟨hx.2, fun h => by rw [h] at hx; simp at hx⟩
  lift y to ℝ using ⟨hy.2, fun h => by rw [h] at hy; simp at hy⟩
  rw [← EReal.coe_mul]; exact EReal.coe_ne_top _

/-- Combining each row with the row `w` before it doubles the steps it holds. -/
theorem Level.double {A U : ℕ → EReal} {w : ℕ} {a s : ℕ → EReal} (H : Level A U w a s) :
    Level A U (w + w) (fun r => a r * (if w ≤ r then a (r - w) else 1)) (fun r => s r + a r * (if w ≤ r then s (r - w) else 0)) := by
  intro r hr
  have hr1 := (H r hr).1
  by_cases hw : w ≤ r
  · simp only [if_pos hw]
    have h2 := H (r - w) (by omega)
    refine ⟨mul_fin hr1 h2.1, fun h => ?_⟩
    rw [add_assoc, mul_assoc, ← EReal.left_distrib_of_nonneg_of_ne_top hr1.1 hr1.2, h2.2 h, (H r hr).2]
    have e1 : min w (r + 1) = w := by omega
    have e2 : min (w + w) (r + 1) = min w (r - w + 1) + w := by omega
    have e3 : r + 1 - (w + w) = r - w + 1 - w := by omega
    have e4 : r + 1 - w = (r - w + 1 - w) + min w (r - w + 1) := by omega
    rw [e1, e2, e3, e4, steps_add]
  · simp only [if_neg hw, mul_one, mul_zero, add_zero]
    refine ⟨hr1, fun h => ?_⟩
    rw [(H r hr).2]
    have e1 : r + 1 - w = r + 1 - (w + w) := by omega
    have e2 : min w (r + 1) = min (w + w) (r + 1) := by omega
    rw [e1, e2]

/-- Three doublings hold every step from the first row. -/
theorem level_eight {A U a1 s1 a2 s2 a3 s3 : ℕ → EReal} (hA : ∀ r, r < 8 → 0 ≤ A r ∧ A r ≠ ⊤)
    (ha1 : ∀ r, r < 8 → a1 r = A r * (if 1 ≤ r then A (r - 1) else 1))
    (hs1 : ∀ r, r < 8 → s1 r = U r + A r * (if 1 ≤ r then U (r - 1) else 0))
    (ha2 : ∀ r, r < 8 → a2 r = a1 r * (if 2 ≤ r then a1 (r - 2) else 1))
    (hs2 : ∀ r, r < 8 → s2 r = s1 r + a1 r * (if 2 ≤ r then s1 (r - 2) else 0))
    (ha3 : ∀ r, r < 8 → a3 r = a2 r * (if 4 ≤ r then a2 (r - 4) else 1))
    (hs3 : ∀ r, r < 8 → s3 r = s2 r + a2 r * (if 4 ≤ r then s2 (r - 4) else 0))
    (r : ℕ) (hr : r < 8) (h : EReal) : s3 r + a3 r * h = steps A U 0 (r + 1) h := by
  have L1 := ((level_one hA).double).congr ha1 hs1
  have L2 := (L1.double).congr ha2 hs2
  have L3 := (L2.double).congr ha3 hs3
  have := (L3 r hr).2 h
  rw [this, show r + 1 - (1 + 1 + (1 + 1) + (1 + 1 + (1 + 1))) = 0 by omega, show min (1 + 1 + (1 + 1) + (1 + 1 + (1 + 1))) (r + 1) = r + 1 by omega]

/-- The row numbers the masks compare. -/
abbrev rows8 : IVec S8x1024 32 := iota Kind.tc S8x1024 32 [0] iota_S8x1024_d0_w32

theorem rows8_at (r : Fin 8) (c : Fin 1024) : rows8 (ix2 r c) = BitVec.ofNat 32 r.val := by
  show BitVec.ofNat 32 (0 * 8 + r.val) = _
  rw [Nat.zero_mul, Nat.zero_add]

theorem rotate_at (n : ℕ) (hn : n < 8) (x : FVec Ideal S8x1024 .f32) (r k : Fin 8) (c : Fin 1024) (hk : k.val = (r.val + 8 - n) % 8) :
    dynamicRotate 0 (BitVec.ofNat 32 n) none x rotates_S8x1024_d0 (ix2 r c) = x (ix2 k c) := by
  have hN : (BitVec.ofNat 32 n).toNat = n := by rw [BitVec.toNat_ofNat]; omega
  refine congrArg x (funext fun b => ?_)
  match b with
  | ⟨0, _⟩ =>
    apply Fin.ext
    show (r.val + 8 - ((BitVec.ofNat 32 n).toNat + 0) % 8) % 8 = k.val
    rw [hN, hk]; omega
  | ⟨1, _⟩ => rfl

theorem mask_ge (n : ℕ) (hn : n < 8) (r : Fin 8) (c : Fin 1024) :
    cmpi .sge rows8 (broadcast S8x1024 (BitVec.ofNat 32 n)) (ix2 r c) = BitVec.ofBool (decide (n ≤ r.val)) := by
  show IntOp.cmpi .sge (rows8 (ix2 r c)) (BitVec.ofNat 32 n) = _
  rw [rows8_at, WordCmp.cmpi_sge_ofNat (by have := r.isLt; norm_num; omega) (by norm_num; omega)]

theorem mask_lt (n : ℕ) (hn : n < 8) (r : Fin 8) (c : Fin 1024) :
    cmpi .slt rows8 (broadcast S8x1024 (BitVec.ofNat 32 n)) (ix2 r c) = BitVec.ofBool (decide (r.val < n)) := by
  show IntOp.cmpi .slt (rows8 (ix2 r c)) (BitVec.ofNat 32 n) = _
  rw [rows8_at, WordCmp.cmpi_slt_ofNat (by have := r.isLt; norm_num; omega) (by norm_num; omega)]

/-- Column `c` of a tile, row by row. -/
def col8 (x : FVec Ideal S8x1024 .f32) (c : Fin 1024) (n : ℕ) : EReal := x (ix2 (Fin.ofNat 8 n) c)

/-- Column `c` of a tile, from the last row up. -/
def loc8 (x : FVec Ideal S8x1024 .f32) (c : Fin 1024) (n : ℕ) : EReal := x (ix2 (Fin.ofNat 8 (7 - n)) c)

theorem ofNat8 (r : Fin 8) : Fin.ofNat 8 r.val = r := Fin.ext (Nat.mod_eq_of_lt r.isLt)

theorem sel_ge (n : ℕ) (hn : n < 8) (x : FVec Ideal S8x1024 .f32) (fill' : Ideal .f32) {fill : EReal} (hf : fill' = fill) (c : Fin 1024) (r : ℕ) (hr : r < 8) :
    (select (cmpi .sge rows8 (broadcast S8x1024 (BitVec.ofNat 32 n))) (dynamicRotate 0 (BitVec.ofNat 32 n) none x rotates_S8x1024_d0)
      (broadcast S8x1024 fill') (ix2 (Fin.ofNat 8 r) c) : EReal) = if n ≤ r then col8 x c (r - n) else fill := by
  show (if cmpi .sge rows8 (broadcast S8x1024 (BitVec.ofNat 32 n)) (ix2 (Fin.ofNat 8 r) c) = 1#1 then _ else _) = _
  subst hf
  have hv : (Fin.ofNat 8 r).val = r := Nat.mod_eq_of_lt hr
  rw [mask_ge n hn, hv]
  by_cases h : n ≤ r
  · rw [if_pos h, if_pos (by rw [decide_eq_true h]; rfl)]
    exact rotate_at n hn x _ _ c (by rw [hv]; show (r - n) % 8 = _; omega)
  · rw [if_neg h, if_neg (by rw [decide_eq_false h]; decide)]; rfl

theorem sel_lt (n : ℕ) (hn : n < 8) (x : FVec Ideal S8x1024 .f32) (fill' : Ideal .f32) {fill : EReal} (hf : fill' = fill) (c : Fin 1024) (r : ℕ) (hr : r < 8) :
    (select (cmpi .slt rows8 (broadcast S8x1024 (BitVec.ofNat 32 n))) (dynamicRotate 0 (BitVec.ofNat 32 n) none x rotates_S8x1024_d0)
      (broadcast S8x1024 fill') (ix2 (Fin.ofNat 8 (7 - r)) c) : EReal) = if 8 - n ≤ r then loc8 x c (r - (8 - n)) else fill := by
  show (if cmpi .slt rows8 (broadcast S8x1024 (BitVec.ofNat 32 n)) (ix2 (Fin.ofNat 8 (7 - r)) c) = 1#1 then _ else _) = _
  subst hf
  have hv : (Fin.ofNat 8 (7 - r)).val = 7 - r := Nat.mod_eq_of_lt (by omega)
  rw [mask_lt n hn, hv]
  by_cases h : 8 - n ≤ r
  · rw [if_pos h, if_pos (by rw [decide_eq_true (by omega)]; rfl)]
    exact rotate_at n hn x _ _ c (by rw [hv]; show (7 - (r - (8 - n))) % 8 = _; omega)
  · rw [if_neg h, if_neg (by rw [decide_eq_false (by omega)]; decide)]; rfl

theorem one_bits : (Scalar.ofBits .f32 0x3F800000#32 : Ideal .f32) = (1 : EReal) := by
  show Ideal.ofBits .f32 0x3F800000#32 = _
  simp [Ideal.ofBits, Ideal.ieee, -EReal.coe_mul]; norm_num

theorem zero_bits : (Scalar.ofBits .f32 0x00000000#32 : Ideal .f32) = (0 : EReal) := by
  show Ideal.ofBits .f32 0x00000000#32 = _
  simp [Ideal.ofBits, Ideal.ieee]

/-- Eight rows forward from the carried row. -/
theorem fwd8 (a u : FVec Ideal S8x1024 .f32) (h : FVec Ideal S1x1024 .f32) (c : Fin 1024)
    (ha : ∀ r, r < 8 → 0 ≤ col8 a c r ∧ col8 a c r ≠ ⊤) (r : ℕ) (hr : r < 8) :
    col8 (k0_pay42 (F := Ideal) (k0_pay11 rows8 a u) (k0_pay12 rows8 h a)) c r = steps (col8 a c) (col8 u c) 0 (r + 1) (h (ix2 0 c)) := by
  refine Eq.trans ?_ (level_eight (a1 := col8 (k0_pay7 (F := Ideal) rows8 a) c) (a2 := col8 (k0_pay9 (F := Ideal) rows8 a) c)
    (s1 := fun r => col8 u c r + col8 a c r * (if 1 ≤ r then col8 u c (r - 1) else 0))
    (s2 := fun r => (col8 u c r + col8 a c r * (if 1 ≤ r then col8 u c (r - 1) else 0)) + col8 (k0_pay7 (F := Ideal) rows8 a) c r * (if 2 ≤ r then (col8 u c (r - 2) + col8 a c (r - 2) * (if 1 ≤ r - 2 then col8 u c (r - 2 - 1) else 0)) else 0))
    (s3 := col8 (k0_pay11 (F := Ideal) rows8 a u) c)
    (a3 := fun r => col8 (k0_pay9 (F := Ideal) rows8 a) c r * (if 4 ≤ r then col8 (k0_pay9 (F := Ideal) rows8 a) c (r - 4) else 1))
    ha ?_ (fun _ _ => rfl) ?_ (fun _ _ => rfl) (fun _ _ => rfl) ?_ r hr (h (ix2 0 c)))
  · refine congrArg₂ (fun x y : EReal => x + y) rfl (congrArg₂ (fun x y : EReal => x * y) ?_ ?_)
    · refine congrArg₂ (fun x y : EReal => x * y) rfl ?_
      exact (sel_ge 4 (by decide) _ _ one_bits c r hr)
    · exact congrArg h (funext fun b => match b with | ⟨0, _⟩ => rfl | ⟨1, _⟩ => rfl)
  · exact fun r hr => congrArg₂ (fun x y : EReal => x * y) rfl ((sel_ge 1 (by decide) _ _ one_bits c r hr))
  · exact fun r hr => congrArg₂ (fun x y : EReal => x * y) rfl ((sel_ge 2 (by decide) _ _ one_bits c r hr))
  · have e1 : ∀ r, r < 8 → col8 (addf u (mulf a (select (k0_pay6 rows8) (dynamicRotate 0 1#32 none u rotates_S8x1024_d0) (broadcast S8x1024 (Scalar.ofBits (F := Ideal) .f32 0x00000000#32))))) c r
        = col8 u c r + col8 a c r * (if 1 ≤ r then col8 u c (r - 1) else 0) := fun r hr =>
      congrArg₂ (fun x y : EReal => x + y) rfl (congrArg₂ (fun x y : EReal => x * y) rfl ((sel_ge 1 (by decide) _ _ zero_bits c r hr)))
    have e2 : ∀ r, r < 8 → col8 (addf (addf u (mulf a (select (k0_pay6 rows8) (dynamicRotate 0 1#32 none u rotates_S8x1024_d0) (broadcast S8x1024 (Scalar.ofBits (F := Ideal) .f32 0x00000000#32)))))
          (mulf (k0_pay7 rows8 a) (select (k0_pay8 rows8) (dynamicRotate 0 2#32 none (addf u (mulf a (select (k0_pay6 rows8) (dynamicRotate 0 1#32 none u rotates_S8x1024_d0) (broadcast S8x1024 (Scalar.ofBits (F := Ideal) .f32 0x00000000#32))))) rotates_S8x1024_d0)
            (broadcast S8x1024 (Scalar.ofBits (F := Ideal) .f32 0x00000000#32))))) c r
        = (col8 u c r + col8 a c r * (if 1 ≤ r then col8 u c (r - 1) else 0)) + col8 (k0_pay7 (F := Ideal) rows8 a) c r * (if 2 ≤ r then (col8 u c (r - 2) + col8 a c (r - 2) * (if 1 ≤ r - 2 then col8 u c (r - 2 - 1) else 0)) else 0) := fun r hr =>
      congrArg₂ (fun x y : EReal => x + y) (e1 r hr) (congrArg₂ (fun x y : EReal => x * y) rfl ((sel_ge 2 (by decide) _ _ zero_bits c r hr).trans (ite_congr rfl (fun _ => e1 _ (by omega)) (fun _ => rfl))))
    exact fun r hr => congrArg₂ (fun x y : EReal => x + y) (e2 r hr) (congrArg₂ (fun x y : EReal => x * y) rfl ((sel_ge 4 (by decide) _ _ zero_bits c r hr).trans (ite_congr rfl (fun _ => e2 _ (by omega)) (fun _ => rfl))))

/-- Eight rows backward from the carried row. -/
theorem bwd8 (a u : FVec Ideal S8x1024 .f32) (h : FVec Ideal S1x1024 .f32) (c : Fin 1024)
    (ha : ∀ r, r < 8 → 0 ≤ loc8 a c r ∧ loc8 a c r ≠ ⊤) (r : ℕ) (hr : r < 8) :
    loc8 (k0_pay2 (F := Ideal) h (k0_pay18 rows8 a u) (k0_pay19 rows8 a)) c r = steps (loc8 a c) (loc8 u c) 0 (r + 1) (h (ix2 0 c)) := by
  refine Eq.trans ?_ (level_eight (a1 := loc8 (k0_pay14 (F := Ideal) rows8 a) c) (a2 := loc8 (k0_pay16 (F := Ideal) rows8 a) c)
    (s1 := fun r => loc8 u c r + loc8 a c r * (if 1 ≤ r then loc8 u c (r - 1) else 0))
    (s2 := fun r => (loc8 u c r + loc8 a c r * (if 1 ≤ r then loc8 u c (r - 1) else 0)) + loc8 (k0_pay14 (F := Ideal) rows8 a) c r * (if 2 ≤ r then (loc8 u c (r - 2) + loc8 a c (r - 2) * (if 1 ≤ r - 2 then loc8 u c (r - 2 - 1) else 0)) else 0))
    (s3 := loc8 (k0_pay18 (F := Ideal) rows8 a u) c)
    (a3 := fun r => loc8 (k0_pay16 (F := Ideal) rows8 a) c r * (if 4 ≤ r then loc8 (k0_pay16 (F := Ideal) rows8 a) c (r - 4) else 1))
    ha ?_ (fun _ _ => rfl) ?_ (fun _ _ => rfl) (fun _ _ => rfl) ?_ r hr (h (ix2 0 c)))
  · refine congrArg₂ (fun x y : EReal => x + y) rfl (congrArg₂ (fun x y : EReal => x * y) ?_ ?_)
    · refine congrArg₂ (fun x y : EReal => x * y) rfl ?_
      exact (sel_lt 4 (by decide) _ _ one_bits c r hr)
    · exact congrArg h (funext fun b => match b with | ⟨0, _⟩ => rfl | ⟨1, _⟩ => rfl)
  · exact fun r hr => congrArg₂ (fun x y : EReal => x * y) rfl ((sel_lt 7 (by decide) _ _ one_bits c r hr))
  · exact fun r hr => congrArg₂ (fun x y : EReal => x * y) rfl ((sel_lt 6 (by decide) _ _ one_bits c r hr))
  · have e1 : ∀ r, r < 8 → loc8 (addf u (mulf a (select (k0_pay13 rows8) (dynamicRotate 0 7#32 none u rotates_S8x1024_d0) (broadcast S8x1024 (Scalar.ofBits (F := Ideal) .f32 0x00000000#32))))) c r
        = loc8 u c r + loc8 a c r * (if 1 ≤ r then loc8 u c (r - 1) else 0) := fun r hr =>
      congrArg₂ (fun x y : EReal => x + y) rfl (congrArg₂ (fun x y : EReal => x * y) rfl ((sel_lt 7 (by decide) _ _ zero_bits c r hr)))
    have e2 : ∀ r, r < 8 → loc8 (addf (addf u (mulf a (select (k0_pay13 rows8) (dynamicRotate 0 7#32 none u rotates_S8x1024_d0) (broadcast S8x1024 (Scalar.ofBits (F := Ideal) .f32 0x00000000#32)))))
          (mulf (k0_pay14 rows8 a) (select (k0_pay15 rows8) (dynamicRotate 0 6#32 none (addf u (mulf a (select (k0_pay13 rows8) (dynamicRotate 0 7#32 none u rotates_S8x1024_d0) (broadcast S8x1024 (Scalar.ofBits (F := Ideal) .f32 0x00000000#32))))) rotates_S8x1024_d0)
            (broadcast S8x1024 (Scalar.ofBits (F := Ideal) .f32 0x00000000#32))))) c r
        = (loc8 u c r + loc8 a c r * (if 1 ≤ r then loc8 u c (r - 1) else 0)) + loc8 (k0_pay14 (F := Ideal) rows8 a) c r * (if 2 ≤ r then (loc8 u c (r - 2) + loc8 a c (r - 2) * (if 1 ≤ r - 2 then loc8 u c (r - 2 - 1) else 0)) else 0) := fun r hr =>
      congrArg₂ (fun x y : EReal => x + y) (e1 r hr) (congrArg₂ (fun x y : EReal => x * y) rfl ((sel_lt 6 (by decide) _ _ zero_bits c r hr).trans (ite_congr rfl (fun _ => e1 _ (by omega)) (fun _ => rfl))))
    exact fun r hr => congrArg₂ (fun x y : EReal => x + y) (e2 r hr) (congrArg₂ (fun x y : EReal => x * y) rfl ((sel_lt 4 (by decide) _ _ zero_bits c r hr).trans (ite_congr rfl (fun _ => e2 _ (by omega)) (fun _ => rfl))))

end Cert.KernelIdeal.Lru

end

end
-- ==== Proof.LruLoop.lean ====
module

public import proofs.«01_k».proof.Proof.Gen.KernelIdeal.Loops
public import proofs.«01_k».proof.Proof.LruScan

@[expose] public section

set_option maxRecDepth 16384

noncomputable section

/-! What the two loops over eight rows at a time leave: the recurrence at every row of the block. -/

namespace Cert.KernelIdeal.Lru

open Idealize.ShloMosaic Cert.KernelIdeal Cert.KernelIdeal.Gen

/-- Column `c` of a block, row by row. -/
def col (x : FVec Ideal S512x1024 .f32) (c : Fin 1024) (n : ℕ) : EReal := x (ix2 (Fin.ofNat 512 n) c)

/-- Column `c` of a block, from the last row up. -/
def loc (x : FVec Ideal S512x1024 .f32) (c : Fin 1024) (n : ℕ) : EReal := x (ix2 (Fin.ofNat 512 (511 - n)) c)

/-- The forward recurrence over the block's rows from the carried row. -/
def fwdBlock (A U : FVec Ideal S512x1024 .f32) (h : FVec Ideal S1x1024 .f32) : FVec Ideal S1x512x1024 .f32 :=
  fun y => steps (col A (y 2)) (col U (y 2)) 0 ((y 1).val + 1) (h (ix2 0 (y 2)))

/-- The backward recurrence over the block's rows from the carried row. -/
def bwdBlock (A U : FVec Ideal S512x1024 .f32) (h : FVec Ideal S1x1024 .f32) : FVec Ideal S1x512x1024 .f32 :=
  fun y => steps (loc A (y 2)) (loc U (y 2)) 0 (512 - (y 1).val) (h (ix2 0 (y 2)))

theorem off1 : ∀ k : Fin k0_t1_loop.trips, k0_off1 k 0 = k.val * 8 ∧ k0_off1 k 1 = 0 := by decide +kernel
theorem off2 : ∀ k : Fin k0_t1_loop.trips, k0_off2 k 0 = 0 ∧ k0_off2 k 1 = k.val * 8 ∧ k0_off2 k 2 = 0 := by decide +kernel
theorem off3 : ∀ k : Fin k0_t2_loop.trips, k0_off3 k 0 = (63 - k.val) * 8 ∧ k0_off3 k 1 = 0 := by decide +kernel
theorem off4 : ∀ k : Fin k0_t2_loop.trips, k0_off4 k 0 = 0 ∧ k0_off4 k 1 = (63 - k.val) * 8 ∧ k0_off4 k 2 = 0 := by decide +kernel
theorem trips1 : k0_t1_loop.trips = 64 := by decide +kernel
theorem trips2 : k0_t2_loop.trips = 64 := by decide +kernel

theorem trip1_eq (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole) (arg1 : BitVec 32)  (v164 : FVec Ideal S512x1024 .f32) (X_arg17 : BufTy.Contents (Elt Ideal) arg17.view.ty) (X_arg18 : BufTy.Contents (Elt Ideal) arg18.view.ty) (k : Fin k0_t1_loop.trips) (acc : Vec Ideal S1x1024 .f32) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 k).1 acc = k0_pay44 (F := Ideal) (k0_pay11 rows8 (View.readAt (Elt Ideal) arg17.view (Rect.unit (s := S512x1024) (k0_off1 k) S8x1024.size (k0_off1_inb k)).toLoadRect X_arg17) (View.readAt (Elt Ideal) arg18.view (Rect.unit (s := S512x1024) (k0_off1 k) S8x1024.size (k0_off1_inb k)).toLoadRect X_arg18)) (k0_pay12 rows8 acc (View.readAt (Elt Ideal) arg17.view (Rect.unit (s := S512x1024) (k0_off1 k) S8x1024.size (k0_off1_inb k)).toLoadRect X_arg17))
    ∧ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 k).2.1 acc = [⟨Rect.unit (s := S1x512x1024) (k0_off2 k) S1x8x1024.size (k0_off2_inb k), k0_pay43 (F := Ideal) (k0_pay11 rows8 (View.readAt (Elt Ideal) arg17.view (Rect.unit (s := S512x1024) (k0_off1 k) S8x1024.size (k0_off1_inb k)).toLoadRect X_arg17) (View.readAt (Elt Ideal) arg18.view (Rect.unit (s := S512x1024) (k0_off1 k) S8x1024.size (k0_off1_inb k)).toLoadRect X_arg18)) (k0_pay12 rows8 acc (View.readAt (Elt Ideal) arg17.view (Rect.unit (s := S512x1024) (k0_off1 k) S8x1024.size (k0_off1_inb k)).toLoadRect X_arg17))⟩] := by
  unfold trip_k0_t1; exact ⟨rfl, rfl⟩

theorem tile1 (m : Memref sig .tc .vmem S512x1024 .f32) (X : BufTy.Contents (Elt Ideal) m.view.ty) (A : FVec Ideal S512x1024 .f32)
    (hX : m.view.read (Elt Ideal) X = A) (k : Fin k0_t1_loop.trips) (c : Fin 1024) (r : ℕ) (hr : r < 8) :
    col8 (View.readAt (Elt Ideal) m.view (Rect.unit (s := S512x1024) (k0_off1 k) S8x1024.size (k0_off1_inb k)).toLoadRect X) c r = col A c (0 + k.val * 8 + r) := by
    subst hX
    generalize hA : m.view.read (Elt Ideal) X = A
    have e : View.readAt (Elt Ideal) m.view (Rect.unit (s := S512x1024) (k0_off1 k) S8x1024.size (k0_off1_inb k)).toLoadRect X = fun y => A ((Rect.unit (s := S512x1024) (k0_off1 k) S8x1024.size (k0_off1_inb k)).toLoadRect.idx y) := by rw [← hA]; rfl
    rw [e]
    show A _ = A _
    refine congrArg A (funext fun b => ?_)
    have hk : k.val < 64 := trips1 ▸ k.isLt
    match b with
    | ⟨0, _⟩ =>
      apply Fin.ext
      show k0_off1 k 0 + 1 * (r % 8) = (0 + k.val * 8 + r) % 512
      rw [(off1 k).1]; omega
    | ⟨1, _⟩ =>
      apply Fin.ext
      show k0_off1 k 1 + 1 * c.val = c.val
      rw [(off1 k).2]; omega

theorem pay44_at (a b : FVec Ideal S8x1024 .f32) (l : Fin 1024) : k0_pay44 (F := Ideal) a b (ix2 0 l) = col8 (k0_pay42 (F := Ideal) a b) l 7 :=
  extractStridedSlice_apply ![7, 0] (k0_pay42 (F := Ideal) a b) slices_S8x1024_o7_0_S1x1024 (ix2 0 l) (ix2 (Fin.ofNat 8 7) l) (fun b => match b with | ⟨0, _⟩ => rfl | ⟨1, _⟩ => (Nat.zero_add _).symm)

theorem pay4_at (h : FVec Ideal S1x1024 .f32) (a b : FVec Ideal S8x1024 .f32) (l : Fin 1024) : k0_pay4 (F := Ideal) h a b (ix2 0 l) = loc8 (k0_pay2 (F := Ideal) h a b) l 7 :=
  extractStridedSlice_apply ![0, 0] (k0_pay2 (F := Ideal) h a b) slices_S8x1024_o0_0_S1x1024 (ix2 0 l) (ix2 (Fin.ofNat 8 (7 - 7)) l) (fun b => match b with | ⟨0, _⟩ => rfl | ⟨1, _⟩ => (Nat.zero_add _).symm)

theorem pay43_at (a b : FVec Ideal S8x1024 .f32) (y : S1x8x1024.Idx) : k0_pay43 (F := Ideal) a b y = col8 (k0_pay42 (F := Ideal) a b) (y 2) (y 1).val := by
  refine shapeCast_apply (k0_pay42 (F := Ideal) a b) shapeCasts_S8x1024_S1x8x1024 y (ix2 (Fin.ofNat 8 (y 1).val) (y 2)) ?_
  rw [Shape.rowMajor_val_three, Shape.rowMajor_val_two]
  have h0 : (y 0).val < 1 := (y 0).isLt
  have hy1 : (y 1).val < 8 := (y 1).isLt
  show ((y 1).val % 8) * 1024 + (y 2).val = ((y 0).val * 8 + (y 1).val) * 1024 + (y 2).val
  omega

theorem pay3_at (h : FVec Ideal S1x1024 .f32) (a b : FVec Ideal S8x1024 .f32) (y : S1x8x1024.Idx) : k0_pay3 (F := Ideal) h a b y = loc8 (k0_pay2 (F := Ideal) h a b) (y 2) (7 - (y 1).val) := by
  refine shapeCast_apply (k0_pay2 (F := Ideal) h a b) shapeCasts_S8x1024_S1x8x1024 y (ix2 (Fin.ofNat 8 (7 - (7 - (y 1).val))) (y 2)) ?_
  rw [Shape.rowMajor_val_three, Shape.rowMajor_val_two]
  have h0 : (y 0).val < 1 := (y 0).isLt
  have hy1 : (y 1).val < 8 := (y 1).isLt
  show ((7 - (7 - (y 1).val)) % 8) * 1024 + (y 2).val = ((y 0).val * 8 + (y 1).val) * 1024 + (y 2).val
  omega

theorem loop1 (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole) (arg1 : BitVec 32)  (v164 : FVec Ideal S512x1024 .f32) (X_arg17 : BufTy.Contents (Elt Ideal) arg17.view.ty) (X_arg18 : BufTy.Contents (Elt Ideal) arg18.view.ty) (init : Vec Ideal S1x1024 .f32) (A U : FVec Ideal S512x1024 .f32)
    (hA : ∀ y, 0 ≤ A y ∧ A y ≠ ⊤) (h17 : arg17.view.read (Elt Ideal) X_arg17 = A) (h18 : arg18.view.read (Elt Ideal) X_arg18 = U) :
    ∀ n : ℕ, n ≤ 64 → (∀ l : Fin 1024, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 init n).1 (ix2 0 l) = steps (col A l) (col U l) 0 (n * 8) (init (ix2 0 l)))
      ∧ ∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 init n).2, ∀ x, p.2 x = fwdBlock A U init (p.1.emb x)
  | 0, _ => ⟨fun l => rfl, fun p hp => absurd hp (List.not_mem_nil)⟩
  | n + 1, hn => by
    have hkt : n < k0_t1_loop.trips := by rw [trips1]; omega
    obtain ⟨ih1, ih2⟩ := loop1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v164 X_arg17 X_arg18 init A U hA h17 h18 n (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 init ⟨n, hkt⟩
    rw [show ((⟨n, hkt⟩ : Fin k0_t1_loop.trips)).val + 1 = n + 1 from rfl] at hs
    rw [hs]
    obtain ⟨hR, hL⟩ := trip1_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v164 X_arg17 X_arg18 ⟨n, hkt⟩ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 init n).1
    generalize hk : (⟨n, hkt⟩ : Fin k0_t1_loop.trips) = k at *
    have hkv : k.val = n := by rw [← hk]
    generalize hacc : (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 init n).1 = acc at *
    have hrow : ∀ (l : Fin 1024) (r : ℕ), r < 8 → col8 (k0_pay42 (F := Ideal) (k0_pay11 rows8 (View.readAt (Elt Ideal) arg17.view (Rect.unit (s := S512x1024) (k0_off1 k) S8x1024.size (k0_off1_inb k)).toLoadRect X_arg17) (View.readAt (Elt Ideal) arg18.view (Rect.unit (s := S512x1024) (k0_off1 k) S8x1024.size (k0_off1_inb k)).toLoadRect X_arg18)) (k0_pay12 rows8 acc (View.readAt (Elt Ideal) arg17.view (Rect.unit (s := S512x1024) (k0_off1 k) S8x1024.size (k0_off1_inb k)).toLoadRect X_arg17))) l r = steps (col A l) (col U l) 0 (n * 8 + (r + 1)) (init (ix2 0 l)) := by
      intro l r hr
      refine (fwd8 (View.readAt (Elt Ideal) arg17.view (Rect.unit (s := S512x1024) (k0_off1 k) S8x1024.size (k0_off1_inb k)).toLoadRect X_arg17) (View.readAt (Elt Ideal) arg18.view (Rect.unit (s := S512x1024) (k0_off1 k) S8x1024.size (k0_off1_inb k)).toLoadRect X_arg18) acc l (fun r hr => ?_) r hr).trans ?_
      · rw [tile1 arg17 X_arg17 A h17 k l r hr]; exact hA _
      · rw [steps_add (col A l) (col U l) 0 (n * 8), ← ih1 l]
        refine steps_congr 0 (0 + n * 8) (r + 1) (fun i hi => ?_) (by first | rfl | (rw [← hkv]; rfl))
        rw [Nat.zero_add i, tile1 arg17 X_arg17 A h17 k l i (by omega), tile1 arg18 X_arg18 U h18 k l i (by omega), hkv]
        exact ⟨rfl, rfl⟩
    refine ⟨fun l => ?_, fun p hp => ?_⟩
    · show ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 k).1 _) (ix2 0 l) = _
      rw [hkv, hacc, hR, show (n + 1) * 8 = n * 8 + (7 + 1) by omega]
      exact (pay44_at _ _ l).trans (hrow l 7 (by omega))
    · rcases List.mem_append.mp hp with hp | hp
      · have hp' : p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 rows8 v164 X_arg17 X_arg18 k).2.1 acc := by rw [hkv, hacc] at hp; exact hp
        rw [hL] at hp'
        obtain rfl := List.mem_singleton.mp hp'
        intro y
        have hy1 : (y 1).val < 8 := (y 1).isLt
        have hk64 : k.val < 64 := by omega
        have e1 : ((Rect.unit (s := S1x512x1024) (k0_off2 k) S1x8x1024.size (k0_off2_inb k)).emb y 1).val = n * 8 + (y 1).val := by
          show k0_off2 k 1 + 1 * (y 1).val = _
          rw [(off2 k).2.1, hkv]; omega
        have e2 : (Rect.unit (s := S1x512x1024) (k0_off2 k) S1x8x1024.size (k0_off2_inb k)).emb y 2 = y 2 := Fin.ext (by
          show k0_off2 k 2 + 1 * (y 2).val = (y 2).val
          rw [(off2 k).2.2]; omega)
        unfold fwdBlock
        rw [e1, e2]
        refine (pay43_at _ _ y).trans ((hrow (y 2) (y 1).val (by omega)).trans ?_)
        rw [show n * 8 + (y 1).val + 1 = n * 8 + ((y 1).val + 1) by omega]
      · rw [hkv] at hp; exact ih2 p hp

theorem trip2_eq (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole)  (X_arg17 : BufTy.Contents (Elt Ideal) arg17.view.ty) (X_arg18 : BufTy.Contents (Elt Ideal) arg18.view.ty) (k : Fin k0_t2_loop.trips) (acc : Vec Ideal S1x1024 .f32) :
    (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 k).1 acc = k0_pay4 (F := Ideal) acc (k0_pay18 rows8 (View.readAt (Elt Ideal) arg17.view (Rect.unit (s := S512x1024) (k0_off3 k) S8x1024.size (k0_off3_inb k)).toLoadRect X_arg17) (View.readAt (Elt Ideal) arg18.view (Rect.unit (s := S512x1024) (k0_off3 k) S8x1024.size (k0_off3_inb k)).toLoadRect X_arg18)) (k0_pay19 rows8 (View.readAt (Elt Ideal) arg17.view (Rect.unit (s := S512x1024) (k0_off3 k) S8x1024.size (k0_off3_inb k)).toLoadRect X_arg17))
    ∧ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 k).2.1 acc = [⟨Rect.unit (s := S1x512x1024) (k0_off4 k) S1x8x1024.size (k0_off4_inb k), k0_pay3 (F := Ideal) acc (k0_pay18 rows8 (View.readAt (Elt Ideal) arg17.view (Rect.unit (s := S512x1024) (k0_off3 k) S8x1024.size (k0_off3_inb k)).toLoadRect X_arg17) (View.readAt (Elt Ideal) arg18.view (Rect.unit (s := S512x1024) (k0_off3 k) S8x1024.size (k0_off3_inb k)).toLoadRect X_arg18)) (k0_pay19 rows8 (View.readAt (Elt Ideal) arg17.view (Rect.unit (s := S512x1024) (k0_off3 k) S8x1024.size (k0_off3_inb k)).toLoadRect X_arg17))⟩] := by
  unfold trip_k0_t2; exact ⟨rfl, rfl⟩

theorem tile2 (m : Memref sig .tc .vmem S512x1024 .f32) (X : BufTy.Contents (Elt Ideal) m.view.ty) (A : FVec Ideal S512x1024 .f32)
    (hX : m.view.read (Elt Ideal) X = A) (k : Fin k0_t2_loop.trips) (c : Fin 1024) (r : ℕ) (hr : r < 8) :
    loc8 (View.readAt (Elt Ideal) m.view (Rect.unit (s := S512x1024) (k0_off3 k) S8x1024.size (k0_off3_inb k)).toLoadRect X) c r = loc A c (0 + k.val * 8 + r) := by
    subst hX
    generalize hA : m.view.read (Elt Ideal) X = A
    have e : View.readAt (Elt Ideal) m.view (Rect.unit (s := S512x1024) (k0_off3 k) S8x1024.size (k0_off3_inb k)).toLoadRect X = fun y => A ((Rect.unit (s := S512x1024) (k0_off3 k) S8x1024.size (k0_off3_inb k)).toLoadRect.idx y) := by rw [← hA]; rfl
    rw [e]
    show A _ = A _
    refine congrArg A (funext fun b => ?_)
    have hk : k.val < 64 := trips2 ▸ k.isLt
    match b with
    | ⟨0, _⟩ =>
      apply Fin.ext
      show k0_off3 k 0 + 1 * ((7 - r) % 8) = (511 - (0 + k.val * 8 + r)) % 512
      rw [(off3 k).1]; omega
    | ⟨1, _⟩ =>
      apply Fin.ext
      show k0_off3 k 1 + 1 * c.val = c.val
      rw [(off3 k).2]; omega

theorem loop2 (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole)  (X_arg17 : BufTy.Contents (Elt Ideal) arg17.view.ty) (X_arg18 : BufTy.Contents (Elt Ideal) arg18.view.ty) (init : Vec Ideal S1x1024 .f32) (A U : FVec Ideal S512x1024 .f32)
    (hA : ∀ y, 0 ≤ A y ∧ A y ≠ ⊤) (h17 : arg17.view.read (Elt Ideal) X_arg17 = A) (h18 : arg18.view.read (Elt Ideal) X_arg18 = U) :
    ∀ n : ℕ, n ≤ 64 → (∀ l : Fin 1024, (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 init n).1 (ix2 0 l) = steps (loc A l) (loc U l) 0 (n * 8) (init (ix2 0 l)))
      ∧ ∀ p ∈ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 init n).2, ∀ x, p.2 x = bwdBlock A U init (p.1.emb x)
  | 0, _ => ⟨fun l => rfl, fun p hp => absurd hp (List.not_mem_nil)⟩
  | n + 1, hn => by
    have hkt : n < k0_t2_loop.trips := by rw [trips2]; omega
    obtain ⟨ih1, ih2⟩ := loop2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 init A U hA h17 h18 n (by omega)
    have hs := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 init ⟨n, hkt⟩
    rw [show ((⟨n, hkt⟩ : Fin k0_t2_loop.trips)).val + 1 = n + 1 from rfl] at hs
    rw [hs]
    obtain ⟨hR, hL⟩ := trip2_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg17 X_arg18 ⟨n, hkt⟩ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 init n).1
    generalize hk : (⟨n, hkt⟩ : Fin k0_t2_loop.trips) = k at *
    have hkv : k.val = n := by rw [← hk]
    generalize hacc : (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 init n).1 = acc at *
    have hrow : ∀ (l : Fin 1024) (r : ℕ), r < 8 → loc8 (k0_pay2 (F := Ideal) acc (k0_pay18 rows8 (View.readAt (Elt Ideal) arg17.view (Rect.unit (s := S512x1024) (k0_off3 k) S8x1024.size (k0_off3_inb k)).toLoadRect X_arg17) (View.readAt (Elt Ideal) arg18.view (Rect.unit (s := S512x1024) (k0_off3 k) S8x1024.size (k0_off3_inb k)).toLoadRect X_arg18)) (k0_pay19 rows8 (View.readAt (Elt Ideal) arg17.view (Rect.unit (s := S512x1024) (k0_off3 k) S8x1024.size (k0_off3_inb k)).toLoadRect X_arg17))) l r = steps (loc A l) (loc U l) 0 (n * 8 + (r + 1)) (init (ix2 0 l)) := by
      intro l r hr
      refine (bwd8 (View.readAt (Elt Ideal) arg17.view (Rect.unit (s := S512x1024) (k0_off3 k) S8x1024.size (k0_off3_inb k)).toLoadRect X_arg17) (View.readAt (Elt Ideal) arg18.view (Rect.unit (s := S512x1024) (k0_off3 k) S8x1024.size (k0_off3_inb k)).toLoadRect X_arg18) acc l (fun r hr => ?_) r hr).trans ?_
      · rw [tile2 arg17 X_arg17 A h17 k l r hr]; exact hA _
      · rw [steps_add (loc A l) (loc U l) 0 (n * 8), ← ih1 l]
        refine steps_congr 0 (0 + n * 8) (r + 1) (fun i hi => ?_) (by first | rfl | (rw [← hkv]; rfl))
        rw [Nat.zero_add i, tile2 arg17 X_arg17 A h17 k l i (by omega), tile2 arg18 X_arg18 U h18 k l i (by omega), hkv]
        exact ⟨rfl, rfl⟩
    refine ⟨fun l => ?_, fun p hp => ?_⟩
    · show ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 k).1 _) (ix2 0 l) = _
      rw [hkv, hacc, hR, show (n + 1) * 8 = n * 8 + (7 + 1) by omega]
      exact (pay4_at _ _ _ l).trans (hrow l 7 (by omega))
    · rcases List.mem_append.mp hp with hp | hp
      · have hp' : p ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X_arg17 X_arg18 k).2.1 acc := by rw [hkv, hacc] at hp; exact hp
        rw [hL] at hp'
        obtain rfl := List.mem_singleton.mp hp'
        intro y
        have hy1 : (y 1).val < 8 := (y 1).isLt
        have hk64 : k.val < 64 := by omega
        have e1 : ((Rect.unit (s := S1x512x1024) (k0_off4 k) S1x8x1024.size (k0_off4_inb k)).emb y 1).val = (63 - n) * 8 + (y 1).val := by
          show k0_off4 k 1 + 1 * (y 1).val = _
          rw [(off4 k).2.1, hkv]; omega
        have e2 : (Rect.unit (s := S1x512x1024) (k0_off4 k) S1x8x1024.size (k0_off4_inb k)).emb y 2 = y 2 := Fin.ext (by
          show k0_off4 k 2 + 1 * (y 2).val = (y 2).val
          rw [(off4 k).2.2]; omega)
        unfold bwdBlock
        rw [e1, e2]
        refine (pay3_at _ _ _ y).trans ((hrow (y 2) (7 - (y 1).val) (by omega)).trans ?_)
        rw [show 512 - ((63 - n) * 8 + (y 1).val) = n * 8 + (7 - (y 1).val + 1) by omega]
      · rw [hkv] at hp; exact ih2 p hp

end Cert.KernelIdeal.Lru

end

end
-- ==== Proof.LruPoint.lean ====
module

public import Idealize.ShloMosaic.Lib.Pointwise
public import Idealize.ShloMosaic.Lib.WritesUnit
public import Idealize.ShloMosaic.Lib.WholeRead
public import proofs.«01_k».proof.Proof.LruBlock
public import proofs.«01_k».proof.Proof.LruLoop
public import proofs.«01_k».proof.Proof.LruFrame

@[expose] public section

set_option maxRecDepth 16384

noncomputable section

/-! What the body computes at a point, in terms of the blocks it is given. -/

namespace Cert.KernelIdeal.Lru

open Idealize.ShloMosaic Cert.KernelIdeal Cert.KernelIdeal.Gen Cert.Lru

/-! ### Loads -/

section
variable (m0 : Memref sig .tc .vmem S1x512x1024 .f32) (h0 : m0.IsWhole) (m1 : Memref sig .tc .vmem S1x8x1024 .f32) (h1 : m1.IsWhole)
variable (m4 : Memref sig .tc .vmem S4x1024 .f32) (h4 : m4.IsWhole) (m5 : Memref sig .tc .vmem S1x1024 .f32) (h5 : m5.IsWhole)
variable (m8 : Memref sig .tc .vmem S2x8x128x128 .bf16) (h8 : m8.IsWhole) (m2 : Memref sig .tc .vmem S2x1024 .f32) (h2 : m2.IsWhole)

theorem inb0 : ∀ a, (![0, 0, 0] : Fin 3 → ℕ) a + S1x512x1024.size a ≤ S1x512x1024.size a := by decide
theorem inb1 : ∀ a, (![0, 0, 0] : Fin 3 → ℕ) a + S1x8x1024.size a ≤ S1x8x1024.size a := by decide
theorem inb4 : ∀ (k : Fin 4) (a), (![k.val, 0] : Fin 2 → ℕ) a + S1x1024.size a ≤ S4x1024.size a := by decide
theorem inb5 : ∀ a, (![0, 0] : Fin 2 → ℕ) a + S1x1024.size a ≤ S1x1024.size a := by decide
theorem inb2 : ∀ (k : Fin 2) (a), (![k.val, 0] : Fin 2 → ℕ) a + S1x1024.size a ≤ S2x1024.size a := by decide
theorem inb8 : ∀ (d : Fin 2) (k : Fin 8) (a), (![d.val, k.val, 0, 0] : Fin 4 → ℕ) a + S1x1x128x128.size a ≤ S2x8x128x128.size a := by decide
theorem inbW : ∀ a, (![0, 0] : Fin 2 → ℕ) a + S512x1024.size a ≤ S512x1024.size a := by decide

abbrev ld0 (x : Vec Ideal S1x512x1024 .f32) : FVec Ideal S1x512x1024 .f32 :=
  View.readAt (Elt Ideal) m0.view (Rect.unit (s := S1x512x1024) ![0, 0, 0] S1x512x1024.size inb0).toLoadRect (h0.unread x)
abbrev ld1 (x : Vec Ideal S1x8x1024 .f32) : FVec Ideal S1x8x1024 .f32 :=
  View.readAt (Elt Ideal) m1.view (Rect.unit (s := S1x8x1024) ![0, 0, 0] S1x8x1024.size inb1).toLoadRect (h1.unread x)
abbrev ld4 (k : Fin 4) (x : Vec Ideal S4x1024 .f32) : FVec Ideal S1x1024 .f32 :=
  View.readAt (Elt Ideal) m4.view (Rect.unit (s := S4x1024) ![k.val, 0] S1x1024.size (inb4 k)).toLoadRect (h4.unread x)
abbrev ld5 (x : Vec Ideal S1x1024 .f32) : FVec Ideal S1x1024 .f32 :=
  View.readAt (Elt Ideal) m5.view (Rect.unit (s := S1x1024) ![0, 0] S1x1024.size inb5).toLoadRect (h5.unread x)
abbrev ld2 (k : Fin 2) (x : Vec Ideal S2x1024 .f32) : FVec Ideal S1x1024 .f32 :=
  View.readAt (Elt Ideal) m2.view (Rect.unit (s := S2x1024) ![k.val, 0] S1x1024.size (inb2 k)).toLoadRect (h2.unread x)
abbrev ld8 (d : Fin 2) (x : Vec Ideal S2x8x128x128 .bf16) : Fin 8 → FVec Ideal S1x1x128x128 .bf16 := fun k =>
  View.readAt (Elt Ideal) m8.view (Rect.unit (s := S2x8x128x128) ![d.val, k.val, 0, 0] S1x1x128x128.size (inb8 d k)).toLoadRect (h8.unread x)

theorem ld0_at (x : Vec Ideal S1x512x1024 .f32) (r : Fin 512) (l : Fin 1024) : ld0 m0 h0 x (ix3 0 r l) = x (ix3 0 r l) := by
  refine (Memref.IsWhole.readAt_unread h0 x _ _).trans (congrArg x (funext fun a => ?_))
  match a with
  | ⟨0, _⟩ => rfl
  | ⟨1, _⟩ => exact Fin.ext (show 0 + 1 * r.val = r.val by omega)
  | ⟨2, _⟩ => exact Fin.ext (show 0 + 1 * l.val = l.val by omega)
theorem ld1_at (x : Vec Ideal S1x8x1024 .f32) (r : Fin 8) (l : Fin 1024) : ld1 m1 h1 x (ix3 0 r l) = x (ix3 0 r l) := by
  refine (Memref.IsWhole.readAt_unread h1 x _ _).trans (congrArg x (funext fun a => ?_))
  match a with
  | ⟨0, _⟩ => rfl
  | ⟨1, _⟩ => exact Fin.ext (show 0 + 1 * r.val = r.val by omega)
  | ⟨2, _⟩ => exact Fin.ext (show 0 + 1 * l.val = l.val by omega)
theorem ld4_at (k : Fin 4) (x : Vec Ideal S4x1024 .f32) (l : Fin 1024) : ld4 m4 h4 k x (ix2 0 l) = x (ix2 k l) := by
  refine (Memref.IsWhole.readAt_unread h4 x _ _).trans (congrArg x (funext fun a => ?_))
  match a with
  | ⟨0, _⟩ => exact Fin.ext (show k.val + 1 * 0 = k.val by omega)
  | ⟨1, _⟩ => exact Fin.ext (show 0 + 1 * l.val = l.val by omega)
theorem ld5_at (x : Vec Ideal S1x1024 .f32) (l : Fin 1024) : ld5 m5 h5 x (ix2 0 l) = x (ix2 0 l) := by
  refine (Memref.IsWhole.readAt_unread h5 x _ _).trans (congrArg x (funext fun a => ?_))
  match a with
  | ⟨0, _⟩ => rfl
  | ⟨1, _⟩ => exact Fin.ext (show 0 + 1 * l.val = l.val by omega)
theorem ld2_at (k : Fin 2) (x : Vec Ideal S2x1024 .f32) (l : Fin 1024) : ld2 m2 h2 k x (ix2 0 l) = x (ix2 k l) := by
  refine (Memref.IsWhole.readAt_unread h2 x _ _).trans (congrArg x (funext fun a => ?_))
  match a with
  | ⟨0, _⟩ => exact Fin.ext (show k.val + 1 * 0 = k.val by omega)
  | ⟨1, _⟩ => exact Fin.ext (show 0 + 1 * l.val = l.val by omega)
theorem ld8_at (d : Fin 2) (x : Vec Ideal S2x8x128x128 .bf16) (n : Fin 8) (k c : Fin 128) : ld8 m8 h8 d x n (ix4 0 0 k c) = x (ix4 d n k c) := by
  refine (Memref.IsWhole.readAt_unread h8 x _ _).trans (congrArg x (funext fun a => ?_))
  match a with
  | ⟨0, _⟩ => exact Fin.ext (show d.val + 1 * 0 = d.val by omega)
  | ⟨1, _⟩ => exact Fin.ext (show n.val + 1 * 0 = n.val by omega)
  | ⟨2, _⟩ => exact Fin.ext (show 0 + 1 * k.val = k.val by omega)
  | ⟨3, _⟩ => exact Fin.ext (show 0 + 1 * c.val = c.val by omega)
end

/-- A whole block written is the block read. -/
theorem read_whole (v : View sig .tc .vmem S512x1024 .f32) (f) (w : FVec Ideal S512x1024 .f32) (L) :
    v.read (Elt Ideal) (v.writes (Elt Ideal) f ((⟨Rect.unit (s := S512x1024) ![0, 0] S512x1024.size inbW, w⟩ : View.Piece (Elt Ideal) S512x1024 .f32) :: L)) = w :=
  funext fun y => View.read_writes_cons_unit_of_mem (off' := ![0, 0]) v f inbW w L y y rfl (fun a => match a with
    | ⟨0, _⟩ => (Nat.zero_add _).symm
    | ⟨1, _⟩ => (Nat.zero_add _).symm)

/-- A carried row of zeros. -/
def noRow : Vec Ideal S1x1024 .f32 := fun _ => (0 : EReal)

theorem zero_init1 (c : Dev nD) (m : Memref sig .tc .vmem S1x1024 .f32) (h : m.IsWhole) (l : Fin 1024) :
    kernelRun0_A.sl.v168 (F := Ideal) c m (ix2 0 l) = noRow (ix2 0 l) := by
  unfold kernelRun0_A.sl.v168 kernelRun0_A.sl.HS2_1
  refine (congrFun (View.readCov_cons_toLoadRect _ _ _ _) _).trans ?_
  unfold k0_pay20
  pointwise []
  rfl

theorem zero_init2 (c : Dev nD) (m : Memref sig .tc .vmem S1x1024 .f32) (h : m.IsWhole) (l : Fin 1024) :
    kernelRun0_A.sl.v339 (F := Ideal) c m (ix2 0 l) = noRow (ix2 0 l) := by
  unfold kernelRun0_A.sl.v339 kernelRun0_A.sl.HS3_1
  refine (congrFun (View.readCov_cons_toLoadRect _ _ _ _) _).trans ?_
  unfold k0_pay21
  pointwise []
  rfl

theorem fwdBlock_congr (A U : FVec Ideal S512x1024 .f32) (h h' : Vec Ideal S1x1024 .f32) (e : ∀ l : Fin 1024, h (ix2 0 l) = h' (ix2 0 l)) : fwdBlock A U h = fwdBlock A U h' :=
  funext fun y => congrArg (steps (col A (y 2)) (col U (y 2)) 0 ((y 1).val + 1)) (e (y 2))

theorem bwdBlock_congr (A U : FVec Ideal S512x1024 .f32) (h h' : Vec Ideal S1x1024 .f32) (e : ∀ l : Fin 1024, h (ix2 0 l) = h' (ix2 0 l)) : bwdBlock A U h = bwdBlock A U h' :=
  funext fun y => congrArg (steps (loc A (y 2)) (loc U (y 2)) 0 (512 - (y 1).val)) (e (y 2))

theorem pay45_at (x : FVec Ideal S1x1024 .f32) (l : Fin 1024) : k0_pay45 (F := Ideal) x (ix2 0 l) = x (ix2 0 l) := by
  unfold k0_pay45
  pointwise []

theorem pay5_at (x : FVec Ideal S1x1024 .f32) (l : Fin 1024) : k0_pay5 (F := Ideal) x (ix2 0 l) = x (ix2 0 l) := by
  unfold k0_pay5
  pointwise []

/-! ### The blocks the body computes -/

section
variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole) (arg20 : Memref sig .tc .vmem S1x1024 .f32) (harg20 : arg20.IsWhole) (x0 : Vec Ideal S1x512x1024 .f32) (x1 : Vec Ideal S1x8x1024 .f32) (x2 : Vec Ideal S1x8x1024 .f32) (x3 : Vec Ideal S1x512x1024 .f32) (x4 : Vec Ideal S1x8x1024 .f32) (x5 : Vec Ideal S1x8x1024 .f32) (x6 : Vec Ideal S4x1024 .f32) (x7 : Vec Ideal S1x1024 .f32) (x8 : Vec Ideal S2x8x128x128 .bf16) (x9 : Vec Ideal S2x1024 .f32) (x10 : Vec Ideal S2x8x128x128 .bf16) (x11 : Vec Ideal S2x1024 .f32) (x12 : Vec Ideal S2x1024 .f32)

/-- The convolution of the forward block. -/
def xcF : FVec Ideal S512x1024 .f32 :=
  convK (buf (Scalar.cmpi .sgt (BitVec.ofNat 32 (i 1).val) 0#32) (Scalar.cmpi .slt (BitVec.ofNat 32 (i 1).val) 15#32) (ld1 arg3 harg3 x1) (ld0 arg2 harg2 x0) (ld1 arg4 harg4 x2))
    (ld5 arg9 harg9 x7) (ld4 arg8 harg8 0 x6) (ld4 arg8 harg8 1 x6) (ld4 arg8 harg8 2 x6) (ld4 arg8 harg8 3 x6)

/-- The convolution of the backward block. -/
def xcB : FVec Ideal S512x1024 .f32 :=
  convK (buf (Scalar.cmpi .sgt (Scalar.subi 15#32 (BitVec.ofNat 32 (i 1).val)) 0#32) (Scalar.cmpi .slt (Scalar.subi 15#32 (BitVec.ofNat 32 (i 1).val)) 15#32) (ld1 arg6 harg6 x4) (ld0 arg5 harg5 x3) (ld1 arg7 harg7 x5))
    (ld5 arg9 harg9 x7) (ld4 arg8 harg8 0 x6) (ld4 arg8 harg8 1 x6) (ld4 arg8 harg8 2 x6) (ld4 arg8 harg8 3 x6)

/-- The first gate of a direction. -/
def g1 (d : Fin 2) (x : FVec Ideal S512x1024 .f32) : FVec Ideal S512x1024 .f32 := gateK x (ld8 arg10 harg10 d x8) (ld2 arg11 harg11 d x9)

/-- The second gate of a direction. -/
def g2 (d : Fin 2) (x : FVec Ideal S512x1024 .f32) : FVec Ideal S512x1024 .f32 := gateK x (ld8 arg12 harg12 d x10) (ld2 arg13 harg13 d x11)

/-- The decays and the gated inputs of the forward block. -/
def aF (x : FVec Ideal S512x1024 .f32) : FVec Ideal S512x1024 .f32 := k0_pay39 (F := Ideal) (g1 arg10 harg10 arg11 harg11 x8 x9 0 x) (ld2 arg14 harg14 0 x12)
def uF (x : FVec Ideal S512x1024 .f32) : FVec Ideal S512x1024 .f32 :=
  k0_pay41 (F := Ideal) (k0_pay40 x (g1 arg10 harg10 arg11 harg11 x8 x9 0 x) (g2 arg12 harg12 arg13 harg13 x10 x11 0 x) (ld2 arg14 harg14 0 x12))

/-- The decays and the gated inputs of the backward block. -/
def aB (x : FVec Ideal S512x1024 .f32) : FVec Ideal S512x1024 .f32 := k0_pay67 (F := Ideal) (g1 arg10 harg10 arg11 harg11 x8 x9 1 x) (ld2 arg14 harg14 1 x12)
def uB (x : FVec Ideal S512x1024 .f32) : FVec Ideal S512x1024 .f32 :=
  k0_pay1 (F := Ideal) x (tanh (g2 arg12 harg12 arg13 harg13 x10 x11 1 x)) (k0_pay69 (g1 arg10 harg10 arg11 harg11 x8 x9 1 x) (ld2 arg14 harg14 1 x12))
    (k0_pay70 (g1 arg10 harg10 arg11 harg11 x8 x9 1 x) (ld2 arg14 harg14 1 x12)) k0_pay71

abbrev XF := xcF i arg2 harg2 arg3 harg3 arg4 harg4 arg8 harg8 arg9 harg9 x0 x1 x2 x6 x7
abbrev XB := xcB i arg5 harg5 arg6 harg6 arg7 harg7 arg8 harg8 arg9 harg9 x3 x4 x5 x6 x7
abbrev AF := aF arg10 harg10 arg11 harg11 arg14 harg14 x8 x9 x12 (XF i arg2 harg2 arg3 harg3 arg4 harg4 arg8 harg8 arg9 harg9 x0 x1 x2 x6 x7)
abbrev UF := uF arg10 harg10 arg11 harg11 arg12 harg12 arg13 harg13 arg14 harg14 x8 x9 x10 x11 x12 (XF i arg2 harg2 arg3 harg3 arg4 harg4 arg8 harg8 arg9 harg9 x0 x1 x2 x6 x7)
abbrev AB := aB arg10 harg10 arg11 harg11 arg14 harg14 x8 x9 x12 (XB i arg5 harg5 arg6 harg6 arg7 harg7 arg8 harg8 arg9 harg9 x3 x4 x5 x6 x7)
abbrev UB := uB arg10 harg10 arg11 harg11 arg12 harg12 arg13 harg13 arg14 harg14 x8 x9 x10 x11 x12 (XB i arg5 harg5 arg6 harg6 arg7 harg7 arg8 harg8 arg9 harg9 x3 x4 x5 x6 x7)

theorem runB_13 (hc0 : ¬cond0_0 i) (xs2 xs3 : Vec Ideal S1x1024 .f32) :
    ∃ (v : FVec Ideal S512x1024 .f32) (X17 : BufTy.Contents (Elt Ideal) arg17.view.ty) (X18 : BufTy.Contents (Elt Ideal) arg18.view.ty) (init : Vec Ideal S1x1024 .f32),
      arg17.view.read (Elt Ideal) X17 = (AF i arg2 harg2 arg3 harg3 arg4 harg4 arg8 harg8 arg9 harg9 arg10 harg10 arg11 harg11 arg14 harg14 x0 x1 x2 x6 x7 x8 x9 x12)
      ∧ arg18.view.read (Elt Ideal) X18 = (UF i arg2 harg2 arg3 harg3 arg4 harg4 arg8 harg8 arg9 harg9 arg10 harg10 arg11 harg11 arg12 harg12 arg13 harg13 arg14 harg14 x0 x1 x2 x6 x7 x8 x9 x10 x11 x12)
      ∧ (∀ l : Fin 1024, init (ix2 0 l) = xs2 (ix2 0 l))
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).1 = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) rows8 v X17 X18 init (Scf.trips k0_t1_loop.lb k0_t1_loop.ub k0_t1_loop.st)).2
      ∧ ∃ L, (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.2.1 = (⟨Rect.unit (s := S1x1024) ![0, 0] S1x1024.size inb5, k0_pay45 (F := Ideal) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) rows8 v X17 X18 init (Scf.trips k0_t1_loop.lb k0_t1_loop.ub k0_t1_loop.st)).1⟩ : View.Piece (Elt Ideal) S1x1024 .f32) :: L := by
  refine ⟨_, _, _, _, ?_, ?_, ?_, rfl, _, rfl⟩
  · exact read_whole _ _ _ _
  · exact read_whole _ _ _ _
  · exact fun l => ld5_at arg19 harg19 xs2 l

theorem runB_14 (hc0 : ¬cond0_0 i) (xs2 xs3 : Vec Ideal S1x1024 .f32) :
    ∃ (X17 : BufTy.Contents (Elt Ideal) arg17.view.ty) (X18 : BufTy.Contents (Elt Ideal) arg18.view.ty) (init : Vec Ideal S1x1024 .f32),
      arg17.view.read (Elt Ideal) X17 = (AB i arg5 harg5 arg6 harg6 arg7 harg7 arg8 harg8 arg9 harg9 arg10 harg10 arg11 harg11 arg14 harg14 x3 x4 x5 x6 x7 x8 x9 x12)
      ∧ arg18.view.read (Elt Ideal) X18 = (UB i arg5 harg5 arg6 harg6 arg7 harg7 arg8 harg8 arg9 harg9 arg10 harg10 arg11 harg11 arg12 harg12 arg13 harg13 arg14 harg14 x3 x4 x5 x6 x7 x8 x9 x10 x11 x12)
      ∧ (∀ l : Fin 1024, init (ix2 0 l) = xs3 (ix2 0 l))
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.1 = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X17 X18 init (Scf.trips k0_t2_loop.lb k0_t2_loop.ub k0_t2_loop.st)).2
      ∧ ∃ L, (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.2.2.1 = (⟨Rect.unit (s := S1x1024) ![0, 0] S1x1024.size inb5, k0_pay5 (F := Ideal) (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X17 X18 init (Scf.trips k0_t2_loop.lb k0_t2_loop.ub k0_t2_loop.st)).1⟩ : View.Piece (Elt Ideal) S1x1024 .f32) :: L := by
  refine ⟨_, _, _, ?_, ?_, ?_, rfl, _, rfl⟩
  · exact read_whole _ _ _ _
  · exact read_whole _ _ _ _
  · exact fun l => ld5_at arg20 harg20 xs3 l

theorem runA_13 (hc0 : cond0_0 i) :
    ∃ (v : FVec Ideal S512x1024 .f32) (X17 : BufTy.Contents (Elt Ideal) arg17.view.ty) (X18 : BufTy.Contents (Elt Ideal) arg18.view.ty) (init : Vec Ideal S1x1024 .f32),
      arg17.view.read (Elt Ideal) X17 = (AF i arg2 harg2 arg3 harg3 arg4 harg4 arg8 harg8 arg9 harg9 arg10 harg10 arg11 harg11 arg14 harg14 x0 x1 x2 x6 x7 x8 x9 x12)
      ∧ arg18.view.read (Elt Ideal) X18 = (UF i arg2 harg2 arg3 harg3 arg4 harg4 arg8 harg8 arg9 harg9 arg10 harg10 arg11 harg11 arg12 harg12 arg13 harg13 arg14 harg14 x0 x1 x2 x6 x7 x8 x9 x10 x11 x12)
      ∧ (∀ l : Fin 1024, init (ix2 0 l) = noRow (ix2 0 l))
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).1 = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) rows8 v X17 X18 init (Scf.trips k0_t1_loop.lb k0_t1_loop.ub k0_t1_loop.st)).2
      ∧ ∃ L, (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.2.1 = (⟨Rect.unit (s := S1x1024) ![0, 0] S1x1024.size inb5, k0_pay45 (F := Ideal) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) rows8 v X17 X18 init (Scf.trips k0_t1_loop.lb k0_t1_loop.ub k0_t1_loop.st)).1⟩ : View.Piece (Elt Ideal) S1x1024 .f32) :: L := by
  refine ⟨_, _, _, _, ?_, ?_, ?_, rfl, _, rfl⟩
  · exact read_whole _ _ _ _
  · exact read_whole _ _ _ _
  · exact zero_init1 c arg19 harg19

theorem runA_14 (hc0 : cond0_0 i) :
    ∃ (X17 : BufTy.Contents (Elt Ideal) arg17.view.ty) (X18 : BufTy.Contents (Elt Ideal) arg18.view.ty) (init : Vec Ideal S1x1024 .f32),
      arg17.view.read (Elt Ideal) X17 = (AB i arg5 harg5 arg6 harg6 arg7 harg7 arg8 harg8 arg9 harg9 arg10 harg10 arg11 harg11 arg14 harg14 x3 x4 x5 x6 x7 x8 x9 x12)
      ∧ arg18.view.read (Elt Ideal) X18 = (UB i arg5 harg5 arg6 harg6 arg7 harg7 arg8 harg8 arg9 harg9 arg10 harg10 arg11 harg11 arg12 harg12 arg13 harg13 arg14 harg14 x3 x4 x5 x6 x7 x8 x9 x10 x11 x12)
      ∧ (∀ l : Fin 1024, init (ix2 0 l) = noRow (ix2 0 l))
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.1 = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X17 X18 init (Scf.trips k0_t2_loop.lb k0_t2_loop.ub k0_t2_loop.st)).2
      ∧ ∃ L, (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.2.2.1 = (⟨Rect.unit (s := S1x1024) ![0, 0] S1x1024.size inb5, k0_pay5 (F := Ideal) (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 rows8 X17 X18 init (Scf.trips k0_t2_loop.lb k0_t2_loop.ub k0_t2_loop.st)).1⟩ : View.Piece (Elt Ideal) S1x1024 .f32) :: L := by
  refine ⟨_, _, _, ?_, ?_, ?_, rfl, _, rfl⟩
  · exact read_whole _ _ _ _
  · exact read_whole _ _ _ _
  · exact zero_init2 c arg20 harg20

theorem valB_13 (hc0 : ¬cond0_0 i) (xs2 xs3 : Vec Ideal S1x1024 .f32) (hA : ∀ y, 0 ≤ (AF i arg2 harg2 arg3 harg3 arg4 harg4 arg8 harg8 arg9 harg9 arg10 harg10 arg11 harg11 arg14 harg14 x0 x1 x2 x6 x7 x8 x9 x12) y ∧ (AF i arg2 harg2 arg3 harg3 arg4 harg4 arg8 harg8 arg9 harg9 arg10 harg10 arg11 harg11 arg14 harg14 x0 x1 x2 x6 x7 x8 x9 x12) y ≠ ⊤) :
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).1, ∀ x, p.2 x = fwdBlock (AF i arg2 harg2 arg3 harg3 arg4 harg4 arg8 harg8 arg9 harg9 arg10 harg10 arg11 harg11 arg14 harg14 x0 x1 x2 x6 x7 x8 x9 x12) (UF i arg2 harg2 arg3 harg3 arg4 harg4 arg8 harg8 arg9 harg9 arg10 harg10 arg11 harg11 arg12 harg12 arg13 harg13 arg14 harg14 x0 x1 x2 x6 x7 x8 x9 x10 x11 x12) xs2 (p.1.emb x))
      ∧ ∃ (w : FVec Ideal S1x1024 .f32) (L : _), (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.2.1 = (⟨Rect.unit (s := S1x1024) ![0, 0] S1x1024.size inb5, w⟩ : View.Piece (Elt Ideal) S1x1024 .f32) :: L
        ∧ ∀ l : Fin 1024, w (ix2 0 l) = steps (col (AF i arg2 harg2 arg3 harg3 arg4 harg4 arg8 harg8 arg9 harg9 arg10 harg10 arg11 harg11 arg14 harg14 x0 x1 x2 x6 x7 x8 x9 x12) l) (col (UF i arg2 harg2 arg3 harg3 arg4 harg4 arg8 harg8 arg9 harg9 arg10 harg10 arg11 harg11 arg12 harg12 arg13 harg13 arg14 harg14 x0 x1 x2 x6 x7 x8 x9 x10 x11 x12) l) 0 512 (xs2 (ix2 0 l)) := by
  obtain ⟨v, X17, X18, init, e17, e18, ei, er, L, eL⟩ := runB_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 hc0 xs2 xs3
  rw [(show Scf.trips k0_t1_loop.lb k0_t1_loop.ub k0_t1_loop.st = 64 from trips1)] at er eL
  have hl := loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) v X17 X18 init (AF i arg2 harg2 arg3 harg3 arg4 harg4 arg8 harg8 arg9 harg9 arg10 harg10 arg11 harg11 arg14 harg14 x0 x1 x2 x6 x7 x8 x9 x12) (UF i arg2 harg2 arg3 harg3 arg4 harg4 arg8 harg8 arg9 harg9 arg10 harg10 arg11 harg11 arg12 harg12 arg13 harg13 arg14 harg14 x0 x1 x2 x6 x7 x8 x9 x10 x11 x12) hA e17 e18 64 le_rfl
  rw [fwdBlock_congr _ _ _ _ ei] at hl
  refine ⟨fun p hp x => ?_, _, L, eL, fun l => ?_⟩
  · rw [er] at hp
    exact hl.2 p hp x
  · rw [pay45_at, hl.1 l, ei]

theorem valB_14 (hc0 : ¬cond0_0 i) (xs2 xs3 : Vec Ideal S1x1024 .f32) (hA : ∀ y, 0 ≤ (AB i arg5 harg5 arg6 harg6 arg7 harg7 arg8 harg8 arg9 harg9 arg10 harg10 arg11 harg11 arg14 harg14 x3 x4 x5 x6 x7 x8 x9 x12) y ∧ (AB i arg5 harg5 arg6 harg6 arg7 harg7 arg8 harg8 arg9 harg9 arg10 harg10 arg11 harg11 arg14 harg14 x3 x4 x5 x6 x7 x8 x9 x12) y ≠ ⊤) :
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.1, ∀ x, p.2 x = bwdBlock (AB i arg5 harg5 arg6 harg6 arg7 harg7 arg8 harg8 arg9 harg9 arg10 harg10 arg11 harg11 arg14 harg14 x3 x4 x5 x6 x7 x8 x9 x12) (UB i arg5 harg5 arg6 harg6 arg7 harg7 arg8 harg8 arg9 harg9 arg10 harg10 arg11 harg11 arg12 harg12 arg13 harg13 arg14 harg14 x3 x4 x5 x6 x7 x8 x9 x10 x11 x12) xs3 (p.1.emb x))
      ∧ ∃ (w : FVec Ideal S1x1024 .f32) (L : _), (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs2 xs3).2.2.2.1 = (⟨Rect.unit (s := S1x1024) ![0, 0] S1x1024.size inb5, w⟩ : View.Piece (Elt Ideal) S1x1024 .f32) :: L
        ∧ ∀ l : Fin 1024, w (ix2 0 l) = steps (loc (AB i arg5 harg5 arg6 harg6 arg7 harg7 arg8 harg8 arg9 harg9 arg10 harg10 arg11 harg11 arg14 harg14 x3 x4 x5 x6 x7 x8 x9 x12) l) (loc (UB i arg5 harg5 arg6 harg6 arg7 harg7 arg8 harg8 arg9 harg9 arg10 harg10 arg11 harg11 arg12 harg12 arg13 harg13 arg14 harg14 x3 x4 x5 x6 x7 x8 x9 x10 x11 x12) l) 0 512 (xs3 (ix2 0 l)) := by
  obtain ⟨X17, X18, init, e17, e18, ei, er, L, eL⟩ := runB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 hc0 xs2 xs3
  rw [(show Scf.trips k0_t2_loop.lb k0_t2_loop.ub k0_t2_loop.st = 64 from trips2)] at er eL
  have hl := loop2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 init (AB i arg5 harg5 arg6 harg6 arg7 harg7 arg8 harg8 arg9 harg9 arg10 harg10 arg11 harg11 arg14 harg14 x3 x4 x5 x6 x7 x8 x9 x12) (UB i arg5 harg5 arg6 harg6 arg7 harg7 arg8 harg8 arg9 harg9 arg10 harg10 arg11 harg11 arg12 harg12 arg13 harg13 arg14 harg14 x3 x4 x5 x6 x7 x8 x9 x10 x11 x12) hA e17 e18 64 le_rfl
  rw [bwdBlock_congr _ _ _ _ ei] at hl
  refine ⟨fun p hp x => ?_, _, L, eL, fun l => ?_⟩
  · rw [er] at hp
    exact hl.2 p hp x
  · rw [pay5_at, hl.1 l, ei]

theorem valA_13 (hc0 : cond0_0 i) (hA : ∀ y, 0 ≤ (AF i arg2 harg2 arg3 harg3 arg4 harg4 arg8 harg8 arg9 harg9 arg10 harg10 arg11 harg11 arg14 harg14 x0 x1 x2 x6 x7 x8 x9 x12) y ∧ (AF i arg2 harg2 arg3 harg3 arg4 harg4 arg8 harg8 arg9 harg9 arg10 harg10 arg11 harg11 arg14 harg14 x0 x1 x2 x6 x7 x8 x9 x12) y ≠ ⊤) :
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).1, ∀ x, p.2 x = fwdBlock (AF i arg2 harg2 arg3 harg3 arg4 harg4 arg8 harg8 arg9 harg9 arg10 harg10 arg11 harg11 arg14 harg14 x0 x1 x2 x6 x7 x8 x9 x12) (UF i arg2 harg2 arg3 harg3 arg4 harg4 arg8 harg8 arg9 harg9 arg10 harg10 arg11 harg11 arg12 harg12 arg13 harg13 arg14 harg14 x0 x1 x2 x6 x7 x8 x9 x10 x11 x12) noRow (p.1.emb x))
      ∧ ∃ (w : FVec Ideal S1x1024 .f32) (L : _), (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.2.1 = (⟨Rect.unit (s := S1x1024) ![0, 0] S1x1024.size inb5, w⟩ : View.Piece (Elt Ideal) S1x1024 .f32) :: L
        ∧ ∀ l : Fin 1024, w (ix2 0 l) = steps (col (AF i arg2 harg2 arg3 harg3 arg4 harg4 arg8 harg8 arg9 harg9 arg10 harg10 arg11 harg11 arg14 harg14 x0 x1 x2 x6 x7 x8 x9 x12) l) (col (UF i arg2 harg2 arg3 harg3 arg4 harg4 arg8 harg8 arg9 harg9 arg10 harg10 arg11 harg11 arg12 harg12 arg13 harg13 arg14 harg14 x0 x1 x2 x6 x7 x8 x9 x10 x11 x12) l) 0 512 (noRow (ix2 0 l)) := by
  obtain ⟨v, X17, X18, init, e17, e18, ei, er, L, eL⟩ := runA_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 hc0
  rw [(show Scf.trips k0_t1_loop.lb k0_t1_loop.ub k0_t1_loop.st = 64 from trips1)] at er eL
  have hl := loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) v X17 X18 init (AF i arg2 harg2 arg3 harg3 arg4 harg4 arg8 harg8 arg9 harg9 arg10 harg10 arg11 harg11 arg14 harg14 x0 x1 x2 x6 x7 x8 x9 x12) (UF i arg2 harg2 arg3 harg3 arg4 harg4 arg8 harg8 arg9 harg9 arg10 harg10 arg11 harg11 arg12 harg12 arg13 harg13 arg14 harg14 x0 x1 x2 x6 x7 x8 x9 x10 x11 x12) hA e17 e18 64 le_rfl
  rw [fwdBlock_congr _ _ _ _ ei] at hl
  refine ⟨fun p hp x => ?_, _, L, eL, fun l => ?_⟩
  · rw [er] at hp
    exact hl.2 p hp x
  · rw [pay45_at, hl.1 l, ei]

theorem valA_14 (hc0 : cond0_0 i) (hA : ∀ y, 0 ≤ (AB i arg5 harg5 arg6 harg6 arg7 harg7 arg8 harg8 arg9 harg9 arg10 harg10 arg11 harg11 arg14 harg14 x3 x4 x5 x6 x7 x8 x9 x12) y ∧ (AB i arg5 harg5 arg6 harg6 arg7 harg7 arg8 harg8 arg9 harg9 arg10 harg10 arg11 harg11 arg14 harg14 x3 x4 x5 x6 x7 x8 x9 x12) y ≠ ⊤) :
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.1, ∀ x, p.2 x = bwdBlock (AB i arg5 harg5 arg6 harg6 arg7 harg7 arg8 harg8 arg9 harg9 arg10 harg10 arg11 harg11 arg14 harg14 x3 x4 x5 x6 x7 x8 x9 x12) (UB i arg5 harg5 arg6 harg6 arg7 harg7 arg8 harg8 arg9 harg9 arg10 harg10 arg11 harg11 arg12 harg12 arg13 harg13 arg14 harg14 x3 x4 x5 x6 x7 x8 x9 x10 x11 x12) noRow (p.1.emb x))
      ∧ ∃ (w : FVec Ideal S1x1024 .f32) (L : _), (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).2.2.2.1 = (⟨Rect.unit (s := S1x1024) ![0, 0] S1x1024.size inb5, w⟩ : View.Piece (Elt Ideal) S1x1024 .f32) :: L
        ∧ ∀ l : Fin 1024, w (ix2 0 l) = steps (loc (AB i arg5 harg5 arg6 harg6 arg7 harg7 arg8 harg8 arg9 harg9 arg10 harg10 arg11 harg11 arg14 harg14 x3 x4 x5 x6 x7 x8 x9 x12) l) (loc (UB i arg5 harg5 arg6 harg6 arg7 harg7 arg8 harg8 arg9 harg9 arg10 harg10 arg11 harg11 arg12 harg12 arg13 harg13 arg14 harg14 x3 x4 x5 x6 x7 x8 x9 x10 x11 x12) l) 0 512 (noRow (ix2 0 l)) := by
  obtain ⟨X17, X18, init, e17, e18, ei, er, L, eL⟩ := runA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 hc0
  rw [(show Scf.trips k0_t2_loop.lb k0_t2_loop.ub k0_t2_loop.st = 64 from trips2)] at er eL
  have hl := loop2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 init (AB i arg5 harg5 arg6 harg6 arg7 harg7 arg8 harg8 arg9 harg9 arg10 harg10 arg11 harg11 arg14 harg14 x3 x4 x5 x6 x7 x8 x9 x12) (UB i arg5 harg5 arg6 harg6 arg7 harg7 arg8 harg8 arg9 harg9 arg10 harg10 arg11 harg11 arg12 harg12 arg13 harg13 arg14 harg14 x3 x4 x5 x6 x7 x8 x9 x10 x11 x12) hA e17 e18 64 le_rfl
  rw [bwdBlock_congr _ _ _ _ ei] at hl
  refine ⟨fun p hp x => ?_, _, L, eL, fun l => ?_⟩
  · rw [er] at hp
    exact hl.2 p hp x
  · rw [pay5_at, hl.1 l, ei]

end

end Cert.KernelIdeal.Lru
-- ==== Proof.LruCoef.lean ====
module

public import proofs.«01_k».proof.Proof.LruPoint
public import proofs.«01_k».proof.Proof.LruSpec

@[expose] public section

set_option maxRecDepth 16384

noncomputable section

/-! The coefficients the recurrence kernel computes for a block, in the reference's terms. -/

namespace Cert.Lru

open Idealize.ShloMosaic

/-- The decay of a direction at a time. -/
def aS (Z : (⟨3, ![4, 8192, 4096]⟩ : Shape).Idx → EReal) (w : (⟨3, ![1, 4, 1024]⟩ : Shape).Idx → EReal) (bi : (⟨2, ![1, 1024]⟩ : Shape).Idx → EReal)
  (Wa : (⟨5, ![1, 2, 8, 128, 128]⟩ : Shape).Idx → EReal) (Ba : (⟨3, ![1, 2, 1024]⟩ : Shape).Idx → EReal) (Wx : (⟨5, ![1, 2, 8, 128, 128]⟩ : Shape).Idx → EReal)
  (Bx : (⟨3, ![1, 2, 1024]⟩ : Shape).Idx → EReal) (lam : (⟨3, ![1, 2, 1024]⟩ : Shape).Idx → EReal) (d : Fin 2) (b : Fin 4) (l : Fin 1024) (t : ℕ) : EReal := aR (gate (xc Z w bi b t) Wa Ba d l) (lam (ix3 0 d l))

/-- The gated input of a direction at a time. -/
def uS (Z : (⟨3, ![4, 8192, 4096]⟩ : Shape).Idx → EReal) (w : (⟨3, ![1, 4, 1024]⟩ : Shape).Idx → EReal) (bi : (⟨2, ![1, 1024]⟩ : Shape).Idx → EReal)
  (Wa : (⟨5, ![1, 2, 8, 128, 128]⟩ : Shape).Idx → EReal) (Ba : (⟨3, ![1, 2, 1024]⟩ : Shape).Idx → EReal) (Wx : (⟨5, ![1, 2, 8, 128, 128]⟩ : Shape).Idx → EReal)
  (Bx : (⟨3, ![1, 2, 1024]⟩ : Shape).Idx → EReal) (lam : (⟨3, ![1, 2, 1024]⟩ : Shape).Idx → EReal) (d : Fin 2) (b : Fin 4) (l : Fin 1024) (t : ℕ) : EReal :=
  uR (gate (xc Z w bi b t) Wa Ba d l) (gate (xc Z w bi b t) Wx Bx d l) (lam (ix3 0 d l)) (xc Z w bi b t l)

end Cert.Lru

namespace Cert.KernelIdeal.Lru

open Idealize.ShloMosaic Cert.KernelIdeal Cert.KernelIdeal.Gen Cert.Lru

theorem zat_lo (Z : (⟨3, ![4, 8192, 4096]⟩ : Shape).Idx → EReal) (b : Fin 4) (t : ℕ) (ht : t < 2 ∨ 8194 ≤ t) (l : Fin 1024) : zat Z b t l = 0 := by
  unfold zat
  exact dif_neg (by omega)

theorem κ_word : (Named.named κ "decay" 0xC0B8AA3B#32 : Ideal .f32) = (((-4) * (Real.log 2)⁻¹ : ℝ) : EReal) :=
  IdealRules.named_const.ideal_named_scalar _ _ _ _ rfl

section
variable (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x1024 .f32) (harg11 : arg11.IsWhole) (arg12 : Memref sig .tc .vmem S2x8x128x128 .bf16) (harg12 : arg12.IsWhole) (arg13 : Memref sig .tc .vmem S2x1024 .f32) (harg13 : arg13.IsWhole) (arg14 : Memref sig .tc .vmem S2x1024 .f32) (harg14 : arg14.IsWhole)
  (x0 : Vec Ideal S1x512x1024 .f32) (x1 : Vec Ideal S1x8x1024 .f32) (x2 : Vec Ideal S1x8x1024 .f32) (x3 : Vec Ideal S1x512x1024 .f32) (x4 : Vec Ideal S1x8x1024 .f32) (x5 : Vec Ideal S1x8x1024 .f32) (x6 : Vec Ideal S4x1024 .f32) (x7 : Vec Ideal S1x1024 .f32) (x8 : Vec Ideal S2x8x128x128 .bf16) (x9 : Vec Ideal S2x1024 .f32) (x10 : Vec Ideal S2x8x128x128 .bf16) (x11 : Vec Ideal S2x1024 .f32) (x12 : Vec Ideal S2x1024 .f32)
variable (Z : (⟨3, ![4, 8192, 4096]⟩ : Shape).Idx → EReal) (w : (⟨3, ![1, 4, 1024]⟩ : Shape).Idx → EReal) (bi : (⟨2, ![1, 1024]⟩ : Shape).Idx → EReal)
  (Wa : (⟨5, ![1, 2, 8, 128, 128]⟩ : Shape).Idx → EReal) (Ba : (⟨3, ![1, 2, 1024]⟩ : Shape).Idx → EReal) (Wx : (⟨5, ![1, 2, 8, 128, 128]⟩ : Shape).Idx → EReal)
  (Bx : (⟨3, ![1, 2, 1024]⟩ : Shape).Idx → EReal) (lam : (⟨3, ![1, 2, 1024]⟩ : Shape).Idx → EReal) (b : Fin 4) (n : Fin 16)

theorem xF_at (hn : (i 1).val = n.val) (h0 : ∀ (r : Fin 512) (l : Fin 1024), x0 (ix3 0 r l) = zat Z b (512 * n.val + r.val + 2) l)
    (h1 : 0 < n.val → ∀ (r : Fin 8) (l : Fin 1024), x1 (ix3 0 r l) = zat Z b (512 * n.val + r.val - 6) l)
    (h2 : n.val < 15 → ∀ (r : Fin 8) (l : Fin 1024), x2 (ix3 0 r l) = zat Z b (512 * n.val + 514 + r.val) l)
    (h6 : ∀ (k : Fin 4) (l : Fin 1024), x6 (ix2 k l) = w (ix3 0 k l)) (h7 : ∀ (l : Fin 1024), x7 (ix2 0 l) = bi (ix2 0 l)) (r : Fin 512) (l : Fin 1024) :
    xcF i arg2 harg2 arg3 harg3 arg4 harg4 arg8 harg8 arg9 harg9 x0 x1 x2 x6 x7 (ix2 r l) = xc Z w bi b (512 * n.val + r.val) l := by
  unfold xcF
  have hb := buf_at (zat Z b) n.val (by omega) _ _ (c5_fwd n) (c12_fwd n) (ld1 arg3 harg3 x1) (ld0 arg2 harg2 x0) (ld1 arg4 harg4 x2)
    (fun r l => (ld0_at _ _ _ r l).trans (h0 r l)) (fun h r l => (ld1_at _ _ _ r l).trans (h1 h r l)) (fun h r l => (ld1_at _ _ _ r l).trans (h2 h r l))
    (fun l => zat_lo Z b 0 (by omega) l) (fun l => zat_lo Z b 1 (by omega) l) (fun l => zat_lo Z b 8194 (by omega) l)
  have hr := r.isLt
  rw [hn, convK_at, hb ⟨r.val + 6, by omega⟩ l (by show 6 ≤ r.val + 6; omega) (by show r.val + 6 ≤ 520; omega),
    hb ⟨r.val + 7, by omega⟩ l (by show 6 ≤ r.val + 7; omega) (by show r.val + 7 ≤ 520; omega),
    hb ⟨r.val + 8, by omega⟩ l (by show 6 ≤ r.val + 8; omega) (by show r.val + 8 ≤ 520; omega),
    hb ⟨r.val + 9, by omega⟩ l (by show 6 ≤ r.val + 9; omega) (by show r.val + 9 ≤ 520; omega),
    ld5_at, ld4_at, ld4_at, ld4_at, ld4_at, h6, h6, h6, h6, h7]
  unfold xc
  rw [show 512 * n.val + (⟨r.val + 6, by omega⟩ : Fin 528).val - 6 = 512 * n.val + r.val from by show 512 * n.val + (r.val + 6) - 6 = _; omega,
    show 512 * n.val + (⟨r.val + 7, by omega⟩ : Fin 528).val - 6 = 512 * n.val + r.val + 1 from by show 512 * n.val + (r.val + 7) - 6 = _; omega,
    show 512 * n.val + (⟨r.val + 8, by omega⟩ : Fin 528).val - 6 = 512 * n.val + r.val + 2 from by show 512 * n.val + (r.val + 8) - 6 = _; omega,
    show 512 * n.val + (⟨r.val + 9, by omega⟩ : Fin 528).val - 6 = 512 * n.val + r.val + 3 from by show 512 * n.val + (r.val + 9) - 6 = _; omega]

theorem xB_at (hn : (i 1).val = n.val) (h3 : ∀ (r : Fin 512) (l : Fin 1024), x3 (ix3 0 r l) = zat Z b (512 * (15 - n.val) + r.val + 2) l)
    (h4 : 0 < 15 - n.val → ∀ (r : Fin 8) (l : Fin 1024), x4 (ix3 0 r l) = zat Z b (512 * (15 - n.val) + r.val - 6) l)
    (h5 : 15 - n.val < 15 → ∀ (r : Fin 8) (l : Fin 1024), x5 (ix3 0 r l) = zat Z b (512 * (15 - n.val) + 514 + r.val) l)
    (h6 : ∀ (k : Fin 4) (l : Fin 1024), x6 (ix2 k l) = w (ix3 0 k l)) (h7 : ∀ (l : Fin 1024), x7 (ix2 0 l) = bi (ix2 0 l)) (r : Fin 512) (l : Fin 1024) :
    xcB i arg5 harg5 arg6 harg6 arg7 harg7 arg8 harg8 arg9 harg9 x3 x4 x5 x6 x7 (ix2 r l) = xc Z w bi b (512 * (15 - n.val) + r.val) l := by
  unfold xcB
  have hb := buf_at (zat Z b) (15 - n.val) (by omega) _ _ (c5_bwd n) (c12_bwd n) (ld1 arg6 harg6 x4) (ld0 arg5 harg5 x3) (ld1 arg7 harg7 x5)
    (fun r l => (ld0_at _ _ _ r l).trans (h3 r l)) (fun h r l => (ld1_at _ _ _ r l).trans (h4 h r l)) (fun h r l => (ld1_at _ _ _ r l).trans (h5 h r l))
    (fun l => zat_lo Z b 0 (by omega) l) (fun l => zat_lo Z b 1 (by omega) l) (fun l => zat_lo Z b 8194 (by omega) l)
  have hr := r.isLt
  rw [hn, convK_at, hb ⟨r.val + 6, by omega⟩ l (by show 6 ≤ r.val + 6; omega) (by show r.val + 6 ≤ 520; omega),
    hb ⟨r.val + 7, by omega⟩ l (by show 6 ≤ r.val + 7; omega) (by show r.val + 7 ≤ 520; omega),
    hb ⟨r.val + 8, by omega⟩ l (by show 6 ≤ r.val + 8; omega) (by show r.val + 8 ≤ 520; omega),
    hb ⟨r.val + 9, by omega⟩ l (by show 6 ≤ r.val + 9; omega) (by show r.val + 9 ≤ 520; omega),
    ld5_at, ld4_at, ld4_at, ld4_at, ld4_at, h6, h6, h6, h6, h7]
  unfold xc
  rw [show 512 * (15 - n.val) + (⟨r.val + 6, by omega⟩ : Fin 528).val - 6 = 512 * (15 - n.val) + r.val from by show 512 * (15 - n.val) + (r.val + 6) - 6 = _; omega,
    show 512 * (15 - n.val) + (⟨r.val + 7, by omega⟩ : Fin 528).val - 6 = 512 * (15 - n.val) + r.val + 1 from by show 512 * (15 - n.val) + (r.val + 7) - 6 = _; omega,
    show 512 * (15 - n.val) + (⟨r.val + 8, by omega⟩ : Fin 528).val - 6 = 512 * (15 - n.val) + r.val + 2 from by show 512 * (15 - n.val) + (r.val + 8) - 6 = _; omega,
    show 512 * (15 - n.val) + (⟨r.val + 9, by omega⟩ : Fin 528).val - 6 = 512 * (15 - n.val) + r.val + 3 from by show 512 * (15 - n.val) + (r.val + 9) - 6 = _; omega]

theorem g1_at (h8 : ∀ (d : Fin 2) (h : Fin 8) (k e : Fin 128), (x8 (ix4 d h k e) : EReal) = ((1 / 2 : ℝ) : EReal) * Wa (ix5 0 d h k e))
    (h9 : ∀ (d : Fin 2) (l : Fin 1024), (x9 (ix2 d l) : EReal) = ((1 / 2 : ℝ) : EReal) * Ba (ix3 0 d l)) (d : Fin 2) (x : FVec Ideal S512x1024 .f32) (X : Fin 1024 → EReal) (r : Fin 512) (hx : ∀ l, x (ix2 r l) = X l) (l : Fin 1024) :
    (g1 arg10 harg10 arg11 harg11 x8 x9 d x (ix2 r l) : EReal) = ((1 / 2 : ℝ) : EReal) * gate X Wa Ba d l := by
  unfold g1
  exact gateK_half x _ _ X Wa Ba d r hx (fun h k c => (ld8_at _ _ d _ h k c).trans (h8 d h k c)) (fun l => (ld2_at _ _ d _ l).trans (h9 d l)) l

theorem g2_at (h10 : ∀ (d : Fin 2) (h : Fin 8) (k e : Fin 128), (x10 (ix4 d h k e) : EReal) = ((1 / 2 : ℝ) : EReal) * Wx (ix5 0 d h k e))
    (h11 : ∀ (d : Fin 2) (l : Fin 1024), (x11 (ix2 d l) : EReal) = ((1 / 2 : ℝ) : EReal) * Bx (ix3 0 d l)) (d : Fin 2) (x : FVec Ideal S512x1024 .f32) (X : Fin 1024 → EReal) (r : Fin 512) (hx : ∀ l, x (ix2 r l) = X l) (l : Fin 1024) :
    (g2 arg12 harg12 arg13 harg13 x10 x11 d x (ix2 r l) : EReal) = ((1 / 2 : ℝ) : EReal) * gate X Wx Bx d l := by
  unfold g2
  exact gateK_half x _ _ X Wx Bx d r hx (fun h k c => (ld8_at _ _ d _ h k c).trans (h10 d h k c)) (fun l => (ld2_at _ _ d _ l).trans (h11 d l)) l

theorem aF_at (h8 : ∀ (d : Fin 2) (h : Fin 8) (k e : Fin 128), (x8 (ix4 d h k e) : EReal) = ((1 / 2 : ℝ) : EReal) * Wa (ix5 0 d h k e))
    (h9 : ∀ (d : Fin 2) (l : Fin 1024), (x9 (ix2 d l) : EReal) = ((1 / 2 : ℝ) : EReal) * Ba (ix3 0 d l))
    (h12 : ∀ (d : Fin 2) (l : Fin 1024), x12 (ix2 d l) = lam (ix3 0 d l)) (hl : ∀ (d : Fin 2) (l : Fin 1024), lam (ix3 0 d l) ≠ ⊥) (x : FVec Ideal S512x1024 .f32) (t : ℕ) (r : Fin 512) (hx : ∀ l, x (ix2 r l) = xc Z w bi b t l) (l : Fin 1024) :
    aF arg10 harg10 arg11 harg11 arg14 harg14 x8 x9 x12 x (ix2 r l) = aS Z w bi Wa Ba Wx Bx lam 0 b l t := by
  unfold aF
  refine (a_fwd_at κ_word _ _ r l).trans ?_
  rw [g1_at arg10 harg10 arg11 harg11 x8 x9 Wa Ba h8 h9 0 x (xc Z w bi b t) r hx l, ld2_at, h12]
  exact aK_eq rfl _ _ (hl 0 l)

theorem uF_at (h8 : ∀ (d : Fin 2) (h : Fin 8) (k e : Fin 128), (x8 (ix4 d h k e) : EReal) = ((1 / 2 : ℝ) : EReal) * Wa (ix5 0 d h k e))
    (h9 : ∀ (d : Fin 2) (l : Fin 1024), (x9 (ix2 d l) : EReal) = ((1 / 2 : ℝ) : EReal) * Ba (ix3 0 d l)) (h10 : ∀ (d : Fin 2) (h : Fin 8) (k e : Fin 128), (x10 (ix4 d h k e) : EReal) = ((1 / 2 : ℝ) : EReal) * Wx (ix5 0 d h k e)) (h11 : ∀ (d : Fin 2) (l : Fin 1024), (x11 (ix2 d l) : EReal) = ((1 / 2 : ℝ) : EReal) * Bx (ix3 0 d l))
    (h12 : ∀ (d : Fin 2) (l : Fin 1024), x12 (ix2 d l) = lam (ix3 0 d l)) (hl : ∀ (d : Fin 2) (l : Fin 1024), lam (ix3 0 d l) ≠ ⊥) (x : FVec Ideal S512x1024 .f32) (t : ℕ) (r : Fin 512) (hx : ∀ l, x (ix2 r l) = xc Z w bi b t l) (l : Fin 1024) :
    uF arg10 harg10 arg11 harg11 arg12 harg12 arg13 harg13 arg14 harg14 x8 x9 x10 x11 x12 x (ix2 r l) = uS Z w bi Wa Ba Wx Bx lam 0 b l t := by
  unfold uF
  refine (u_fwd_at κ_word _ _ _ _ r l).trans ?_
  rw [g1_at arg10 harg10 arg11 harg11 x8 x9 Wa Ba h8 h9 0 x (xc Z w bi b t) r hx l, g2_at arg12 harg12 arg13 harg13 x10 x11 Wx Bx h10 h11 0 x (xc Z w bi b t) r hx l, ld2_at, h12, hx l]
  exact uK_eq rfl _ _ _ _ (hl 0 l)

theorem aB_at (h8 : ∀ (d : Fin 2) (h : Fin 8) (k e : Fin 128), (x8 (ix4 d h k e) : EReal) = ((1 / 2 : ℝ) : EReal) * Wa (ix5 0 d h k e))
    (h9 : ∀ (d : Fin 2) (l : Fin 1024), (x9 (ix2 d l) : EReal) = ((1 / 2 : ℝ) : EReal) * Ba (ix3 0 d l))
    (h12 : ∀ (d : Fin 2) (l : Fin 1024), x12 (ix2 d l) = lam (ix3 0 d l)) (hl : ∀ (d : Fin 2) (l : Fin 1024), lam (ix3 0 d l) ≠ ⊥) (x : FVec Ideal S512x1024 .f32) (t : ℕ) (r : Fin 512) (hx : ∀ l, x (ix2 r l) = xc Z w bi b t l) (l : Fin 1024) :
    aB arg10 harg10 arg11 harg11 arg14 harg14 x8 x9 x12 x (ix2 r l) = aS Z w bi Wa Ba Wx Bx lam 1 b l t := by
  unfold aB
  refine (a_bwd_at κ_word _ _ r l).trans ?_
  rw [g1_at arg10 harg10 arg11 harg11 x8 x9 Wa Ba h8 h9 1 x (xc Z w bi b t) r hx l, ld2_at, h12]
  exact aK_eq rfl _ _ (hl 1 l)

theorem uB_at (h8 : ∀ (d : Fin 2) (h : Fin 8) (k e : Fin 128), (x8 (ix4 d h k e) : EReal) = ((1 / 2 : ℝ) : EReal) * Wa (ix5 0 d h k e))
    (h9 : ∀ (d : Fin 2) (l : Fin 1024), (x9 (ix2 d l) : EReal) = ((1 / 2 : ℝ) : EReal) * Ba (ix3 0 d l)) (h10 : ∀ (d : Fin 2) (h : Fin 8) (k e : Fin 128), (x10 (ix4 d h k e) : EReal) = ((1 / 2 : ℝ) : EReal) * Wx (ix5 0 d h k e)) (h11 : ∀ (d : Fin 2) (l : Fin 1024), (x11 (ix2 d l) : EReal) = ((1 / 2 : ℝ) : EReal) * Bx (ix3 0 d l))
    (h12 : ∀ (d : Fin 2) (l : Fin 1024), x12 (ix2 d l) = lam (ix3 0 d l)) (hl : ∀ (d : Fin 2) (l : Fin 1024), lam (ix3 0 d l) ≠ ⊥) (x : FVec Ideal S512x1024 .f32) (t : ℕ) (r : Fin 512) (hx : ∀ l, x (ix2 r l) = xc Z w bi b t l) (l : Fin 1024) :
    uB arg10 harg10 arg11 harg11 arg12 harg12 arg13 harg13 arg14 harg14 x8 x9 x10 x11 x12 x (ix2 r l) = uS Z w bi Wa Ba Wx Bx lam 1 b l t := by
  unfold uB
  refine (u_bwd_at κ_word _ _ _ _ r l).trans ?_
  rw [g1_at arg10 harg10 arg11 harg11 x8 x9 Wa Ba h8 h9 1 x (xc Z w bi b t) r hx l, g2_at arg12 harg12 arg13 harg13 x10 x11 Wx Bx h10 h11 1 x (xc Z w bi b t) r hx l, ld2_at, h12, hx l]
  exact uK_eq rfl _ _ _ _ (hl 1 l)

end

end Cert.KernelIdeal.Lru
-- ==== Proof.LruValue.lean ====
module

public import proofs.«01_k».proof.Proof.LruFrame
public import proofs.«01_k».proof.Proof.LruBlk
public import proofs.«01_k».proof.Proof.LruCoef

@[expose] public section

set_option maxRecDepth 16384

noncomputable section

/-! The recurrence kernel's results: the recurrence in either direction over a batch row's whole time axis. -/

namespace Cert.KernelIdeal.Lru

open Cert.KernelIdeal Cert.KernelIdeal.Gen Cert.Lru Idealize.ShloMosaic Idealize.ShloMosaic.TcCoe Idealize.SL.Sem

theorem carried (v : View sig .tc .vmem S1x1024 .f32) (f) (L0 : List (View.Piece (Elt Ideal) S1x1024 .f32)) (w : FVec Ideal S1x1024 .f32) (L : List (View.Piece (Elt Ideal) S1x1024 .f32)) (e : L0 = (⟨Rect.unit (s := S1x1024) ![0, 0] S1x1024.size inb5, w⟩ : View.Piece (Elt Ideal) S1x1024 .f32) :: L) (l : Fin 1024) :
    v.read (Elt Ideal) (v.writes (Elt Ideal) f L0) (ix2 0 l) = w (ix2 0 l) := by
  rw [e]
  exact View.read_writes_cons_unit_of_mem (off' := ![0, 0]) v f inb5 w L (ix2 0 l) (ix2 0 l) rfl (fun a => match a with
    | ⟨0, _⟩ => rfl
    | ⟨1, _⟩ => (Nat.zero_add _).symm)

variable (m : (ℓ : Loc nD τ sig) → Buf (Elt Ideal) ℓ) (c : Dev nD) (t : Fin cfg0.N)

theorem lt64 : t.val < 64 := lt_of_lt_of_eq t.isLt (show cfg0.N = 64 from N_0)

/-- The batch row of a point, and its place among the row's blocks. -/
def bq : Fin 4 := ⟨t.val / 16, by have := lt64 t; omega⟩
def jq : Fin 16 := ⟨t.val % 16, Nat.mod_lt _ (by norm_num)⟩

/-- The decays and gated inputs of the arguments. -/
abbrev aT (d : Fin 2) (b : Fin 4) (l : Fin 1024) (n : ℕ) : EReal := aS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) d b l n
abbrev uT (d : Fin 2) (b : Fin 4) (l : Fin 1024) (n : ℕ) : EReal := uS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) d b l n

/-- The recurrence in either direction from zero. -/
def fw (b : Fin 4) (l : Fin 1024) (n : ℕ) : EReal := steps (aT m c 0 b l) (uT m c 0 b l) 0 n 0
def bw (b : Fin 4) (l : Fin 1024) (n : ℕ) : EReal := steps (fun k => aT m c 1 b l (8191 - k)) (fun k => uT m c 1 b l (8191 - k)) 0 n 0

theorem zat_in (Z : (⟨3, ![4, 8192, 4096]⟩ : Shape).Idx → EReal) (b : Fin 4) (q : Fin 8192) (n : ℕ) (h : n = q.val + 2) (l : Fin 1024) (l' : Fin 4096) (hl : l'.val = l.val) :
    Z (ix3 b q l') = zat Z b n l := by
  subst h
  unfold zat
  rw [dif_pos ⟨by omega, by omega⟩]
  exact congrArg Z (congrArg₂ (fun (q : Fin 8192) (l : Fin 4096) => (ix3 b q l : (⟨3, ![4, 8192, 4096]⟩ : Shape).Idx)) (Fin.ext (by show q.val = q.val + 2 - 2; omega)) (Fin.ext hl))

theorem in0 : ∀ (r : Fin 512) (l : Fin 1024), iblk m c 0 t (ix3 0 r l) = zat (m ((c : Thread nD τ).loc main_arg0)) (bq t) (512 * (jq t).val + r.val + 2) l := fun r l => by
  have hr := r.isLt
  have hj : (jq t).val = t.val % 16 := rfl

  have h16 : t.val % 16 < 16 := Nat.mod_lt _ (by norm_num)
  refine (blk0 m c t r l (bq t) ⟨512 * (t.val % 16) + r.val, by omega⟩ ⟨l.val, by omega⟩ rfl (by show 512 * (t.val % 16) + r.val = (t.val % 16) * 512 + r.val; omega) rfl).trans ?_
  exact zat_in _ _ _ _ (by show _ = 512 * (t.val % 16) + r.val + 2; omega) l _ rfl

theorem in1 : 0 < (jq t).val → ∀ (r : Fin 8) (l : Fin 1024), iblk m c 1 t (ix3 0 r l) = zat (m ((c : Thread nD τ).loc main_arg0)) (bq t) (512 * (jq t).val + r.val - 6) l := fun hc r l => by
  have hr := r.isLt
  have hj : (jq t).val = t.val % 16 := rfl
  rw [hj] at hc
  have h16 : t.val % 16 < 16 := Nat.mod_lt _ (by norm_num)
  refine (blk1 m c t r l (bq t) ⟨512 * (t.val % 16) + r.val - 8, by omega⟩ ⟨l.val, by omega⟩ rfl (by show 512 * (t.val % 16) + r.val - 8 = (t.val % 16 * 64 - 1) * 8 + r.val; omega) rfl).trans ?_
  exact zat_in _ _ _ _ (by show _ = 512 * (t.val % 16) + r.val - 8 + 2; omega) l _ rfl

theorem in2 : (jq t).val < 15 → ∀ (r : Fin 8) (l : Fin 1024), iblk m c 2 t (ix3 0 r l) = zat (m ((c : Thread nD τ).loc main_arg0)) (bq t) (512 * (jq t).val + 514 + r.val) l := fun hc r l => by
  have hr := r.isLt
  have hj : (jq t).val = t.val % 16 := rfl
  rw [hj] at hc
  have h16 : t.val % 16 < 16 := Nat.mod_lt _ (by norm_num)
  refine (blk2 m c t r l (bq t) ⟨512 * (t.val % 16) + 512 + r.val, by omega⟩ ⟨l.val, by omega⟩ rfl (by show 512 * (t.val % 16) + 512 + r.val = (min (t.val % 16 * 64 + 64) 1023) * 8 + r.val; omega) rfl).trans ?_
  exact zat_in _ _ _ _ (by show _ = 512 * (t.val % 16) + 512 + r.val + 2; omega) l _ rfl

theorem in3 : ∀ (r : Fin 512) (l : Fin 1024), iblk m c 3 t (ix3 0 r l) = zat (m ((c : Thread nD τ).loc main_arg0)) (bq t) (512 * (15 - (jq t).val) + r.val + 2) l := fun r l => by
  have hr := r.isLt
  have hj : (jq t).val = t.val % 16 := rfl

  have h16 : t.val % 16 < 16 := Nat.mod_lt _ (by norm_num)
  refine (blk3 m c t r l (bq t) ⟨512 * (15 - t.val % 16) + r.val, by omega⟩ ⟨l.val, by omega⟩ rfl (by show 512 * (15 - t.val % 16) + r.val = (15 - t.val % 16) * 512 + r.val; omega) rfl).trans ?_
  exact zat_in _ _ _ _ (by show _ = 512 * (15 - t.val % 16) + r.val + 2; omega) l _ rfl

theorem in4 : 0 < 15 - (jq t).val → ∀ (r : Fin 8) (l : Fin 1024), iblk m c 4 t (ix3 0 r l) = zat (m ((c : Thread nD τ).loc main_arg0)) (bq t) (512 * (15 - (jq t).val) + r.val - 6) l := fun hc r l => by
  have hr := r.isLt
  have hj : (jq t).val = t.val % 16 := rfl
  rw [hj] at hc
  have h16 : t.val % 16 < 16 := Nat.mod_lt _ (by norm_num)
  refine (blk4 m c t r l (bq t) ⟨512 * (15 - t.val % 16) + r.val - 8, by omega⟩ ⟨l.val, by omega⟩ rfl (by show 512 * (15 - t.val % 16) + r.val - 8 = ((15 - t.val % 16) * 64 - 1) * 8 + r.val; omega) rfl).trans ?_
  exact zat_in _ _ _ _ (by show _ = 512 * (15 - t.val % 16) + r.val - 8 + 2; omega) l _ rfl

theorem in5 : 15 - (jq t).val < 15 → ∀ (r : Fin 8) (l : Fin 1024), iblk m c 5 t (ix3 0 r l) = zat (m ((c : Thread nD τ).loc main_arg0)) (bq t) (512 * (15 - (jq t).val) + 514 + r.val) l := fun hc r l => by
  have hr := r.isLt
  have hj : (jq t).val = t.val % 16 := rfl
  rw [hj] at hc
  have h16 : t.val % 16 < 16 := Nat.mod_lt _ (by norm_num)
  refine (blk5 m c t r l (bq t) ⟨512 * (15 - t.val % 16) + 512 + r.val, by omega⟩ ⟨l.val, by omega⟩ rfl (by show 512 * (15 - t.val % 16) + 512 + r.val = (min ((15 - t.val % 16) * 64 + 64) 1023) * 8 + r.val; omega) rfl).trans ?_
  exact zat_in _ _ _ _ (by show _ = 512 * (15 - t.val % 16) + 512 + r.val + 2; omega) l _ rfl

/-- A point's decays and gated inputs, as the body computes them. -/
def AFt : FVec Ideal S512x1024 .f32 := aF (ms0_8 t) (hs0_8 t) (ms0_9 t) (hs0_9 t) (ms0_12 t) (hs0_12 t) (iblk m c 8 t) (iblk m c 9 t) (iblk m c 12 t) (xcF (grid0.coords t) (ms0_0 t) (hs0_0 t) (ms0_1 t) (hs0_1 t) (ms0_2 t) (hs0_2 t) (ms0_6 t) (hs0_6 t) (ms0_7 t) (hs0_7 t) (iblk m c 0 t) (iblk m c 1 t) (iblk m c 2 t) (iblk m c 6 t) (iblk m c 7 t))
def UFt : FVec Ideal S512x1024 .f32 := uF (ms0_8 t) (hs0_8 t) (ms0_9 t) (hs0_9 t) (ms0_10 t) (hs0_10 t) (ms0_11 t) (hs0_11 t) (ms0_12 t) (hs0_12 t) (iblk m c 8 t) (iblk m c 9 t) (iblk m c 10 t) (iblk m c 11 t) (iblk m c 12 t) (xcF (grid0.coords t) (ms0_0 t) (hs0_0 t) (ms0_1 t) (hs0_1 t) (ms0_2 t) (hs0_2 t) (ms0_6 t) (hs0_6 t) (ms0_7 t) (hs0_7 t) (iblk m c 0 t) (iblk m c 1 t) (iblk m c 2 t) (iblk m c 6 t) (iblk m c 7 t))
def ABt : FVec Ideal S512x1024 .f32 := aB (ms0_8 t) (hs0_8 t) (ms0_9 t) (hs0_9 t) (ms0_12 t) (hs0_12 t) (iblk m c 8 t) (iblk m c 9 t) (iblk m c 12 t) (xcB (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t))
def UBt : FVec Ideal S512x1024 .f32 := uB (ms0_8 t) (hs0_8 t) (ms0_9 t) (hs0_9 t) (ms0_10 t) (hs0_10 t) (ms0_11 t) (hs0_11 t) (ms0_12 t) (hs0_12 t) (iblk m c 8 t) (iblk m c 9 t) (iblk m c 10 t) (iblk m c 11 t) (iblk m c 12 t) (xcB (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t))

theorem xF_pt (r : Fin 512) (l : Fin 1024) : xcF (grid0.coords t) (ms0_0 t) (hs0_0 t) (ms0_1 t) (hs0_1 t) (ms0_2 t) (hs0_2 t) (ms0_6 t) (hs0_6 t) (ms0_7 t) (hs0_7 t) (iblk m c 0 t) (iblk m c 1 t) (iblk m c 2 t) (iblk m c 6 t) (iblk m c 7 t) (ix2 r l) = xc (m ((c : Thread nD τ).loc main_arg0)) (m ((c : Thread nD τ).loc main_arg1)) (m ((c : Thread nD τ).loc main_arg2)) (bq t) (512 * (jq t).val + r.val) l :=
  xF_at (grid0.coords t) (ms0_0 t) (hs0_0 t) (ms0_1 t) (hs0_1 t) (ms0_2 t) (hs0_2 t) (ms0_6 t) (hs0_6 t) (ms0_7 t) (hs0_7 t) (iblk m c 0 t) (iblk m c 1 t) (iblk m c 2 t) (iblk m c 6 t) (iblk m c 7 t) (m ((c : Thread nD τ).loc main_arg0)) (m ((c : Thread nD τ).loc main_arg1)) (m ((c : Thread nD τ).loc main_arg2)) (bq t) (jq t) (crd t) (in0 m c t) (in1 m c t) (in2 m c t) (blk6 m c t) (blk7 m c t) r l
theorem xB_pt (r : Fin 512) (l : Fin 1024) : xcB (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t) (ix2 r l) = xc (m ((c : Thread nD τ).loc main_arg0)) (m ((c : Thread nD τ).loc main_arg1)) (m ((c : Thread nD τ).loc main_arg2)) (bq t) (512 * (15 - (jq t).val) + r.val) l :=
  xB_at (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (bq t) (jq t) (crd t) (in3 m c t) (in4 m c t) (in5 m c t) (blk6 m c t) (blk7 m c t) r l

section
variable (hl : ∀ (d : Fin 2) (l : Fin 1024), m ((c : Thread nD τ).loc main_arg7) (ix3 0 d l) ≠ (⊥ : EReal))
include hl

theorem AF_pt (r : Fin 512) (l : Fin 1024) : AFt m c t (ix2 r l) = aT m c 0 (bq t) l (512 * (jq t).val + r.val) :=
  aF_at (ms0_8 t) (hs0_8 t) (ms0_9 t) (hs0_9 t) (ms0_12 t) (hs0_12 t) (iblk m c 8 t) (iblk m c 9 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bq t) (blk8 m c t) (blk9 m c t) (blk12 m c t) hl _ _ r (xF_pt m c t r) l
theorem UF_pt (r : Fin 512) (l : Fin 1024) : UFt m c t (ix2 r l) = uT m c 0 (bq t) l (512 * (jq t).val + r.val) :=
  uF_at (ms0_8 t) (hs0_8 t) (ms0_9 t) (hs0_9 t) (ms0_10 t) (hs0_10 t) (ms0_11 t) (hs0_11 t) (ms0_12 t) (hs0_12 t) (iblk m c 8 t) (iblk m c 9 t) (iblk m c 10 t) (iblk m c 11 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bq t) (blk8 m c t) (blk9 m c t) (blk10 m c t) (blk11 m c t) (blk12 m c t) hl _ _ r (xF_pt m c t r) l
theorem AB_pt (r : Fin 512) (l : Fin 1024) : ABt m c t (ix2 r l) = aT m c 1 (bq t) l (512 * (15 - (jq t).val) + r.val) :=
  aB_at (ms0_8 t) (hs0_8 t) (ms0_9 t) (hs0_9 t) (ms0_12 t) (hs0_12 t) (iblk m c 8 t) (iblk m c 9 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bq t) (blk8 m c t) (blk9 m c t) (blk12 m c t) hl _ _ r (xB_pt m c t r) l
theorem UB_pt (r : Fin 512) (l : Fin 1024) : UBt m c t (ix2 r l) = uT m c 1 (bq t) l (512 * (15 - (jq t).val) + r.val) :=
  uB_at (ms0_8 t) (hs0_8 t) (ms0_9 t) (hs0_9 t) (ms0_10 t) (hs0_10 t) (ms0_11 t) (hs0_11 t) (ms0_12 t) (hs0_12 t) (iblk m c 8 t) (iblk m c 9 t) (iblk m c 10 t) (iblk m c 11 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bq t) (blk8 m c t) (blk9 m c t) (blk10 m c t) (blk11 m c t) (blk12 m c t) hl _ _ r (xB_pt m c t r) l

theorem AF_fin (y : S512x1024.Idx) : 0 ≤ AFt m c t y ∧ AFt m c t y ≠ (⊤ : EReal) := by
  obtain ⟨r, l, rfl⟩ : ∃ (r : Fin 512) (l : Fin 1024), y = ix2 r l := ⟨y 0, y 1, funext fun a => match a with | ⟨0, _⟩ => rfl | ⟨1, _⟩ => rfl⟩
  rw [AF_pt m c t hl r l]
  exact aR_fin _ _ (hl 0 l)
theorem AB_fin (y : S512x1024.Idx) : 0 ≤ ABt m c t y ∧ ABt m c t y ≠ (⊤ : EReal) := by
  obtain ⟨r, l, rfl⟩ : ∃ (r : Fin 512) (l : Fin 1024), y = ix2 r l := ⟨y 0, y 1, funext fun a => match a with | ⟨0, _⟩ => rfl | ⟨1, _⟩ => rfl⟩
  rw [AB_pt m c t hl r l]
  exact aR_fin _ _ (hl 1 l)

/-- The forward recurrence over the first rows of a point's block goes on from the rows before. -/
theorem seg_fw (h : Vec Ideal S1x1024 .f32) (l : Fin 1024) (hh : h (ix2 0 l) = fw m c (bq t) l (512 * (jq t).val)) (k : ℕ) (hk : k ≤ 512) :
    steps (col (AFt m c t) l) (col (UFt m c t) l) 0 k (h (ix2 0 l)) = fw m c (bq t) l (512 * (jq t).val + k) := by
  unfold fw
  rw [steps_add, hh]
  refine steps_congr 0 _ k (fun i hi => ?_) rfl
  have hv : (Fin.ofNat 512 (0 + i)).val = i := by show (0 + i) % 512 = i; omega
  constructor
  · show AFt m c t (ix2 (Fin.ofNat 512 (0 + i)) l) = _
    rw [AF_pt m c t hl, hv, Nat.zero_add]
  · show UFt m c t (ix2 (Fin.ofNat 512 (0 + i)) l) = _
    rw [UF_pt m c t hl, hv, Nat.zero_add]

/-- The backward recurrence over the last rows of a point's block goes on from the rows behind. -/
theorem seg_bw (h : Vec Ideal S1x1024 .f32) (l : Fin 1024) (hh : h (ix2 0 l) = bw m c (bq t) l (512 * (jq t).val)) (k : ℕ) (hk : k ≤ 512) :
    steps (loc (ABt m c t) l) (loc (UBt m c t) l) 0 k (h (ix2 0 l)) = bw m c (bq t) l (512 * (jq t).val + k) := by
  unfold bw
  rw [steps_add, hh]
  have hj := (jq t).isLt
  refine steps_congr 0 _ k (fun i hi => ?_) rfl
  have hv : (Fin.ofNat 512 (511 - (0 + i))).val = 511 - i := by show (511 - (0 + i)) % 512 = 511 - i; omega
  have he : 512 * (15 - (jq t).val) + (511 - i) = 8191 - (0 + 512 * (jq t).val + i) := by omega
  constructor
  · show ABt m c t (ix2 (Fin.ofNat 512 (511 - (0 + i))) l) = _
    rw [AB_pt m c t hl, hv, he]
  · show UBt m c t (ix2 (Fin.ofNat 512 (511 - (0 + i))) l) = _
    rw [UB_pt m c t hl, hv, he]

omit hl in
theorem outA_c13 (h : t.val % 16 = 0) : (outA m c t h).2.2.1 = VS0_2.read (Elt Ideal) (VS0_2.writes (Elt Ideal) VS0_2.junk (runA m c t h).2.2.1) := by
  delta outA
  dsimp only

theorem outA_13 (h : t.val % 16 = 0) :
    (outA m c t h).1 = fwdBlock (AFt m c t) (UFt m c t) noRow ∧ ∀ l : Fin 1024, (outA m c t h).2.2.1 (ix2 0 l) = steps (col (AFt m c t) l) (col (UFt m c t) l) 0 512 (noRow (ix2 0 l)) := by
  obtain ⟨hp, w, L, eL, hw⟩ := valA_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h) (AF_fin m c t hl)
  refine ⟨funext fun y => ?_, fun l => ?_⟩
  · exact View.read_writes_apply_of_pieces VO0_13 VO0_13.junk (fwdBlock (AFt m c t) (UFt m c t) noRow) (runA m c t h).1 hp y (coverA_13 m c t h y)
  · rw [outA_c13 m c t h]
    have h0 := fun L0 e => carried VS0_2 VS0_2.junk L0 w L e
    have h1 := fun e => h0 ((runA m c t h).2.2.1) e
    exact (h1 eL l).trans (hw l)

omit hl in
theorem outB_c13 (h : ¬t.val % 16 = 0) (xs2 xs3 : Vec Ideal S1x1024 .f32) : (outB m c t h xs2 xs3).2.2.1 = VS0_2.read (Elt Ideal) (VS0_2.writes (Elt Ideal) VS0_2.junk (runB m c t h xs2 xs3).2.2.1) := by
  delta outB
  dsimp only

theorem outB_13 (h : ¬t.val % 16 = 0) (xs2 xs3 : Vec Ideal S1x1024 .f32) :
    (outB m c t h xs2 xs3).1 = fwdBlock (AFt m c t) (UFt m c t) xs2 ∧ ∀ l : Fin 1024, (outB m c t h xs2 xs3).2.2.1 (ix2 0 l) = steps (col (AFt m c t) l) (col (UFt m c t) l) 0 512 (xs2 (ix2 0 l)) := by
  obtain ⟨hp, w, L, eL, hw⟩ := valB_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h' => h ((hcond0_0 t).mp h')) xs2 xs3 (AF_fin m c t hl)
  refine ⟨funext fun y => ?_, fun l => ?_⟩
  · exact View.read_writes_apply_of_pieces VO0_13 VO0_13.junk (fwdBlock (AFt m c t) (UFt m c t) xs2) (runB m c t h xs2 xs3).1 hp y (coverB_13 m c t h xs2 xs3 y)
  · rw [outB_c13 m c t h xs2 xs3]
    have h0 := fun L0 e => carried VS0_2 VS0_2.junk L0 w L e
    have h1 := fun e => h0 ((runB m c t h xs2 xs3).2.2.1) e
    exact (h1 eL l).trans (hw l)

omit hl in
theorem outA_c14 (h : t.val % 16 = 0) : (outA m c t h).2.2.2 = VS0_3.read (Elt Ideal) (VS0_3.writes (Elt Ideal) VS0_3.junk (runA m c t h).2.2.2.1) := by
  delta outA
  dsimp only

theorem outA_14 (h : t.val % 16 = 0) :
    (outA m c t h).2.1 = bwdBlock (ABt m c t) (UBt m c t) noRow ∧ ∀ l : Fin 1024, (outA m c t h).2.2.2 (ix2 0 l) = steps (loc (ABt m c t) l) (loc (UBt m c t) l) 0 512 (noRow (ix2 0 l)) := by
  obtain ⟨hp, w, L, eL, hw⟩ := valA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h) (AB_fin m c t hl)
  refine ⟨funext fun y => ?_, fun l => ?_⟩
  · exact View.read_writes_apply_of_pieces VO0_14 VO0_14.junk (bwdBlock (ABt m c t) (UBt m c t) noRow) (runA m c t h).2.1 hp y (coverA_14 m c t h y)
  · rw [outA_c14 m c t h]
    have h0 := fun L0 e => carried VS0_3 VS0_3.junk L0 w L e
    have h1 := fun e => h0 ((runA m c t h).2.2.2.1) e
    exact (h1 eL l).trans (hw l)

omit hl in
theorem outB_c14 (h : ¬t.val % 16 = 0) (xs2 xs3 : Vec Ideal S1x1024 .f32) : (outB m c t h xs2 xs3).2.2.2 = VS0_3.read (Elt Ideal) (VS0_3.writes (Elt Ideal) VS0_3.junk (runB m c t h xs2 xs3).2.2.2.1) := by
  delta outB
  dsimp only

theorem outB_14 (h : ¬t.val % 16 = 0) (xs2 xs3 : Vec Ideal S1x1024 .f32) :
    (outB m c t h xs2 xs3).2.1 = bwdBlock (ABt m c t) (UBt m c t) xs3 ∧ ∀ l : Fin 1024, (outB m c t h xs2 xs3).2.2.2 (ix2 0 l) = steps (loc (ABt m c t) l) (loc (UBt m c t) l) 0 512 (xs3 (ix2 0 l)) := by
  obtain ⟨hp, w, L, eL, hw⟩ := valB_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h' => h ((hcond0_0 t).mp h')) xs2 xs3 (AB_fin m c t hl)
  refine ⟨funext fun y => ?_, fun l => ?_⟩
  · exact View.read_writes_apply_of_pieces VO0_14 VO0_14.junk (bwdBlock (ABt m c t) (UBt m c t) xs3) (runB m c t h xs2 xs3).2.1 hp y (coverB_14 m c t h xs2 xs3 y)
  · rw [outB_c14 m c t h xs2 xs3]
    have h0 := fun L0 e => carried VS0_3 VS0_3.junk L0 w L e
    have h1 := fun e => h0 ((runB m c t h xs2 xs3).2.2.2.1) e
    exact (h1 eL l).trans (hw l)

/-- What a point leaves, from what the carried rows hold before it. -/
def Left (t : Fin cfg0.N) : Prop :=
  (∀ y, (outsAt0 m c t.val t.isLt).1 y = fw m c (bq t) (y 2) (512 * (jq t).val + ((y 1).val + 1)))
  ∧ (∀ y, (outsAt0 m c t.val t.isLt).2.1 y = bw m c (bq t) (y 2) (512 * (jq t).val + (512 - (y 1).val)))
  ∧ (∀ l, (outsAt0 m c t.val t.isLt).2.2.1 (ix2 0 l) = fw m c (bq t) l (512 * (jq t).val + 512))
  ∧ (∀ l, (outsAt0 m c t.val t.isLt).2.2.2 (ix2 0 l) = bw m c (bq t) l (512 * (jq t).val + 512))

theorem left : ∀ (n : ℕ) (hn : n < cfg0.N), Left m c ⟨n, hn⟩ := by
  intro n
  induction n using Nat.strong_induction_on with
  | _ n ih =>
  intro hn
  have key : ∀ h2 h3 : Vec Ideal S1x1024 .f32,
      (∀ l, h2 (ix2 0 l) = fw m c (bq ⟨n, hn⟩) l (512 * (jq ⟨n, hn⟩).val)) → (∀ l, h3 (ix2 0 l) = bw m c (bq ⟨n, hn⟩) l (512 * (jq ⟨n, hn⟩).val)) →
      ((outsAt0 m c n hn).1 = fwdBlock (AFt m c ⟨n, hn⟩) (UFt m c ⟨n, hn⟩) h2 ∧ ∀ l : Fin 1024, (outsAt0 m c n hn).2.2.1 (ix2 0 l) = steps (col (AFt m c ⟨n, hn⟩) l) (col (UFt m c ⟨n, hn⟩) l) 0 512 (h2 (ix2 0 l))) →
      ((outsAt0 m c n hn).2.1 = bwdBlock (ABt m c ⟨n, hn⟩) (UBt m c ⟨n, hn⟩) h3 ∧ ∀ l : Fin 1024, (outsAt0 m c n hn).2.2.2 (ix2 0 l) = steps (loc (ABt m c ⟨n, hn⟩) l) (loc (UBt m c ⟨n, hn⟩) l) 0 512 (h3 (ix2 0 l))) →
      Left m c ⟨n, hn⟩ := fun h2 h3 e2 e3 o2 o3 =>
    ⟨fun y => (congrFun o2.1 y).trans (seg_fw m c ⟨n, hn⟩ hl h2 (y 2) (e2 (y 2)) ((y 1).val + 1) (y 1).isLt),
      fun y => (congrFun o3.1 y).trans (seg_bw m c ⟨n, hn⟩ hl h3 (y 2) (e3 (y 2)) (512 - (y 1).val) (Nat.sub_le _ _)),
      fun l => (o2.2 l).trans (seg_fw m c ⟨n, hn⟩ hl h2 l (e2 l) 512 le_rfl),
      fun l => (o3.2 l).trans (seg_bw m c ⟨n, hn⟩ hl h3 l (e3 l) 512 le_rfl)⟩
  by_cases h : n % 16 = 0
  · have e : outsAt0 m c n hn = outA m c ⟨n, hn⟩ h := outsAt0_A m c ⟨n, hn⟩ h
    have hj : 512 * (jq ⟨n, hn⟩).val = 0 := by show 512 * (n % 16) = 0; omega
    refine key noRow noRow (fun l => by rw [hj]; rfl) (fun l => by rw [hj]; rfl) ?_ ?_
    · rw [e]; exact outA_13 m c ⟨n, hn⟩ hl h
    · rw [e]; exact outA_14 m c ⟨n, hn⟩ hl h
  · have hp : n - 1 < cfg0.N := Nat.lt_of_le_of_lt (Nat.sub_le _ _) hn
    have e : outsAt0 m c n hn = outB m c ⟨n, hn⟩ h (outsAt0 m c (n - 1) hp).2.2.1 (outsAt0 m c (n - 1) hp).2.2.2 := outsAt0_B m c ⟨n, hn⟩ h
    obtain ⟨-, -, i2, i3⟩ := ih (n - 1) (by omega) hp
    have hb : bq ⟨n - 1, hp⟩ = bq ⟨n, hn⟩ := Fin.ext (by show (n - 1) / 16 = n / 16; omega)
    have hj : 512 * (jq ⟨n - 1, hp⟩).val + 512 = 512 * (jq ⟨n, hn⟩).val := by show 512 * ((n - 1) % 16) + 512 = 512 * (n % 16); omega
    rw [hb, hj] at i2 i3
    refine key _ _ i2 i3 ?_ ?_
    · rw [e]; exact outB_13 m c ⟨n, hn⟩ hl h _ _
    · rw [e]; exact outB_14 m c ⟨n, hn⟩ hl h _ _

theorem final13 : (dats m 0 c).arrAt 13 cfg0.N = (fun y => fw m c (y 0) (y 2) ((y 1).val + 1) : S4x8192x1024.Idx → EReal) := by
  refine (dats m 0 c).arrAt_eq_of_covers 13 _ (by decide +kernel) fun t hf y => ?_
  blk_simp
  rw [after0_13]
  refine ((left m c hl t.val t.isLt).1 y).trans ?_
  have hi : win0_13.index t = ![t.val / 16, t.val % 16, 0] := by simp only [idx t]
  have e0 := win0_13.rect_emb_val t y 0 rfl
  have e1 := win0_13.rect_emb_val t y 1 rfl
  have e2 := win0_13.rect_emb_val t y 2 rfl
  rw [hi] at e0 e1 e2
  have y0 : (y 0).val < 1 := (y 0).isLt
  have y1 : (y 1).val < 512 := (y 1).isLt
  have h16 : t.val % 16 < 16 := Nat.mod_lt _ (by norm_num)
  have f0 : bq t = (((View.whole main_v18_0).slice (win0_13.rect t)).emb y) 0 := Fin.ext (by
    refine Eq.symm (e0.trans ?_)
    show t.val / 16 * 1 + (y 0).val = t.val / 16
    omega)
  have f2 : y 2 = (((View.whole main_v18_0).slice (win0_13.rect t)).emb y) 2 := Fin.ext (by
    refine Eq.symm (e2.trans ?_)
    show 0 * 1024 + (y 2).val = (y 2).val
    omega)
  have f1 : win0_13.index t 1 = t.val % 16 := by rw [hi]; rfl
  show fw m c (bq t) (y 2) _ = fw m c _ _ _
  rw [← f0, ← f2]
  refine congrArg (fw m c (bq t) (y 2)) ?_
  show (512 * (t.val % 16) + ((y 1).val + 1)) = (win0_13.index t 1 * 512 + (y 1).val) + 1
  rw [f1]
  omega

theorem final14 : (dats m 0 c).arrAt 14 cfg0.N = (fun y => bw m c (y 0) (y 2) (8192 - (y 1).val) : S4x8192x1024.Idx → EReal) := by
  refine (dats m 0 c).arrAt_eq_of_covers 14 _ (by decide +kernel) fun t hf y => ?_
  blk_simp
  rw [after0_14]
  refine ((left m c hl t.val t.isLt).2.1 y).trans ?_
  have hi : win0_14.index t = ![t.val / 16, 15 - t.val % 16, 0] := by simp only [idx t]
  have e0 := win0_14.rect_emb_val t y 0 rfl
  have e1 := win0_14.rect_emb_val t y 1 rfl
  have e2 := win0_14.rect_emb_val t y 2 rfl
  rw [hi] at e0 e1 e2
  have y0 : (y 0).val < 1 := (y 0).isLt
  have y1 : (y 1).val < 512 := (y 1).isLt
  have h16 : t.val % 16 < 16 := Nat.mod_lt _ (by norm_num)
  have f0 : bq t = (((View.whole main_v18_1).slice (win0_14.rect t)).emb y) 0 := Fin.ext (by
    refine Eq.symm (e0.trans ?_)
    show t.val / 16 * 1 + (y 0).val = t.val / 16
    omega)
  have f2 : y 2 = (((View.whole main_v18_1).slice (win0_14.rect t)).emb y) 2 := Fin.ext (by
    refine Eq.symm (e2.trans ?_)
    show 0 * 1024 + (y 2).val = (y 2).val
    omega)
  have f1 : win0_14.index t 1 = 15 - t.val % 16 := by rw [hi]; rfl
  show bw m c (bq t) (y 2) _ = bw m c _ _ _
  rw [← f0, ← f2]
  refine congrArg (bw m c (bq t) (y 2)) ?_
  show (512 * (t.val % 16) + (512 - (y 1).val)) = 8192 - (win0_14.index t 1 * 512 + (y 1).val)
  rw [f1]
  omega

end

end Cert.KernelIdeal.Lru
-- ==== Proof.LruRef.lean ====
module

public import proofs.«01_k».proof.Proof.Gen.ReferenceIdeal.Step
public import Idealize.ShloMosaic.Lib.Pointwise
public import Idealize.ShloMosaic.Lib.KernelVsHost
public import proofs.«01_k».proof.Proof.LruSpec
public import proofs.«01_k».proof.Proof.Gelu

@[expose] public section

set_option maxRecDepth 16384

noncomputable section

/-! The reference's coefficients of the recurrence, read at an entry. -/

namespace Cert.Lru.Ref

open Cert.ReferenceIdeal Cert.ReferenceIdeal.Step Idealize.ShloMosaic Idealize.ShloMosaic.TcCoe Cert.Lru

variable (x0 : (⟨S4x8192x4096, .f32⟩ : BufTy).Contents (Elt Ideal)) (x1 : (⟨S1x4x1024, .f32⟩ : BufTy).Contents (Elt Ideal)) (x2 : (⟨S1x1024, .f32⟩ : BufTy).Contents (Elt Ideal))
  (x3 : (⟨S1x2x8x128x128, .f32⟩ : BufTy).Contents (Elt Ideal)) (x4 : (⟨S1x2x1024, .f32⟩ : BufTy).Contents (Elt Ideal)) (x5 : (⟨S1x2x8x128x128, .f32⟩ : BufTy).Contents (Elt Ideal))
  (x6 : (⟨S1x2x1024, .f32⟩ : BufTy).Contents (Elt Ideal)) (x7 : (⟨S1x2x1024, .f32⟩ : BufTy).Contents (Elt Ideal))

theorem pad_at (b : Fin 4) (s : Fin 8195) (l : Fin 1024) : A_main_v3 x0 x1 x2 x3 x4 x5 x6 x7 (ix3 b s l) = zat x0 b s.val l := by
  unfold A_main_v3 zat
  by_cases h : 2 ≤ s.val ∧ s.val < 8194
  · rw [dif_pos h]
    refine (pad_apply_of_inside _ _ _ _ _ _ _ _ (ix3 b (⟨s.val - 2, by omega⟩ : Fin 8192) l : S4x8192x1024.Idx) fun a => ?_).trans ?_
    · match a with
      | ⟨0, _⟩ => show b.val = 0 + b.val * 1; omega
      | ⟨1, _⟩ => show s.val = 2 + (s.val - 2) * 1; omega
      | ⟨2, _⟩ => show l.val = 0 + l.val * 1; omega
    · pointwise [A_main_v0]
  · rw [dif_neg h]
    refine (pad_apply_of_not_inside _ _ _ _ _ _ _ _ 1 ?_).trans ?_
    · show ¬ (2 ≤ s.val ∧ (s.val - 2) % 1 = 0 ∧ (s.val - 2) / 1 < 8192)
      omega
    · show (((0#32 : BitVec 32).toInt : ℝ) : EReal) = 0
      simp

theorem tap0 (b : Fin 4) (t : Fin 8192) (l : Fin 1024) : A_main_v4 x0 x1 x2 x3 x4 x5 x6 x7 (ix3 b t l) = zat x0 b t.val l := by
  unfold A_main_v4
  refine (extractStridedSlice_apply _ _ _ _ (ix3 b (⟨t.val + 0, by omega⟩ : Fin 8195) l : S4x8195x1024.Idx) fun a => ?_).trans (pad_at ..)
  match a with
  | ⟨0, _⟩ => show b.val = 0 + b.val; omega
  | ⟨1, _⟩ => show t.val + 0 = 0 + t.val; omega
  | ⟨2, _⟩ => show l.val = 0 + l.val; omega

theorem tap1 (b : Fin 4) (t : Fin 8192) (l : Fin 1024) : A_main_v13 x0 x1 x2 x3 x4 x5 x6 x7 (ix3 b t l) = zat x0 b (t.val + 1) l := by
  unfold A_main_v13
  refine (extractStridedSlice_apply _ _ _ _ (ix3 b (⟨t.val + 1, by omega⟩ : Fin 8195) l : S4x8195x1024.Idx) fun a => ?_).trans (pad_at ..)
  match a with
  | ⟨0, _⟩ => show b.val = 0 + b.val; omega
  | ⟨1, _⟩ => show t.val + 1 = 1 + t.val; omega
  | ⟨2, _⟩ => show l.val = 0 + l.val; omega

theorem tap2 (b : Fin 4) (t : Fin 8192) (l : Fin 1024) : A_main_v20 x0 x1 x2 x3 x4 x5 x6 x7 (ix3 b t l) = zat x0 b (t.val + 2) l := by
  unfold A_main_v20
  refine (extractStridedSlice_apply _ _ _ _ (ix3 b (⟨t.val + 2, by omega⟩ : Fin 8195) l : S4x8195x1024.Idx) fun a => ?_).trans (pad_at ..)
  match a with
  | ⟨0, _⟩ => show b.val = 0 + b.val; omega
  | ⟨1, _⟩ => show t.val + 2 = 2 + t.val; omega
  | ⟨2, _⟩ => show l.val = 0 + l.val; omega

theorem tap3 (b : Fin 4) (t : Fin 8192) (l : Fin 1024) : A_main_v27 x0 x1 x2 x3 x4 x5 x6 x7 (ix3 b t l) = zat x0 b (t.val + 3) l := by
  unfold A_main_v27
  refine (extractStridedSlice_apply _ _ _ _ (ix3 b (⟨t.val + 3, by omega⟩ : Fin 8195) l : S4x8195x1024.Idx) fun a => ?_).trans (pad_at ..)
  match a with
  | ⟨0, _⟩ => show b.val = 0 + b.val; omega
  | ⟨1, _⟩ => show t.val + 3 = 3 + t.val; omega
  | ⟨2, _⟩ => show l.val = 0 + l.val; omega

theorem wt0 (b : Fin 4) (t : Fin 8192) (l : Fin 1024) : A_main_v8 x0 x1 x2 x3 x4 x5 x6 x7 (ix3 b t l) = x1 (ix3 0 0 l) := by
  pointwise [A_main_v8, A_main_v7, A_main_v6, A_main_v5, A_main_v1]

theorem wt1 (b : Fin 4) (t : Fin 8192) (l : Fin 1024) : A_main_v17 x0 x1 x2 x3 x4 x5 x6 x7 (ix3 b t l) = x1 (ix3 0 1 l) := by
  pointwise [A_main_v17, A_main_v16, A_main_v15, A_main_v14, A_main_v1]

theorem wt2 (b : Fin 4) (t : Fin 8192) (l : Fin 1024) : A_main_v24 x0 x1 x2 x3 x4 x5 x6 x7 (ix3 b t l) = x1 (ix3 0 2 l) := by
  pointwise [A_main_v24, A_main_v23, A_main_v22, A_main_v21, A_main_v1]

theorem wt3 (b : Fin 4) (t : Fin 8192) (l : Fin 1024) : A_main_v31 x0 x1 x2 x3 x4 x5 x6 x7 (ix3 b t l) = x1 (ix3 0 3 l) := by
  pointwise [A_main_v31, A_main_v30, A_main_v29, A_main_v28, A_main_v1]

theorem bias (b : Fin 4) (t : Fin 8192) (l : Fin 1024) : A_main_v11 x0 x1 x2 x3 x4 x5 x6 x7 (ix3 b t l) = x2 (ix2 0 l) := by
  pointwise [A_main_v11, A_main_v10, A_main_v2]

theorem conv (b : Fin 4) (t : Fin 8192) (l : Fin 1024) : A_main_v33 x0 x1 x2 x3 x4 x5 x6 x7 (ix3 b t l) = xc x0 x1 x2 b t.val l := by
  unfold A_main_v33 A_main_v26 A_main_v19 A_main_v12 A_main_v9 A_main_v18 A_main_v25 A_main_v32 xc
  rw [← tap0 x0 x1 x2 x3 x4 x5 x6 x7 b t l, ← tap1 x0 x1 x2 x3 x4 x5 x6 x7 b t l, ← tap2 x0 x1 x2 x3 x4 x5 x6 x7 b t l, ← tap3 x0 x1 x2 x3 x4 x5 x6 x7 b t l, ← wt0 x0 x1 x2 x3 x4 x5 x6 x7 b t l, ← wt1 x0 x1 x2 x3 x4 x5 x6 x7 b t l, ← wt2 x0 x1 x2 x3 x4 x5 x6 x7 b t l, ← wt3 x0 x1 x2 x3 x4 x5 x6 x7 b t l, ← bias x0 x1 x2 x3 x4 x5 x6 x7 b t l]
  rfl

theorem dot_af (hd : Fin 8) (jj : Fin 128) (b : Fin 4) (t : Fin 8192) : A_main_v45 x0 x1 x2 x3 x4 x5 x6 x7 (ix4 hd jj b t) = ∑ k : Fin 128, x3 (ix5 0 0 hd k jj) * xc x0 x1 x2 b t.val ⟨hd.val * 128 + k.val, by omega⟩ := by
  unfold A_main_v45
  pointwise
  show (_ : EReal) = _
  refine Finset.sum_congr rfl fun k _ => congrArg₂ (· * ·) ?_ ?_
  · pointwise [A_main_v35, A_main_v34]
  · rw [← conv x0 x1 x2 x3 x4 x5 x6 x7 b t ⟨hd.val * 128 + k.val, by omega⟩]
    unfold A_main_v44
    refine shapeCast_apply _ _ _ _ ?_
    show (S4x8192x1024.rowMajor (ix3 b t (⟨hd.val * 128 + k.val, by omega⟩ : Fin 1024))).val = (S4x8192x8x128.rowMajor (ix4 b t hd k)).val
    rw [Shape.rowMajor_val_three, Shape.rowMajor_val_four]
    show (b.val * 8192 + t.val) * 1024 + (hd.val * 128 + k.val) = ((b.val * 8192 + t.val) * 8 + hd.val) * 128 + k.val
    omega

theorem gate_af (b : Fin 4) (t : Fin 8192) (l : Fin 1024) : A_main_v50 x0 x1 x2 x3 x4 x5 x6 x7 (ix3 b t l) = gate (xc x0 x1 x2 b t.val) x3 x4 0 l := by
  unfold A_main_v50 gate
  show (A_main_v47 x0 x1 x2 x3 x4 x5 x6 x7 (ix3 b t l) : EReal) + A_main_v49 x0 x1 x2 x3 x4 x5 x6 x7 (ix3 b t l) = _
  refine congrArg₂ (· + ·) ?_ ?_
  · unfold A_main_v47
    refine (shapeCast_apply _ _ _ (ix4 b t (⟨l.val / 128, by omega⟩ : Fin 8) (⟨l.val % 128, by omega⟩ : Fin 128) : S4x8192x8x128.Idx) ?_).trans ?_
    · show (S4x8192x8x128.rowMajor (ix4 b t (⟨l.val / 128, by omega⟩ : Fin 8) (⟨l.val % 128, by omega⟩ : Fin 128))).val = (S4x8192x1024.rowMajor (ix3 b t l)).val
      rw [Shape.rowMajor_val_three, Shape.rowMajor_val_four]
      show ((b.val * 8192 + t.val) * 8 + l.val / 128) * 128 + l.val % 128 = (b.val * 8192 + t.val) * 1024 + l.val
      omega
    · unfold A_main_v46
      pointwise
      exact dot_af x0 x1 x2 x3 x4 x5 x6 x7 _ _ b t
  · pointwise [A_main_v49, A_main_v48, A_main_v37, A_main_v36]

theorem dot_if (hd : Fin 8) (jj : Fin 128) (b : Fin 4) (t : Fin 8192) : A_main_v57 x0 x1 x2 x3 x4 x5 x6 x7 (ix4 hd jj b t) = ∑ k : Fin 128, x5 (ix5 0 0 hd k jj) * xc x0 x1 x2 b t.val ⟨hd.val * 128 + k.val, by omega⟩ := by
  unfold A_main_v57
  pointwise
  show (_ : EReal) = _
  refine Finset.sum_congr rfl fun k _ => congrArg₂ (· * ·) ?_ ?_
  · pointwise [A_main_v39, A_main_v38]
  · rw [← conv x0 x1 x2 x3 x4 x5 x6 x7 b t ⟨hd.val * 128 + k.val, by omega⟩]
    unfold A_main_v44
    refine shapeCast_apply _ _ _ _ ?_
    show (S4x8192x1024.rowMajor (ix3 b t (⟨hd.val * 128 + k.val, by omega⟩ : Fin 1024))).val = (S4x8192x8x128.rowMajor (ix4 b t hd k)).val
    rw [Shape.rowMajor_val_three, Shape.rowMajor_val_four]
    show (b.val * 8192 + t.val) * 1024 + (hd.val * 128 + k.val) = ((b.val * 8192 + t.val) * 8 + hd.val) * 128 + k.val
    omega

theorem gate_if (b : Fin 4) (t : Fin 8192) (l : Fin 1024) : A_main_v62 x0 x1 x2 x3 x4 x5 x6 x7 (ix3 b t l) = gate (xc x0 x1 x2 b t.val) x5 x6 0 l := by
  unfold A_main_v62 gate
  show (A_main_v59 x0 x1 x2 x3 x4 x5 x6 x7 (ix3 b t l) : EReal) + A_main_v61 x0 x1 x2 x3 x4 x5 x6 x7 (ix3 b t l) = _
  refine congrArg₂ (· + ·) ?_ ?_
  · unfold A_main_v59
    refine (shapeCast_apply _ _ _ (ix4 b t (⟨l.val / 128, by omega⟩ : Fin 8) (⟨l.val % 128, by omega⟩ : Fin 128) : S4x8192x8x128.Idx) ?_).trans ?_
    · show (S4x8192x8x128.rowMajor (ix4 b t (⟨l.val / 128, by omega⟩ : Fin 8) (⟨l.val % 128, by omega⟩ : Fin 128))).val = (S4x8192x1024.rowMajor (ix3 b t l)).val
      rw [Shape.rowMajor_val_three, Shape.rowMajor_val_four]
      show ((b.val * 8192 + t.val) * 8 + l.val / 128) * 128 + l.val % 128 = (b.val * 8192 + t.val) * 1024 + l.val
      omega
    · unfold A_main_v58
      pointwise
      exact dot_if x0 x1 x2 x3 x4 x5 x6 x7 _ _ b t
  · pointwise [A_main_v61, A_main_v60, A_main_v41, A_main_v40]

theorem dot_ab (hd : Fin 8) (jj : Fin 128) (b : Fin 4) (t : Fin 8192) : A_main_v95 x0 x1 x2 x3 x4 x5 x6 x7 (ix4 hd jj b t) = ∑ k : Fin 128, x3 (ix5 0 1 hd k jj) * xc x0 x1 x2 b t.val ⟨hd.val * 128 + k.val, by omega⟩ := by
  unfold A_main_v95
  pointwise
  show (_ : EReal) = _
  refine Finset.sum_congr rfl fun k _ => congrArg₂ (· * ·) ?_ ?_
  · pointwise [A_main_v85, A_main_v84]
  · rw [← conv x0 x1 x2 x3 x4 x5 x6 x7 b t ⟨hd.val * 128 + k.val, by omega⟩]
    unfold A_main_v94
    refine shapeCast_apply _ _ _ _ ?_
    show (S4x8192x1024.rowMajor (ix3 b t (⟨hd.val * 128 + k.val, by omega⟩ : Fin 1024))).val = (S4x8192x8x128.rowMajor (ix4 b t hd k)).val
    rw [Shape.rowMajor_val_three, Shape.rowMajor_val_four]
    show (b.val * 8192 + t.val) * 1024 + (hd.val * 128 + k.val) = ((b.val * 8192 + t.val) * 8 + hd.val) * 128 + k.val
    omega

theorem gate_ab (b : Fin 4) (t : Fin 8192) (l : Fin 1024) : A_main_v100 x0 x1 x2 x3 x4 x5 x6 x7 (ix3 b t l) = gate (xc x0 x1 x2 b t.val) x3 x4 1 l := by
  unfold A_main_v100 gate
  show (A_main_v97 x0 x1 x2 x3 x4 x5 x6 x7 (ix3 b t l) : EReal) + A_main_v99 x0 x1 x2 x3 x4 x5 x6 x7 (ix3 b t l) = _
  refine congrArg₂ (· + ·) ?_ ?_
  · unfold A_main_v97
    refine (shapeCast_apply _ _ _ (ix4 b t (⟨l.val / 128, by omega⟩ : Fin 8) (⟨l.val % 128, by omega⟩ : Fin 128) : S4x8192x8x128.Idx) ?_).trans ?_
    · show (S4x8192x8x128.rowMajor (ix4 b t (⟨l.val / 128, by omega⟩ : Fin 8) (⟨l.val % 128, by omega⟩ : Fin 128))).val = (S4x8192x1024.rowMajor (ix3 b t l)).val
      rw [Shape.rowMajor_val_three, Shape.rowMajor_val_four]
      show ((b.val * 8192 + t.val) * 8 + l.val / 128) * 128 + l.val % 128 = (b.val * 8192 + t.val) * 1024 + l.val
      omega
    · unfold A_main_v96
      pointwise
      exact dot_ab x0 x1 x2 x3 x4 x5 x6 x7 _ _ b t
  · pointwise [A_main_v99, A_main_v98, A_main_v87, A_main_v86]

theorem dot_ib (hd : Fin 8) (jj : Fin 128) (b : Fin 4) (t : Fin 8192) : A_main_v107 x0 x1 x2 x3 x4 x5 x6 x7 (ix4 hd jj b t) = ∑ k : Fin 128, x5 (ix5 0 1 hd k jj) * xc x0 x1 x2 b t.val ⟨hd.val * 128 + k.val, by omega⟩ := by
  unfold A_main_v107
  pointwise
  show (_ : EReal) = _
  refine Finset.sum_congr rfl fun k _ => congrArg₂ (· * ·) ?_ ?_
  · pointwise [A_main_v89, A_main_v88]
  · rw [← conv x0 x1 x2 x3 x4 x5 x6 x7 b t ⟨hd.val * 128 + k.val, by omega⟩]
    unfold A_main_v94
    refine shapeCast_apply _ _ _ _ ?_
    show (S4x8192x1024.rowMajor (ix3 b t (⟨hd.val * 128 + k.val, by omega⟩ : Fin 1024))).val = (S4x8192x8x128.rowMajor (ix4 b t hd k)).val
    rw [Shape.rowMajor_val_three, Shape.rowMajor_val_four]
    show (b.val * 8192 + t.val) * 1024 + (hd.val * 128 + k.val) = ((b.val * 8192 + t.val) * 8 + hd.val) * 128 + k.val
    omega

theorem gate_ib (b : Fin 4) (t : Fin 8192) (l : Fin 1024) : A_main_v112 x0 x1 x2 x3 x4 x5 x6 x7 (ix3 b t l) = gate (xc x0 x1 x2 b t.val) x5 x6 1 l := by
  unfold A_main_v112 gate
  show (A_main_v109 x0 x1 x2 x3 x4 x5 x6 x7 (ix3 b t l) : EReal) + A_main_v111 x0 x1 x2 x3 x4 x5 x6 x7 (ix3 b t l) = _
  refine congrArg₂ (· + ·) ?_ ?_
  · unfold A_main_v109
    refine (shapeCast_apply _ _ _ (ix4 b t (⟨l.val / 128, by omega⟩ : Fin 8) (⟨l.val % 128, by omega⟩ : Fin 128) : S4x8192x8x128.Idx) ?_).trans ?_
    · show (S4x8192x8x128.rowMajor (ix4 b t (⟨l.val / 128, by omega⟩ : Fin 8) (⟨l.val % 128, by omega⟩ : Fin 128))).val = (S4x8192x1024.rowMajor (ix3 b t l)).val
      rw [Shape.rowMajor_val_three, Shape.rowMajor_val_four]
      show ((b.val * 8192 + t.val) * 8 + l.val / 128) * 128 + l.val % 128 = (b.val * 8192 + t.val) * 1024 + l.val
      omega
    · unfold A_main_v108
      pointwise
      exact dot_ib x0 x1 x2 x3 x4 x5 x6 x7 _ _ b t
  · pointwise [A_main_v111, A_main_v110, A_main_v91, A_main_v90]

theorem sig_af (b : Fin 4) (t : Fin 8192) (l : Fin 1024) : A_main_v56 x0 x1 x2 x3 x4 x5 x6 x7 (ix3 b t l) = sg (A_main_v50 x0 x1 x2 x3 x4 x5 x6 x7 (ix3 b t l)) := by
  pointwise [A_main_v56, A_main_v54, A_main_v52, A_main_v51, K_main_v53, K_main_v55, K_main_cst, K_main_cst_0, sg, Cert.Gelu.bits_one]
  try rfl

theorem sig_if (b : Fin 4) (t : Fin 8192) (l : Fin 1024) : A_main_v68 x0 x1 x2 x3 x4 x5 x6 x7 (ix3 b t l) = sg (A_main_v62 x0 x1 x2 x3 x4 x5 x6 x7 (ix3 b t l)) := by
  pointwise [A_main_v68, A_main_v66, A_main_v64, A_main_v63, K_main_v65, K_main_v67, K_main_cst_1, K_main_cst_2, sg, Cert.Gelu.bits_one]
  try rfl

theorem sig_ab (b : Fin 4) (t : Fin 8192) (l : Fin 1024) : A_main_v106 x0 x1 x2 x3 x4 x5 x6 x7 (ix3 b t l) = sg (A_main_v100 x0 x1 x2 x3 x4 x5 x6 x7 (ix3 b t l)) := by
  pointwise [A_main_v106, A_main_v104, A_main_v102, A_main_v101, K_main_v103, K_main_v105, K_main_cst_5, K_main_cst_6, sg, Cert.Gelu.bits_one]
  try rfl

theorem sig_ib (b : Fin 4) (t : Fin 8192) (l : Fin 1024) : A_main_v118 x0 x1 x2 x3 x4 x5 x6 x7 (ix3 b t l) = sg (A_main_v112 x0 x1 x2 x3 x4 x5 x6 x7 (ix3 b t l)) := by
  pointwise [A_main_v118, A_main_v116, A_main_v114, A_main_v113, K_main_v115, K_main_v117, K_main_cst_7, K_main_cst_8, sg, Cert.Gelu.bits_one]
  try rfl

theorem lam_f (l : Fin 1024) : A_main_v69 x0 x1 x2 x3 x4 x5 x6 x7 (ix1 l) = -x7 (ix3 0 0 l) := by
  pointwise [A_main_v69, A_main_v43, A_main_v42]

theorem c3_f (l : Fin 1024) : A_main_call1_v3 x0 x1 x2 x3 x4 x5 x6 x7 (ix1 l) = -x7 (ix3 0 0 l) := by
  unfold A_main_call1_v3
  show (A_main_v69 x0 x1 x2 x3 x4 x5 x6 x7 (ix1 l) : EReal) - K_main_call1_v2 (F := Ideal) (ix1 l) = _
  rw [lam_f, show K_main_call1_v2 (F := Ideal) (ix1 l) = (0 : EReal) from by pointwise [K_main_call1_v2, K_main_call1_cst], sub_zero]

theorem sp_f (l : Fin 1024) : A_main_v70 x0 x1 x2 x3 x4 x5 x6 x7 (ix1 l) = sp (-x7 (ix3 0 0 l)) := by
  unfold A_main_v70
  show (if (A_main_call1_v4 x0 x1 x2 x3 x4 x5 x6 x7 (ix1 l)) = 1#1 then (A_main_call1_v6 x0 x1 x2 x3 x4 x5 x6 x7 (ix1 l) : EReal) else A_main_call1_v11 x0 x1 x2 x3 x4 x5 x6 x7 (ix1 l)) = _
  rw [show A_main_call1_v4 x0 x1 x2 x3 x4 x5 x6 x7 (ix1 l) = 0#1 from by
    unfold A_main_call1_v4
    show BitVec.ofBool (decide ((A_main_call1_v3 x0 x1 x2 x3 x4 x5 x6 x7 (ix1 l) : EReal) ≠ A_main_call1_v3 x0 x1 x2 x3 x4 x5 x6 x7 (ix1 l))) = 0#1
    simp]
  rw [if_neg (by decide)]
  unfold A_main_call1_v11 A_main_call1_v1 A_main_call1_v10 A_main_call1_v9 A_main_call1_v8 A_main_call1_v7
  show max (A_main_v69 x0 x1 x2 x3 x4 x5 x6 x7 (ix1 l) : EReal) (K_main_call1_v0 (F := Ideal) (ix1 l)) + Ideal.log (1 + Ideal.exp (-(max (A_main_call1_v3 x0 x1 x2 x3 x4 x5 x6 x7 (ix1 l) : EReal) (-(A_main_call1_v3 x0 x1 x2 x3 x4 x5 x6 x7 (ix1 l) : EReal))))) = _
  rw [c3_f, lam_f, show K_main_call1_v0 (F := Ideal) (ix1 l) = (0 : EReal) from by pointwise [K_main_call1_v0, K_main_call1_cst]]
  rfl

theorem lam_b (l : Fin 1024) : A_main_v119 x0 x1 x2 x3 x4 x5 x6 x7 (ix1 l) = -x7 (ix3 0 1 l) := by
  pointwise [A_main_v119, A_main_v93, A_main_v92]

theorem c3_b (l : Fin 1024) : A_main_call2_v3 x0 x1 x2 x3 x4 x5 x6 x7 (ix1 l) = -x7 (ix3 0 1 l) := by
  unfold A_main_call2_v3
  show (A_main_v119 x0 x1 x2 x3 x4 x5 x6 x7 (ix1 l) : EReal) - K_main_call2_v2 (F := Ideal) (ix1 l) = _
  rw [lam_b, show K_main_call2_v2 (F := Ideal) (ix1 l) = (0 : EReal) from by pointwise [K_main_call2_v2, K_main_call2_cst], sub_zero]

theorem sp_b (l : Fin 1024) : A_main_v120 x0 x1 x2 x3 x4 x5 x6 x7 (ix1 l) = sp (-x7 (ix3 0 1 l)) := by
  unfold A_main_v120
  show (if (A_main_call2_v4 x0 x1 x2 x3 x4 x5 x6 x7 (ix1 l)) = 1#1 then (A_main_call2_v6 x0 x1 x2 x3 x4 x5 x6 x7 (ix1 l) : EReal) else A_main_call2_v11 x0 x1 x2 x3 x4 x5 x6 x7 (ix1 l)) = _
  rw [show A_main_call2_v4 x0 x1 x2 x3 x4 x5 x6 x7 (ix1 l) = 0#1 from by
    unfold A_main_call2_v4
    show BitVec.ofBool (decide ((A_main_call2_v3 x0 x1 x2 x3 x4 x5 x6 x7 (ix1 l) : EReal) ≠ A_main_call2_v3 x0 x1 x2 x3 x4 x5 x6 x7 (ix1 l))) = 0#1
    simp]
  rw [if_neg (by decide)]
  unfold A_main_call2_v11 A_main_call2_v1 A_main_call2_v10 A_main_call2_v9 A_main_call2_v8 A_main_call2_v7
  show max (A_main_v119 x0 x1 x2 x3 x4 x5 x6 x7 (ix1 l) : EReal) (K_main_call2_v0 (F := Ideal) (ix1 l)) + Ideal.log (1 + Ideal.exp (-(max (A_main_call2_v3 x0 x1 x2 x3 x4 x5 x6 x7 (ix1 l) : EReal) (-(A_main_call2_v3 x0 x1 x2 x3 x4 x5 x6 x7 (ix1 l) : EReal))))) = _
  rw [c3_b, lam_b, show K_main_call2_v0 (F := Ideal) (ix1 l) = (0 : EReal) from by pointwise [K_main_call2_v0, K_main_call2_cst]]
  rfl

theorem bits_neg8 : Ideal.ofBits .f32 0xC1000000#32 = ((-8 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem log_f (b : Fin 4) (t : Fin 8192) (l : Fin 1024) : A_main_v75 x0 x1 x2 x3 x4 x5 x6 x7 (ix3 b t l) = logA (gate (xc x0 x1 x2 b t.val) x3 x4 0 l) (x7 (ix3 0 0 l)) := by
  unfold A_main_v75
  show (A_main_v74 x0 x1 x2 x3 x4 x5 x6 x7 (ix3 b t l) : EReal) * A_main_v56 x0 x1 x2 x3 x4 x5 x6 x7 (ix3 b t l) = _
  rw [sig_af, gate_af, show A_main_v74 x0 x1 x2 x3 x4 x5 x6 x7 (ix3 b t l) = ((-8 : ℝ) : EReal) * A_main_v70 x0 x1 x2 x3 x4 x5 x6 x7 (ix1 l) from by
    pointwise [A_main_v74, A_main_v73, A_main_v72, K_main_v71, K_main_cst_3, bits_neg8], sp_f]
  rfl

theorem a_f (b : Fin 4) (t : Fin 8192) (l : Fin 1024) : A_main_v76 x0 x1 x2 x3 x4 x5 x6 x7 (ix3 b t l) = aR (gate (xc x0 x1 x2 b t.val) x3 x4 0 l) (x7 (ix3 0 0 l)) := by
  unfold A_main_v76
  show Ideal.exp (A_main_v75 x0 x1 x2 x3 x4 x5 x6 x7 (ix3 b t l) : EReal) = _
  rw [log_f]
  rfl

theorem u_f (b : Fin 4) (t : Fin 8192) (l : Fin 1024) : A_main_v83 x0 x1 x2 x3 x4 x5 x6 x7 (ix3 b t l) = uR (gate (xc x0 x1 x2 b t.val) x3 x4 0 l) (gate (xc x0 x1 x2 b t.val) x5 x6 0 l) (x7 (ix3 0 0 l)) (xc x0 x1 x2 b t.val l) := by
  unfold A_main_v83 A_main_v81 A_main_v80 A_main_v79 A_main_v78 A_main_v82
  show Ideal.sqrt (-(Ideal.exp ((K_main_v77 (F := Ideal) (ix3 b t l) : EReal) * A_main_v75 x0 x1 x2 x3 x4 x5 x6 x7 (ix3 b t l)) - 1)) * ((A_main_v68 x0 x1 x2 x3 x4 x5 x6 x7 (ix3 b t l) : EReal) * A_main_v33 x0 x1 x2 x3 x4 x5 x6 x7 (ix3 b t l)) = _
  rw [log_f, sig_if, gate_if, conv, show K_main_v77 (F := Ideal) (ix3 b t l) = ((2 : ℝ) : EReal) from by pointwise [K_main_v77, K_main_cst_4, bits_two]]
  rfl

theorem log_b (b : Fin 4) (t : Fin 8192) (l : Fin 1024) : A_main_v125 x0 x1 x2 x3 x4 x5 x6 x7 (ix3 b t l) = logA (gate (xc x0 x1 x2 b t.val) x3 x4 1 l) (x7 (ix3 0 1 l)) := by
  unfold A_main_v125
  show (A_main_v124 x0 x1 x2 x3 x4 x5 x6 x7 (ix3 b t l) : EReal) * A_main_v106 x0 x1 x2 x3 x4 x5 x6 x7 (ix3 b t l) = _
  rw [sig_ab, gate_ab, show A_main_v124 x0 x1 x2 x3 x4 x5 x6 x7 (ix3 b t l) = ((-8 : ℝ) : EReal) * A_main_v120 x0 x1 x2 x3 x4 x5 x6 x7 (ix1 l) from by
    pointwise [A_main_v124, A_main_v123, A_main_v122, K_main_v121, K_main_cst_9, bits_neg8], sp_b]
  rfl

theorem a_b (b : Fin 4) (t : Fin 8192) (l : Fin 1024) : A_main_v126 x0 x1 x2 x3 x4 x5 x6 x7 (ix3 b t l) = aR (gate (xc x0 x1 x2 b t.val) x3 x4 1 l) (x7 (ix3 0 1 l)) := by
  unfold A_main_v126
  show Ideal.exp (A_main_v125 x0 x1 x2 x3 x4 x5 x6 x7 (ix3 b t l) : EReal) = _
  rw [log_b]
  rfl

theorem u_b (b : Fin 4) (t : Fin 8192) (l : Fin 1024) : A_main_v133 x0 x1 x2 x3 x4 x5 x6 x7 (ix3 b t l) = uR (gate (xc x0 x1 x2 b t.val) x3 x4 1 l) (gate (xc x0 x1 x2 b t.val) x5 x6 1 l) (x7 (ix3 0 1 l)) (xc x0 x1 x2 b t.val l) := by
  unfold A_main_v133 A_main_v131 A_main_v130 A_main_v129 A_main_v128 A_main_v132
  show Ideal.sqrt (-(Ideal.exp ((K_main_v127 (F := Ideal) (ix3 b t l) : EReal) * A_main_v125 x0 x1 x2 x3 x4 x5 x6 x7 (ix3 b t l)) - 1)) * ((A_main_v118 x0 x1 x2 x3 x4 x5 x6 x7 (ix3 b t l) : EReal) * A_main_v33 x0 x1 x2 x3 x4 x5 x6 x7 (ix3 b t l)) = _
  rw [log_b, sig_ib, gate_ib, conv, show K_main_v127 (F := Ideal) (ix3 b t l) = ((2 : ℝ) : EReal) from by pointwise [K_main_v127, K_main_cst_10, bits_two]]
  rfl

end Cert.Lru.Ref
-- ==== Proof.RecurRun.lean ====
/- The reference's run over the step of its loop: its two results are the state after all 8192 trips. -/
module

public import proofs.«01_k».proof.Proof.Gen.ReferenceIdeal.Run
public import proofs.«01_k».proof.Proof.Gen.ReferenceIdeal.Step

@[expose] public section

noncomputable section

namespace Cert.ReferenceIdeal.Recur

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v136_6) = s.main_v136_6
  f_7 : V0 (Proc.devRef .tc main_v136_7) = s.main_v136_7
  f_8 : V0 (Proc.devRef .tc main_v136_8) = s.main_v136_8
  f_9 : V0 (Proc.devRef .tc main_v136_9) = s.main_v136_9
  f_0 : V0 (Proc.devRef .tc main_v136_0) = s.main_v136_0
  f_1 : V0 (Proc.devRef .tc main_v136_1) = s.main_v136_1
  f_2 : V0 (Proc.devRef .tc main_v136_2) = s.main_v136_2
  f_3 : V0 (Proc.devRef .tc main_v136_3) = s.main_v136_3
  n_4 : V0 (Proc.devRef .tc main_v136_4) = constantI S_ 32 (BitVec.ofNat 32 j)
  n_5 : V0 (Proc.devRef .tc main_v136_5) = constantI S_ 32 (BitVec.ofNat 32 j)

variable {V0 s j}

set_option maxRecDepth 8192 in
theorem al_0 (h : Holds V0 s j) : (constantI S_ 32 1#32 : (Proc.devRef .tc main_while0b_c_24 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v136_5)) (constantI S_ 32 1#32) : (Proc.devRef .tc main_while0b_v137 : DevRef τ sig).ty.Contents (Elt F)) = Cert.ReferenceIdeal.Step.b1 j s := by
  unfold Cert.ReferenceIdeal.Step.b1
  rw [← al_0 h, h.n_5]
  try rfl
set_option maxRecDepth 8192 in
theorem al_2 (h : Holds V0 s j) : (constantI S_ 32 0#32 : (Proc.devRef .tc main_while0b_c_25 : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v136_5)) (constantI S_ 32 0#32) : (Proc.devRef .tc main_while0b_v138 : DevRef τ sig).ty.Contents (Elt F)) = Cert.ReferenceIdeal.Step.b3 j s := by
  unfold Cert.ReferenceIdeal.Step.b3
  rw [← al_2 h, h.n_5]
  try rfl
set_option maxRecDepth 8192 in
theorem al_4 (h : Holds V0 s j) : (id (V0 (Proc.devRef .tc main_v136_5)) : (Proc.devRef .tc main_while0b_v139 : DevRef τ sig).ty.Contents (Elt F)) = Cert.ReferenceIdeal.Step.b4 j s := by
  unfold Cert.ReferenceIdeal.Step.b4
  rw [h.n_5]
  try rfl
set_option maxRecDepth 8192 in
theorem al_5 (h : Holds V0 s j) : (constantI S_ 32 8192#32 : (Proc.devRef .tc main_while0b_c_26 : DevRef τ sig).ty.Contents (Elt F)) = Cert.ReferenceIdeal.Step.b5 j s := by
  unfold Cert.ReferenceIdeal.Step.b5
  rfl
set_option maxRecDepth 8192 in
theorem al_6 (h : Holds V0 s j) : (addi (id (V0 (Proc.devRef .tc main_v136_5))) (constantI S_ 32 8192#32) : (Proc.devRef .tc main_while0b_v140 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (select (cmpi .slt (V0 (Proc.devRef .tc main_v136_5)) (constantI S_ 32 0#32)) (addi (id (V0 (Proc.devRef .tc main_v136_5))) (constantI S_ 32 8192#32)) (V0 (Proc.devRef .tc main_v136_5)) : (Proc.devRef .tc main_while0b_v141 : DevRef τ sig).ty.Contents (Elt F)) = Cert.ReferenceIdeal.Step.b7 j s := by
  unfold Cert.ReferenceIdeal.Step.b7
  rw [← al_3 h, ← al_6 h, h.n_5]
  try rfl
set_option maxRecDepth 8192 in
theorem al_8 (h : Holds V0 s j) : (constantI S_ 32 0#32 : (Proc.devRef .tc main_while0b_c_27 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_c_28 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S4x1x1024 (V0 (Proc.devRef .tc main_v136_0)) (fun k => (((![constantI S_ 32 0#32, select (cmpi .slt (V0 (Proc.devRef .tc main_v136_5)) (constantI S_ 32 0#32)) (addi (id (V0 (Proc.devRef .tc main_v136_5))) (constantI S_ 32 8192#32)) (V0 (Proc.devRef .tc main_v136_5)), constantI S_ 32 0#32] : Fin 3 → (⟨S_, .i32⟩ : BufTy).Contents (Elt F))) k (Shape.Idx.first h_S_)).toInt) sliceFits_S4x8192x1024_S4x1x1024 : (Proc.devRef .tc main_while0b_v142 : DevRef τ sig).ty.Contents (Elt F)) = Cert.ReferenceIdeal.Step.b10 j s := by
  unfold Cert.ReferenceIdeal.Step.b10
  rw [← al_8 h, ← al_7 h, ← al_9 h, h.f_0]
  try rfl
set_option maxRecDepth 8192 in
theorem al_11 (h : Holds V0 s j) : (mulf (Host.dynamicSlice S4x1x1024 (V0 (Proc.devRef .tc main_v136_0)) (fun k => (((![constantI S_ 32 0#32, select (cmpi .slt (V0 (Proc.devRef .tc main_v136_5)) (constantI S_ 32 0#32)) (addi (id (V0 (Proc.devRef .tc main_v136_5))) (constantI S_ 32 8192#32)) (V0 (Proc.devRef .tc main_v136_5)), constantI S_ 32 0#32] : Fin 3 → (⟨S_, .i32⟩ : BufTy).Contents (Elt F))) k (Shape.Idx.first h_S_)).toInt) sliceFits_S4x8192x1024_S4x1x1024) (V0 (Proc.devRef .tc main_v136_6)) : (Proc.devRef .tc main_while0b_v143 : DevRef τ sig).ty.Contents (Elt F)) = Cert.ReferenceIdeal.Step.b11 j s := by
  unfold Cert.ReferenceIdeal.Step.b11
  rw [← al_10 h, h.f_6]
  try rfl
set_option maxRecDepth 8192 in
theorem al_12 (h : Holds V0 s j) : (constantI S_ 32 0#32 : (Proc.devRef .tc main_while0b_c_29 : DevRef τ sig).ty.Contents (Elt F)) = Cert.ReferenceIdeal.Step.b12 j s := by
  unfold Cert.ReferenceIdeal.Step.b12
  rfl
set_option maxRecDepth 8192 in
theorem al_13 (h : Holds V0 s j) : (cmpi .slt (V0 (Proc.devRef .tc main_v136_5)) (constantI S_ 32 0#32) : (Proc.devRef .tc main_while0b_v144 : DevRef τ sig).ty.Contents (Elt F)) = Cert.ReferenceIdeal.Step.b13 j s := by
  unfold Cert.ReferenceIdeal.Step.b13
  rw [← al_12 h, h.n_5]
  try rfl
set_option maxRecDepth 8192 in
theorem al_14 (h : Holds V0 s j) : (id (V0 (Proc.devRef .tc main_v136_5)) : (Proc.devRef .tc main_while0b_v145 : DevRef τ sig).ty.Contents (Elt F)) = Cert.ReferenceIdeal.Step.b14 j s := by
  unfold Cert.ReferenceIdeal.Step.b14
  rw [h.n_5]
  try rfl
set_option maxRecDepth 8192 in
theorem al_15 (h : Holds V0 s j) : (constantI S_ 32 8192#32 : (Proc.devRef .tc main_while0b_c_30 : DevRef τ sig).ty.Contents (Elt F)) = Cert.ReferenceIdeal.Step.b15 j s := by
  unfold Cert.ReferenceIdeal.Step.b15
  rfl
set_option maxRecDepth 8192 in
theorem al_16 (h : Holds V0 s j) : (addi (id (V0 (Proc.devRef .tc main_v136_5))) (constantI S_ 32 8192#32) : (Proc.devRef .tc main_while0b_v146 : DevRef τ sig).ty.Contents (Elt F)) = Cert.ReferenceIdeal.Step.b16 j s := by
  unfold Cert.ReferenceIdeal.Step.b16
  rw [← al_14 h, ← al_15 h]
  try rfl
set_option maxRecDepth 8192 in
theorem al_17 (h : Holds V0 s j) : (select (cmpi .slt (V0 (Proc.devRef .tc main_v136_5)) (constantI S_ 32 0#32)) (addi (id (V0 (Proc.devRef .tc main_v136_5))) (constantI S_ 32 8192#32)) (V0 (Proc.devRef .tc main_v136_5)) : (Proc.devRef .tc main_while0b_v147 : DevRef τ sig).ty.Contents (Elt F)) = Cert.ReferenceIdeal.Step.b17 j s := by
  unfold Cert.ReferenceIdeal.Step.b17
  rw [← al_13 h, ← al_16 h, h.n_5]
  try rfl
set_option maxRecDepth 8192 in
theorem al_18 (h : Holds V0 s j) : (constantI S_ 32 0#32 : (Proc.devRef .tc main_while0b_c_31 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_c_32 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S4x1x1024 (V0 (Proc.devRef .tc main_v136_1)) (fun k => (((![constantI S_ 32 0#32, select (cmpi .slt (V0 (Proc.devRef .tc main_v136_5)) (constantI S_ 32 0#32)) (addi (id (V0 (Proc.devRef .tc main_v136_5))) (constantI S_ 32 8192#32)) (V0 (Proc.devRef .tc main_v136_5)), constantI S_ 32 0#32] : Fin 3 → (⟨S_, .i32⟩ : BufTy).Contents (Elt F))) k (Shape.Idx.first h_S_)).toInt) sliceFits_S4x8192x1024_S4x1x1024 : (Proc.devRef .tc main_while0b_v148 : DevRef τ sig).ty.Contents (Elt F)) = Cert.ReferenceIdeal.Step.b20 j s := by
  unfold Cert.ReferenceIdeal.Step.b20
  rw [← al_18 h, ← al_17 h, ← al_19 h, h.f_1]
  try rfl
set_option maxRecDepth 8192 in
theorem al_21 (h : Holds V0 s j) : (res_main_while0b_v149 V0 : (Proc.devRef .tc main_while0b_v149 : DevRef τ sig).ty.Contents (Elt F)) = Cert.ReferenceIdeal.Step.b21 j s := by
  unfold res_main_while0b_v149 Cert.ReferenceIdeal.Step.b21
  rw [← al_11 h, ← al_20 h]
  try rfl
set_option maxRecDepth 8192 in
theorem al_22 (h : Holds V0 s j) : (constantI S_ 32 8191#32 : (Proc.devRef .tc main_while0b_c_33 : DevRef τ sig).ty.Contents (Elt F)) = Cert.ReferenceIdeal.Step.b22 j s := by
  unfold Cert.ReferenceIdeal.Step.b22
  rfl
set_option maxRecDepth 8192 in
theorem al_23 (h : Holds V0 s j) : (res_main_while0b_v150 V0 : (Proc.devRef .tc main_while0b_v150 : DevRef τ sig).ty.Contents (Elt F)) = Cert.ReferenceIdeal.Step.b23 j s := by
  unfold res_main_while0b_v150 Cert.ReferenceIdeal.Step.b23
  rw [← al_22 h, h.n_5]
  try rfl
set_option maxRecDepth 8192 in
theorem al_24 (h : Holds V0 s j) : (constantI S_ 32 0#32 : (Proc.devRef .tc main_while0b_c_34 : DevRef τ sig).ty.Contents (Elt F)) = Cert.ReferenceIdeal.Step.b24 j s := by
  unfold Cert.ReferenceIdeal.Step.b24
  rfl
set_option maxRecDepth 8192 in
theorem al_25 (h : Holds V0 s j) : (cmpi .slt (res_main_while0b_v150 V0) (constantI S_ 32 0#32) : (Proc.devRef .tc main_while0b_v151 : DevRef τ sig).ty.Contents (Elt F)) = Cert.ReferenceIdeal.Step.b25 j s := by
  unfold Cert.ReferenceIdeal.Step.b25
  rw [← al_23 h, ← al_24 h]
  try rfl
set_option maxRecDepth 8192 in
theorem al_26 (h : Holds V0 s j) : (id (res_main_while0b_v150 V0) : (Proc.devRef .tc main_while0b_v152 : DevRef τ sig).ty.Contents (Elt F)) = Cert.ReferenceIdeal.Step.b26 j s := by
  unfold Cert.ReferenceIdeal.Step.b26
  rw [← al_23 h]
  try rfl
set_option maxRecDepth 8192 in
theorem al_27 (h : Holds V0 s j) : (constantI S_ 32 8192#32 : (Proc.devRef .tc main_while0b_c_35 : DevRef τ sig).ty.Contents (Elt F)) = Cert.ReferenceIdeal.Step.b27 j s := by
  unfold Cert.ReferenceIdeal.Step.b27
  rfl
set_option maxRecDepth 8192 in
theorem al_28 (h : Holds V0 s j) : (addi (id (res_main_while0b_v150 V0)) (constantI S_ 32 8192#32) : (Proc.devRef .tc main_while0b_v153 : DevRef τ sig).ty.Contents (Elt F)) = Cert.ReferenceIdeal.Step.b28 j s := by
  unfold Cert.ReferenceIdeal.Step.b28
  rw [← al_26 h, ← al_27 h]
  try rfl
set_option maxRecDepth 8192 in
theorem al_29 (h : Holds V0 s j) : (select (cmpi .slt (res_main_while0b_v150 V0) (constantI S_ 32 0#32)) (addi (id (res_main_while0b_v150 V0)) (constantI S_ 32 8192#32)) (res_main_while0b_v150 V0) : (Proc.devRef .tc main_while0b_v154 : DevRef τ sig).ty.Contents (Elt F)) = Cert.ReferenceIdeal.Step.b29 j s := by
  unfold Cert.ReferenceIdeal.Step.b29
  rw [← al_25 h, ← al_28 h, ← al_23 h]
  try rfl
set_option maxRecDepth 8192 in
theorem al_30 (h : Holds V0 s j) : (constantI S_ 32 0#32 : (Proc.devRef .tc main_while0b_c_36 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_c_37 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S4x1x1024 (V0 (Proc.devRef .tc main_v136_2)) (fun k => (((![constantI S_ 32 0#32, select (cmpi .slt (res_main_while0b_v150 V0) (constantI S_ 32 0#32)) (addi (id (res_main_while0b_v150 V0)) (constantI S_ 32 8192#32)) (res_main_while0b_v150 V0), constantI S_ 32 0#32] : Fin 3 → (⟨S_, .i32⟩ : BufTy).Contents (Elt F))) k (Shape.Idx.first h_S_)).toInt) sliceFits_S4x8192x1024_S4x1x1024 : (Proc.devRef .tc main_while0b_v155 : DevRef τ sig).ty.Contents (Elt F)) = Cert.ReferenceIdeal.Step.b32 j s := by
  unfold Cert.ReferenceIdeal.Step.b32
  rw [← al_30 h, ← al_29 h, ← al_31 h, h.f_2]
  try rfl
set_option maxRecDepth 8192 in
theorem al_33 (h : Holds V0 s j) : (mulf (Host.dynamicSlice S4x1x1024 (V0 (Proc.devRef .tc main_v136_2)) (fun k => (((![constantI S_ 32 0#32, select (cmpi .slt (res_main_while0b_v150 V0) (constantI S_ 32 0#32)) (addi (id (res_main_while0b_v150 V0)) (constantI S_ 32 8192#32)) (res_main_while0b_v150 V0), constantI S_ 32 0#32] : Fin 3 → (⟨S_, .i32⟩ : BufTy).Contents (Elt F))) k (Shape.Idx.first h_S_)).toInt) sliceFits_S4x8192x1024_S4x1x1024) (V0 (Proc.devRef .tc main_v136_7)) : (Proc.devRef .tc main_while0b_v156 : DevRef τ sig).ty.Contents (Elt F)) = Cert.ReferenceIdeal.Step.b33 j s := by
  unfold Cert.ReferenceIdeal.Step.b33
  rw [← al_32 h, h.f_7]
  try rfl
set_option maxRecDepth 8192 in
theorem al_34 (h : Holds V0 s j) : (constantI S_ 32 8191#32 : (Proc.devRef .tc main_while0b_c_38 : DevRef τ sig).ty.Contents (Elt F)) = Cert.ReferenceIdeal.Step.b34 j s := by
  unfold Cert.ReferenceIdeal.Step.b34
  rfl
set_option maxRecDepth 8192 in
theorem al_35 (h : Holds V0 s j) : (res_main_while0b_v157 V0 : (Proc.devRef .tc main_while0b_v157 : DevRef τ sig).ty.Contents (Elt F)) = Cert.ReferenceIdeal.Step.b35 j s := by
  unfold res_main_while0b_v157 Cert.ReferenceIdeal.Step.b35
  rw [← al_34 h, h.n_5]
  try rfl
set_option maxRecDepth 8192 in
theorem al_36 (h : Holds V0 s j) : (constantI S_ 32 0#32 : (Proc.devRef .tc main_while0b_c_39 : DevRef τ sig).ty.Contents (Elt F)) = Cert.ReferenceIdeal.Step.b36 j s := by
  unfold Cert.ReferenceIdeal.Step.b36
  rfl
set_option maxRecDepth 8192 in
theorem al_37 (h : Holds V0 s j) : (cmpi .slt (res_main_while0b_v157 V0) (constantI S_ 32 0#32) : (Proc.devRef .tc main_while0b_v158 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (id (res_main_while0b_v157 V0) : (Proc.devRef .tc main_while0b_v159 : DevRef τ sig).ty.Contents (Elt F)) = Cert.ReferenceIdeal.Step.b38 j s := by
  unfold Cert.ReferenceIdeal.Step.b38
  rw [← al_35 h]
  try rfl
set_option maxRecDepth 8192 in
theorem al_39 (h : Holds V0 s j) : (constantI S_ 32 8192#32 : (Proc.devRef .tc main_while0b_c_40 : DevRef τ sig).ty.Contents (Elt F)) = Cert.ReferenceIdeal.Step.b39 j s := by
  unfold Cert.ReferenceIdeal.Step.b39
  rfl
set_option maxRecDepth 8192 in
theorem al_40 (h : Holds V0 s j) : (addi (id (res_main_while0b_v157 V0)) (constantI S_ 32 8192#32) : (Proc.devRef .tc main_while0b_v160 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (select (cmpi .slt (res_main_while0b_v157 V0) (constantI S_ 32 0#32)) (addi (id (res_main_while0b_v157 V0)) (constantI S_ 32 8192#32)) (res_main_while0b_v157 V0) : (Proc.devRef .tc main_while0b_v161 : DevRef τ sig).ty.Contents (Elt F)) = Cert.ReferenceIdeal.Step.b41 j s := by
  unfold Cert.ReferenceIdeal.Step.b41
  rw [← al_37 h, ← al_40 h, ← al_35 h]
  try rfl
set_option maxRecDepth 8192 in
theorem al_42 (h : Holds V0 s j) : (constantI S_ 32 0#32 : (Proc.devRef .tc main_while0b_c_41 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_c_42 : DevRef τ sig).ty.Contents (Elt F)) = Cert.ReferenceIdeal.Step.b43 j s := by
  unfold Cert.ReferenceIdeal.Step.b43
  rfl
set_option maxRecDepth 8192 in
theorem al_44 (h : Holds V0 s j) : (Host.dynamicSlice S4x1x1024 (V0 (Proc.devRef .tc main_v136_3)) (fun k => (((![constantI S_ 32 0#32, select (cmpi .slt (res_main_while0b_v157 V0) (constantI S_ 32 0#32)) (addi (id (res_main_while0b_v157 V0)) (constantI S_ 32 8192#32)) (res_main_while0b_v157 V0), constantI S_ 32 0#32] : Fin 3 → (⟨S_, .i32⟩ : BufTy).Contents (Elt F))) k (Shape.Idx.first h_S_)).toInt) sliceFits_S4x8192x1024_S4x1x1024 : (Proc.devRef .tc main_while0b_v162 : DevRef τ sig).ty.Contents (Elt F)) = Cert.ReferenceIdeal.Step.b44 j s := by
  unfold Cert.ReferenceIdeal.Step.b44
  rw [← al_42 h, ← al_41 h, ← al_43 h, h.f_3]
  try rfl
set_option maxRecDepth 8192 in
theorem al_45 (h : Holds V0 s j) : (res_main_while0b_v163 V0 : (Proc.devRef .tc main_while0b_v163 : DevRef τ sig).ty.Contents (Elt F)) = Cert.ReferenceIdeal.Step.b45 j s := by
  unfold res_main_while0b_v163 Cert.ReferenceIdeal.Step.b45
  rw [← al_33 h, ← al_44 h]
  try rfl
set_option maxRecDepth 8192 in
theorem al_46 (h : Holds V0 s j) : (constantI S_ 32 0#32 : (Proc.devRef .tc main_while0b_c_43 : DevRef τ sig).ty.Contents (Elt F)) = Cert.ReferenceIdeal.Step.b46 j s := by
  unfold Cert.ReferenceIdeal.Step.b46
  rfl
set_option maxRecDepth 8192 in
theorem al_47 (h : Holds V0 s j) : (cmpi .slt (V0 (Proc.devRef .tc main_v136_5)) (constantI S_ 32 0#32) : (Proc.devRef .tc main_while0b_v164 : DevRef τ sig).ty.Contents (Elt F)) = Cert.ReferenceIdeal.Step.b47 j s := by
  unfold Cert.ReferenceIdeal.Step.b47
  rw [← al_46 h, h.n_5]
  try rfl
set_option maxRecDepth 8192 in
theorem al_48 (h : Holds V0 s j) : (id (V0 (Proc.devRef .tc main_v136_5)) : (Proc.devRef .tc main_while0b_v165 : DevRef τ sig).ty.Contents (Elt F)) = Cert.ReferenceIdeal.Step.b48 j s := by
  unfold Cert.ReferenceIdeal.Step.b48
  rw [h.n_5]
  try rfl
set_option maxRecDepth 8192 in
theorem al_49 (h : Holds V0 s j) : (constantI S_ 32 8192#32 : (Proc.devRef .tc main_while0b_c_44 : DevRef τ sig).ty.Contents (Elt F)) = Cert.ReferenceIdeal.Step.b49 j s := by
  unfold Cert.ReferenceIdeal.Step.b49
  rfl
set_option maxRecDepth 8192 in
theorem al_50 (h : Holds V0 s j) : (addi (id (V0 (Proc.devRef .tc main_v136_5))) (constantI S_ 32 8192#32) : (Proc.devRef .tc main_while0b_v166 : DevRef τ sig).ty.Contents (Elt F)) = Cert.ReferenceIdeal.Step.b50 j s := by
  unfold Cert.ReferenceIdeal.Step.b50
  rw [← al_48 h, ← al_49 h]
  try rfl
set_option maxRecDepth 8192 in
theorem al_51 (h : Holds V0 s j) : (select (cmpi .slt (V0 (Proc.devRef .tc main_v136_5)) (constantI S_ 32 0#32)) (addi (id (V0 (Proc.devRef .tc main_v136_5))) (constantI S_ 32 8192#32)) (V0 (Proc.devRef .tc main_v136_5)) : (Proc.devRef .tc main_while0b_v167 : DevRef τ sig).ty.Contents (Elt F)) = Cert.ReferenceIdeal.Step.b51 j s := by
  unfold Cert.ReferenceIdeal.Step.b51
  rw [← al_47 h, ← al_50 h, h.n_5]
  try rfl
set_option maxRecDepth 8192 in
theorem al_52 (h : Holds V0 s j) : (constantI S_ 32 0#32 : (Proc.devRef .tc main_while0b_c_45 : DevRef τ sig).ty.Contents (Elt F)) = Cert.ReferenceIdeal.Step.b52 j s := by
  unfold Cert.ReferenceIdeal.Step.b52
  rfl
set_option maxRecDepth 8192 in
theorem al_53 (h : Holds V0 s j) : (constantI S_ 32 0#32 : (Proc.devRef .tc main_while0b_c_46 : DevRef τ sig).ty.Contents (Elt F)) = Cert.ReferenceIdeal.Step.b53 j s := by
  unfold Cert.ReferenceIdeal.Step.b53
  rfl
set_option maxRecDepth 8192 in
theorem al_54 (h : Holds V0 s j) : (Host.dynamicUpdateSlice (V0 (Proc.devRef .tc main_v136_8)) (res_main_while0b_v149 V0) (fun k => (((![constantI S_ 32 0#32, select (cmpi .slt (V0 (Proc.devRef .tc main_v136_5)) (constantI S_ 32 0#32)) (addi (id (V0 (Proc.devRef .tc main_v136_5))) (constantI S_ 32 8192#32)) (V0 (Proc.devRef .tc main_v136_5)), constantI S_ 32 0#32] : Fin 3 → (⟨S_, .i32⟩ : BufTy).Contents (Elt F))) k (Shape.Idx.first h_S_)).toInt) updateFits_S4x8192x1024_S4x1x1024 : (Proc.devRef .tc main_while0b_v168 : DevRef τ sig).ty.Contents (Elt F)) = Cert.ReferenceIdeal.Step.b54 j s := by
  unfold Cert.ReferenceIdeal.Step.b54
  rw [← al_21 h, ← al_52 h, ← al_51 h, ← al_53 h, h.f_8]
  try rfl
set_option maxRecDepth 8192 in
theorem al_55 (h : Holds V0 s j) : (constantI S_ 32 8191#32 : (Proc.devRef .tc main_while0b_c_47 : DevRef τ sig).ty.Contents (Elt F)) = Cert.ReferenceIdeal.Step.b55 j s := by
  unfold Cert.ReferenceIdeal.Step.b55
  rfl
set_option maxRecDepth 8192 in
theorem al_56 (h : Holds V0 s j) : (res_main_while0b_v169 V0 : (Proc.devRef .tc main_while0b_v169 : DevRef τ sig).ty.Contents (Elt F)) = Cert.ReferenceIdeal.Step.b56 j s := by
  unfold res_main_while0b_v169 Cert.ReferenceIdeal.Step.b56
  rw [← al_55 h, h.n_5]
  try rfl
set_option maxRecDepth 8192 in
theorem al_57 (h : Holds V0 s j) : (constantI S_ 32 0#32 : (Proc.devRef .tc main_while0b_c_48 : DevRef τ sig).ty.Contents (Elt F)) = Cert.ReferenceIdeal.Step.b57 j s := by
  unfold Cert.ReferenceIdeal.Step.b57
  rfl
set_option maxRecDepth 8192 in
theorem al_58 (h : Holds V0 s j) : (cmpi .slt (res_main_while0b_v169 V0) (constantI S_ 32 0#32) : (Proc.devRef .tc main_while0b_v170 : DevRef τ sig).ty.Contents (Elt F)) = Cert.ReferenceIdeal.Step.b58 j s := by
  unfold Cert.ReferenceIdeal.Step.b58
  rw [← al_56 h, ← al_57 h]
  try rfl
set_option maxRecDepth 8192 in
theorem al_59 (h : Holds V0 s j) : (id (res_main_while0b_v169 V0) : (Proc.devRef .tc main_while0b_v171 : DevRef τ sig).ty.Contents (Elt F)) = Cert.ReferenceIdeal.Step.b59 j s := by
  unfold Cert.ReferenceIdeal.Step.b59
  rw [← al_56 h]
  try rfl
set_option maxRecDepth 8192 in
theorem al_60 (h : Holds V0 s j) : (constantI S_ 32 8192#32 : (Proc.devRef .tc main_while0b_c_49 : DevRef τ sig).ty.Contents (Elt F)) = Cert.ReferenceIdeal.Step.b60 j s := by
  unfold Cert.ReferenceIdeal.Step.b60
  rfl
set_option maxRecDepth 8192 in
theorem al_61 (h : Holds V0 s j) : (addi (id (res_main_while0b_v169 V0)) (constantI S_ 32 8192#32) : (Proc.devRef .tc main_while0b_v172 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (select (cmpi .slt (res_main_while0b_v169 V0) (constantI S_ 32 0#32)) (addi (id (res_main_while0b_v169 V0)) (constantI S_ 32 8192#32)) (res_main_while0b_v169 V0) : (Proc.devRef .tc main_while0b_v173 : DevRef τ sig).ty.Contents (Elt F)) = Cert.ReferenceIdeal.Step.b62 j s := by
  unfold Cert.ReferenceIdeal.Step.b62
  rw [← al_58 h, ← al_61 h, ← al_56 h]
  try rfl
set_option maxRecDepth 8192 in
theorem al_63 (h : Holds V0 s j) : (constantI S_ 32 0#32 : (Proc.devRef .tc main_while0b_c_50 : DevRef τ sig).ty.Contents (Elt F)) = Cert.ReferenceIdeal.Step.b63 j s := by
  unfold Cert.ReferenceIdeal.Step.b63
  rfl
set_option maxRecDepth 8192 in
theorem al_64 (h : Holds V0 s j) : (constantI S_ 32 0#32 : (Proc.devRef .tc main_while0b_c_51 : DevRef τ sig).ty.Contents (Elt F)) = Cert.ReferenceIdeal.Step.b64 j s := by
  unfold Cert.ReferenceIdeal.Step.b64
  rfl
set_option maxRecDepth 8192 in
theorem al_65 (h : Holds V0 s j) : (Host.dynamicUpdateSlice (V0 (Proc.devRef .tc main_v136_9)) (res_main_while0b_v163 V0) (fun k => (((![constantI S_ 32 0#32, select (cmpi .slt (res_main_while0b_v169 V0) (constantI S_ 32 0#32)) (addi (id (res_main_while0b_v169 V0)) (constantI S_ 32 8192#32)) (res_main_while0b_v169 V0), constantI S_ 32 0#32] : Fin 3 → (⟨S_, .i32⟩ : BufTy).Contents (Elt F))) k (Shape.Idx.first h_S_)).toInt) updateFits_S4x8192x1024_S4x1x1024 : (Proc.devRef .tc main_while0b_v174 : DevRef τ sig).ty.Contents (Elt F)) = Cert.ReferenceIdeal.Step.b65 j s := by
  unfold Cert.ReferenceIdeal.Step.b65
  rw [← al_45 h, ← al_63 h, ← al_62 h, ← al_64 h, h.f_9]
  try rfl

/-! One trip's step of the carried values is `step`, field by field; a counter steps to the next number. -/

theorem step_6 (h : Holds V0 s j) : step_main_v136_6 V0 = (step j s).main_v136_6 := by
  unfold step_main_v136_6 Cert.ReferenceIdeal.Step.step
  show id (res_main_while0b_v149 V0) = _
  rw [al_21 h]
  try rfl
theorem step_7 (h : Holds V0 s j) : step_main_v136_7 V0 = (step j s).main_v136_7 := by
  unfold step_main_v136_7 Cert.ReferenceIdeal.Step.step
  show id (res_main_while0b_v163 V0) = _
  rw [al_45 h]
  try rfl
theorem step_8 (h : Holds V0 s j) : step_main_v136_8 V0 = (step j s).main_v136_8 := by
  unfold step_main_v136_8 Cert.ReferenceIdeal.Step.step
  exact al_54 h
theorem step_9 (h : Holds V0 s j) : step_main_v136_9 V0 = (step j s).main_v136_9 := by
  unfold step_main_v136_9 Cert.ReferenceIdeal.Step.step
  exact al_65 h
theorem step_4 (h : Holds V0 s j) : step_main_v136_4 V0 = constantI S_ 32 (BitVec.ofNat 32 (j + 1)) := by
  unfold step_main_v136_4
  rw [h.n_4]
  funext i
  show BitVec.ofNat 32 j + 1#32 = BitVec.ofNat 32 (j + 1)
  simp only [BitVec.ofNat_add]
theorem step_5 (h : Holds V0 s j) : step_main_v136_5 V0 = constantI S_ 32 (BitVec.ofNat 32 (j + 1)) := by
  unfold step_main_v136_5
  rw [h.n_5]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_6 := (STEP_main_v136_6 V0).trans (step_6 h)
  f_7 := (STEP_main_v136_7 V0).trans (step_7 h)
  f_8 := (STEP_main_v136_8 V0).trans (step_8 h)
  f_9 := (STEP_main_v136_9 V0).trans (step_9 h)
  n_4 := (STEP_main_v136_4 V0).trans (step_4 h)
  n_5 := (STEP_main_v136_5 V0).trans (step_5 h)
  f_0 := (STEP_main_v136_0 V0).trans h.f_0
  f_1 := (STEP_main_v136_1 V0).trans h.f_1
  f_2 := (STEP_main_v136_2 V0).trans h.f_2
  f_3 := (STEP_main_v136_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1100000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v136_8) = (it c 8192).main_v136_8
      ∧ r.2.mem ((c.tc : Thread nD τ).loc main_v136_9) = (it c 8192).main_v136_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 8192
    ⟨(h c).1.trans hk.f_8, (h c).2.1.trans hk.f_9, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.Recur

end
-- ==== Proof.LruRecurRef.lean ====
module

public import proofs.«01_k».proof.Proof.LruRef
public import proofs.«01_k».proof.Proof.LruScan
public import proofs.«01_k».proof.Proof.RecurRun
public import Idealize.ShloMosaic.Lib.WordCmp

@[expose] public section

set_option maxRecDepth 16384

noncomputable section

/-! What the reference's loop over the rows leaves: the recurrence at every row, from the first row up and from the last
row down. -/

namespace Cert.Lru.Ref

open Cert.ReferenceIdeal Cert.ReferenceIdeal.Gen Cert.ReferenceIdeal.Step Idealize.ShloMosaic Idealize.ShloMosaic.TcCoe Cert.Lru Cert.KernelIdeal.Lru

theorem word (j : ℕ) (hj : j < 8192) :
    (Scalar.select (IntOp.cmpi .slt (BitVec.ofNat 32 j) 0#32) (BitVec.ofNat 32 j + 8192#32) (BitVec.ofNat 32 j)).toInt = (j : ℤ) := by
  have h : (BitVec.ofNat 32 j).toInt = (j : ℤ) := WordCmp.toInt_ofNat_of_lt (by omega)
  have hs : IntOp.cmpi .slt (BitVec.ofNat 32 j) 0#32 = 0#1 := by
    show BitVec.ofBool ((BitVec.ofNat 32 j).slt 0#32) = 0#1
    rw [BitVec.slt, h]
    simp
    rw [decide_eq_false (by omega : ¬ ((j : ℤ) < 0))]
    rfl
  rw [hs]
  exact h

theorem word_back (j k : ℕ) (hj : k + j = 8191) :
    (Scalar.select (IntOp.cmpi .slt (8191#32 - BitVec.ofNat 32 j) 0#32) (8191#32 - BitVec.ofNat 32 j + 8192#32) (8191#32 - BitVec.ofNat 32 j)).toInt = (k : ℤ) := by
  have e : 8191#32 - BitVec.ofNat 32 j = BitVec.ofNat 32 k := by
    apply BitVec.eq_of_toNat_eq
    rw [BitVec.toNat_sub, BitVec.toNat_ofNat, BitVec.toNat_ofNat, BitVec.toNat_ofNat]
    omega
  rw [e]
  exact word k (by omega)

theorem slice_row (x : FVec Ideal S4x8192x1024 .f32) (st : Fin 3 → ℤ) (k : ℕ) (hk : k < 8192) (h0 : st 0 = 0) (h1 : st 1 = (k : ℤ)) (h2 : st 2 = 0)
    (h : S4x8192x1024.Slices (fun _ => 0) S4x1x1024) (b : Fin 4) (l : Fin 1024) :
    Host.dynamicSlice S4x1x1024 x st h (ix3 b 0 l) = x (ix3 b (⟨k, hk⟩ : Fin 8192) l) := by
  rw [Host.dynamicSlice_apply]
  refine congrArg x (funext fun a => ?_)
  match a with
  | ⟨0, _⟩ =>
    refine Fin.ext ?_
    show Host.clampedStart S4x8192x1024 S4x1x1024 h.1 st 0 + b.val = b.val
    rw [Host.clampedStart_of_le h.1 st 0 0 h0 (by show 0 + 4 ≤ 4; omega)]; omega
  | ⟨1, _⟩ =>
    refine Fin.ext ?_
    show Host.clampedStart S4x8192x1024 S4x1x1024 h.1 st 1 + 0 = k
    rw [Host.clampedStart_of_le h.1 st 1 k h1 (by show k + 1 ≤ 8192; omega)]; omega
  | ⟨2, _⟩ =>
    refine Fin.ext ?_
    show Host.clampedStart S4x8192x1024 S4x1x1024 h.1 st 2 + l.val = l.val
    rw [Host.clampedStart_of_le h.1 st 2 0 h2 (by show 0 + 1024 ≤ 1024; omega)]; omega

theorem update_row (x : FVec Ideal S4x8192x1024 .f32) (u : FVec Ideal S4x1x1024 .f32) (st : Fin 3 → ℤ) (k : ℕ) (hk : k < 8192) (h0 : st 0 = 0) (h1 : st 1 = (k : ℤ)) (h2 : st 2 = 0)
    (h : S4x8192x1024.Slices (fun _ => 0) S4x1x1024) (b : Fin 4) (t : Fin 8192) (l : Fin 1024) :
    Host.dynamicUpdateSlice x u st h (ix3 b t l) = if t.val = k then u (ix3 b 0 l) else x (ix3 b t l) := by
  have c0 := Host.clampedStart_of_le h.1 st 0 0 h0 (by show 0 + 4 ≤ 4; omega)
  have c1 := Host.clampedStart_of_le h.1 st 1 k h1 (by show k + 1 ≤ 8192; omega)
  have c2 := Host.clampedStart_of_le h.1 st 2 0 h2 (by show 0 + 1024 ≤ 1024; omega)
  rw [Host.dynamicUpdateSlice_apply]
  by_cases ht : t.val = k
  · rw [if_pos ht, dif_pos ?_]
    · refine congrArg u (funext fun a => ?_)
      match a with
      | ⟨0, _⟩ =>
        refine Fin.ext ?_
        show b.val - Host.clampedStart S4x8192x1024 S4x1x1024 h.1 st 0 = b.val
        rw [c0]; omega
      | ⟨1, _⟩ =>
        refine Fin.ext ?_
        show t.val - Host.clampedStart S4x8192x1024 S4x1x1024 h.1 st 1 = 0
        rw [c1]; omega
      | ⟨2, _⟩ =>
        refine Fin.ext ?_
        show l.val - Host.clampedStart S4x8192x1024 S4x1x1024 h.1 st 2 = l.val
        rw [c2]; omega
    · intro a
      match a with
      | ⟨0, _⟩ =>
        show Host.clampedStart S4x8192x1024 S4x1x1024 h.1 st 0 ≤ b.val ∧ b.val < Host.clampedStart S4x8192x1024 S4x1x1024 h.1 st 0 + 4
        rw [c0]; omega
      | ⟨1, _⟩ =>
        show Host.clampedStart S4x8192x1024 S4x1x1024 h.1 st 1 ≤ t.val ∧ t.val < Host.clampedStart S4x8192x1024 S4x1x1024 h.1 st 1 + 1
        rw [c1]; omega
      | ⟨2, _⟩ =>
        show Host.clampedStart S4x8192x1024 S4x1x1024 h.1 st 2 ≤ l.val ∧ l.val < Host.clampedStart S4x8192x1024 S4x1x1024 h.1 st 2 + 1024
        rw [c2]; omega
  · rw [if_neg ht, dif_neg ?_]
    intro hall
    have : Host.clampedStart S4x8192x1024 S4x1x1024 h.1 st 1 ≤ t.val ∧ t.val < Host.clampedStart S4x8192x1024 S4x1x1024 h.1 st 1 + 1 := hall 1
    rw [c1] at this
    omega

/-- A column of a row-major array, row by row from the first or from the last. -/
def up (x : FVec Ideal S4x8192x1024 .f32) (b : Fin 4) (l : Fin 1024) (n : ℕ) : EReal := x (ix3 b (Fin.ofNat 8192 n) l)
def down (x : FVec Ideal S4x8192x1024 .f32) (b : Fin 4) (l : Fin 1024) (n : ℕ) : EReal := x (ix3 b (Fin.ofNat 8192 (8191 - n)) l)

theorem up_at (x : FVec Ideal S4x8192x1024 .f32) (b : Fin 4) (l : Fin 1024) (n : ℕ) (hn : n < 8192) : up x b l n = x (ix3 b (⟨n, hn⟩ : Fin 8192) l) := by
  unfold up; congr 2; exact Fin.ext (Nat.mod_eq_of_lt hn)
theorem down_at (x : FVec Ideal S4x8192x1024 .f32) (b : Fin 4) (l : Fin 1024) (n k : ℕ) (hk : k < 8192) (hkn : k + n = 8191) : down x b l n = x (ix3 b (⟨k, hk⟩ : Fin 8192) l) := by
  unfold down
  refine congrArg (fun i => x (ix3 b i l)) (Fin.ext ?_)
  show (8191 - n) % 8192 = k
  omega

variable (s : State Ideal) (j : ℕ) (hj : j < 8192) (b : Fin 4) (l : Fin 1024)

include hj in
theorem b21_at : b21 j s (ix3 b 0 l) = up s.main_v136_0 b l j * s.main_v136_6 (ix3 b 0 l) + up s.main_v136_1 b l j := by
  unfold b21 b11
  show (b10 j s (ix3 b 0 l) : EReal) * s.main_v136_6 (ix3 b 0 l) + b20 j s (ix3 b 0 l) = _
  unfold b10 b20
  rw [slice_row _ _ j hj (by rfl) (word j hj) (by rfl), slice_row _ _ j hj (by rfl) (word j hj) (by rfl), up_at _ _ _ _ hj, up_at _ _ _ _ hj]

theorem idx29 (k : ℕ) (hk : k + j = 8191) : (b29 j s (Shape.Idx.first h_S_)).toInt = (k : ℤ) := by
  unfold b29 b25 b28 b26 b23 b22 b24 b27
  exact word_back j k hk
theorem idx41 (k : ℕ) (hk : k + j = 8191) : (b41 j s (Shape.Idx.first h_S_)).toInt = (k : ℤ) := by
  unfold b41 b37 b40 b38 b35 b34 b36 b39
  exact word_back j k hk
theorem idx62 (k : ℕ) (hk : k + j = 8191) : (b62 j s (Shape.Idx.first h_S_)).toInt = (k : ℤ) := by
  unfold b62 b58 b61 b59 b56 b55 b57 b60
  exact word_back j k hk

theorem b45_at (k : ℕ) (hk : k < 8192) (hkj : k + j = 8191) : b45 j s (ix3 b 0 l) = down s.main_v136_2 b l j * s.main_v136_7 (ix3 b 0 l) + down s.main_v136_3 b l j := by
  unfold b45 b33
  show (b32 j s (ix3 b 0 l) : EReal) * s.main_v136_7 (ix3 b 0 l) + b44 j s (ix3 b 0 l) = _
  rw [down_at _ _ _ j k hk hkj, down_at _ _ _ j k hk hkj]
  unfold b32 b44
  refine congrArg₂ (· + ·) (congrArg (· * _) (slice_row _ _ k hk ?_ ?_ ?_ _ b l)) (slice_row _ _ k hk ?_ ?_ ?_ _ b l)
  · rfl
  · have h := idx29 s j k hkj
    revert h
    generalize b29 j s = w
    exact fun h => h
  · rfl
  · rfl
  · have h := idx41 s j k hkj
    revert h
    generalize b41 j s = w
    exact fun h => h
  · rfl

include hj in
theorem b54_at (t : Fin 8192) : b54 j s (ix3 b t l) = if t.val = j then b21 j s (ix3 b 0 l) else s.main_v136_8 (ix3 b t l) := by
  unfold b54
  exact update_row _ _ _ j hj (by rfl) (word j hj) (by rfl) _ b t l

theorem b65_at (k : ℕ) (hk : k < 8192) (hkj : k + j = 8191) (t : Fin 8192) : b65 j s (ix3 b t l) = if t.val = k then b45 j s (ix3 b 0 l) else s.main_v136_9 (ix3 b t l) := by
  unfold b65
  refine update_row _ _ _ k hk ?_ ?_ ?_ _ b t l
  · rfl
  · have h := idx62 s j k hkj
    revert h
    generalize b62 j s = w
    exact fun h => h
  · rfl

/-- The state before trip `n`. -/
def iter (s : State Ideal) : ℕ → State Ideal
  | 0 => s
  | n + 1 => step n (iter s n)

theorem iter_at (s : State Ideal) (h6 : ∀ b l, s.main_v136_6 (ix3 b 0 l) = (0 : EReal)) (h7 : ∀ b l, s.main_v136_7 (ix3 b 0 l) = (0 : EReal)) : ∀ n, n ≤ 8192 →
    ((iter s n).main_v136_0 = s.main_v136_0 ∧ (iter s n).main_v136_1 = s.main_v136_1 ∧ (iter s n).main_v136_2 = s.main_v136_2 ∧ (iter s n).main_v136_3 = s.main_v136_3)
    ∧ (∀ b l, (iter s n).main_v136_6 (ix3 b 0 l) = steps (up s.main_v136_0 b l) (up s.main_v136_1 b l) 0 n 0)
    ∧ (∀ b l, (iter s n).main_v136_7 (ix3 b 0 l) = steps (down s.main_v136_2 b l) (down s.main_v136_3 b l) 0 n 0)
    ∧ (∀ b (t : Fin 8192) l, t.val < n → (iter s n).main_v136_8 (ix3 b t l) = steps (up s.main_v136_0 b l) (up s.main_v136_1 b l) 0 (t.val + 1) 0)
    ∧ (∀ b (t : Fin 8192) l, 8192 ≤ t.val + n → (iter s n).main_v136_9 (ix3 b t l) = steps (down s.main_v136_2 b l) (down s.main_v136_3 b l) 0 (8192 - t.val) 0)
  | 0, _ => ⟨⟨rfl, rfl, rfl, rfl⟩, h6, h7, fun b t l ht => absurd ht (Nat.not_lt_zero _), fun b t l ht => absurd ht (by have := t.isLt; omega)⟩
  | n + 1, hn => by
    obtain ⟨⟨e0, e1, e2, e3⟩, i6, i7, i8, i9⟩ := iter_at s h6 h7 n (by omega)
    have hj : n < 8192 := by omega
    have f6 : ∀ b l, b21 n (iter s n) (ix3 b 0 l) = steps (up s.main_v136_0 b l) (up s.main_v136_1 b l) 0 (n + 1) 0 := fun b l => by
      rw [b21_at _ n hj, e0, e1, i6]
      show _ = up s.main_v136_0 b l (0 + n) * _ + up s.main_v136_1 b l (0 + n)
      rw [Nat.zero_add]
    have f7 : ∀ b l, b45 n (iter s n) (ix3 b 0 l) = steps (down s.main_v136_2 b l) (down s.main_v136_3 b l) 0 (n + 1) 0 := fun b l => by
      rw [b45_at _ n _ _ (8191 - n) (by omega) (by omega), e2, e3, i7]
      show _ = down s.main_v136_2 b l (0 + n) * _ + down s.main_v136_3 b l (0 + n)
      rw [Nat.zero_add]
    refine ⟨⟨e0, e1, e2, e3⟩, f6, f7, fun b t l ht => ?_, fun b t l ht => ?_⟩
    · show b54 n (iter s n) (ix3 b t l) = _
      rw [b54_at _ n hj]
      by_cases h : t.val = n
      · rw [if_pos h, f6, h]
      · rw [if_neg h]; exact i8 b t l (by omega)
    · show b65 n (iter s n) (ix3 b t l) = _
      rw [b65_at _ n _ _ (8191 - n) (by omega) (by omega)]
      by_cases h : t.val = 8191 - n
      · rw [if_pos h, f7]; congr 1; omega
      · rw [if_neg h]; exact i9 b t l (by omega)

end Cert.Lru.Ref
-- ==== Proof.LruClaim.lean ====
module

public import proofs.«01_k».proof.Defs
public import proofs.«01_k».proof.Proof.LruValue
public import proofs.«01_k».proof.Proof.LruRef
public import proofs.«01_k».proof.Proof.LruRecurRef
public import proofs.«01_k».proof.Proof.RecurRun

@[expose] public section

set_option maxRecDepth 16384

noncomputable section

/-! The recurrence's claim: from agreeing arguments whose decay parameters are not minus infinity, the kernel's two results and
    the reference's are the recurrence over the whole time axis, in either direction. -/

namespace Cert.Lru.Ref

open Cert.ReferenceIdeal Cert.ReferenceIdeal.Step Idealize.ShloMosaic Idealize.ShloMosaic.TcCoe Cert.Lru
open Cert.KernelIdeal.Lru (steps steps_congr)

variable (x0 : (⟨S4x8192x4096, .f32⟩ : BufTy).Contents (Elt Ideal)) (x1 : (⟨S1x4x1024, .f32⟩ : BufTy).Contents (Elt Ideal)) (x2 : (⟨S1x1024, .f32⟩ : BufTy).Contents (Elt Ideal))
  (x3 : (⟨S1x2x8x128x128, .f32⟩ : BufTy).Contents (Elt Ideal)) (x4 : (⟨S1x2x1024, .f32⟩ : BufTy).Contents (Elt Ideal)) (x5 : (⟨S1x2x8x128x128, .f32⟩ : BufTy).Contents (Elt Ideal))
  (x6 : (⟨S1x2x1024, .f32⟩ : BufTy).Contents (Elt Ideal)) (x7 : (⟨S1x2x1024, .f32⟩ : BufTy).Contents (Elt Ideal))

theorem zero_row (b : Fin 4) (l : Fin 1024) : (K_main_v134 (F := Ideal) (ix3 b 0 l) : EReal) = 0 := by
  pointwise [K_main_v134, K_main_cst_11]

theorem last_fw (b : Fin 4) (t : Fin 8192) (l : Fin 1024) :
    (iter (init x0 x1 x2 x3 x4 x5 x6 x7) 8192).main_v136_8 (ix3 b t l)
      = steps (aS x0 x1 x2 x3 x4 x5 x6 x7 0 b l) (uS x0 x1 x2 x3 x4 x5 x6 x7 0 b l) 0 (t.val + 1) 0 := by
  have h := (iter_at (init x0 x1 x2 x3 x4 x5 x6 x7) zero_row zero_row 8192 le_rfl).2.2.2.1 b t l t.isLt
  refine h.trans (steps_congr 0 0 _ (fun i hi => ?_) rfl)
  have hi' : 0 + i < 8192 := by have := t.isLt; omega
  constructor
  · rw [up_at _ b l _ hi']
    exact a_f x0 x1 x2 x3 x4 x5 x6 x7 b ⟨0 + i, hi'⟩ l
  · rw [up_at _ b l _ hi']
    exact u_f x0 x1 x2 x3 x4 x5 x6 x7 b ⟨0 + i, hi'⟩ l

theorem last_bw (b : Fin 4) (t : Fin 8192) (l : Fin 1024) :
    (iter (init x0 x1 x2 x3 x4 x5 x6 x7) 8192).main_v136_9 (ix3 b t l)
      = steps (fun k => aS x0 x1 x2 x3 x4 x5 x6 x7 1 b l (8191 - k)) (fun k => uS x0 x1 x2 x3 x4 x5 x6 x7 1 b l (8191 - k)) 0 (8192 - t.val) 0 := by
  have h := (iter_at (init x0 x1 x2 x3 x4 x5 x6 x7) zero_row zero_row 8192 le_rfl).2.2.2.2 b t l (Nat.le_add_left _ _)
  refine h.trans (steps_congr 0 0 _ (fun i hi => ?_) rfl)
  have hk : 8191 - (0 + i) < 8192 := by omega
  have hi' : 8191 - (0 + i) + (0 + i) = 8191 := by omega
  constructor
  · rw [down_at _ b l (0 + i) _ hk hi']
    exact a_b x0 x1 x2 x3 x4 x5 x6 x7 b ⟨8191 - (0 + i), hk⟩ l
  · rw [down_at _ b l (0 + i) _ hk hi']
    exact u_b x0 x1 x2 x3 x4 x5 x6 x7 b ⟨8191 - (0 + i), hk⟩ l

end Cert.Lru.Ref

namespace Cert.Proof.Calls

open Idealize.ShloMosaic Idealize.ShloMosaic.TcCoe Idealize.SL.Sem

theorem inf_word : (FloatOps.ofBits (F := Ideal) .f32 0xFF800000#32 : EReal) = ⊥ := by
  show Ideal.ofBits _ _ = _
  simp [Ideal.ofBits, Ideal.ieee]

/-- What the precondition says: no decay parameter is minus infinity. -/
theorem decay_ne (m : (ℓ : Loc Cert.KernelIdeal.nD Cert.KernelIdeal.τ Cert.KernelIdeal.sig) → Buf (Elt Ideal) ℓ) [Cert.Pre_decay_finite.Facts] (h : Cert.Pre_KernelIdeal_decay_finite m)
    (c : Dev Cert.KernelIdeal.nD) (d : Fin 2) (l : Fin 1024) : m ((c : Thread Cert.KernelIdeal.nD Cert.KernelIdeal.τ).loc Cert.KernelIdeal.main_arg7) (ix3 0 d l) ≠ (⊥ : EReal) := by
  intro e
  have hc := congrFun (h c) (ix3 0 d l)
  unfold Cert.Pre_decay_finite.fn at hc
  have hd : BitVec.ofBool (decide ((FloatOps.ofBits (F := Ideal) .f32 0xFF800000#32 : EReal) < m ((c : Thread Cert.KernelIdeal.nD Cert.KernelIdeal.τ).loc Cert.KernelIdeal.main_arg7) (ix3 0 d l))) = 1#1 := hc
  rw [e, inf_word] at hd
  simp at hd

theorem lru [Cert.Pre_decay_finite.Facts] : Cert.algebraic_KernelIdeal_ReferenceIdeal_pre_decay_finite := fun m ρ m' ρ' hp hag => by
  have hl := fun c => decay_ne m hp c
  have eR : ∀ c, Cert.ReferenceIdeal.Recur.initState m' c = Cert.ReferenceIdeal.Step.init (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := fun c => by
    obtain ⟨h0, h1, h2, h3, h4, h5, h6, h7⟩ := hag c
    rw [← h0, ← h1, ← h2, ← h3, ← h4, ← h5, ← h6, ← h7]
  refine ⟨fun c => (fun y => Cert.KernelIdeal.Lru.fw m c (y 0) (y 2) ((y 1).val + 1) : Cert.KernelIdeal.S4x8192x1024.Idx → EReal),
    fun c => (fun y => Cert.KernelIdeal.Lru.bw m c (y 0) (y 2) (8192 - (y 1).val) : Cert.KernelIdeal.S4x8192x1024.Idx → EReal),
    (θ_run Cert.KernelIdeal.defs _ _).mono
      (fun _ h c => ⟨(h c).1.trans (Cert.KernelIdeal.Lru.final13 m c (hl c)), (h c).2.1.trans (Cert.KernelIdeal.Lru.final14 m c (hl c)), (h c).2.2⟩)
      (Cert.KernelIdeal.Lru.run_blocks (F := Ideal) m ρ),
    (θ_run Cert.ReferenceIdeal.defs _ _).mono
      (fun _ h c => ⟨(h c).1.trans (funext fun y => ?_), (h c).2.1.trans (funext fun y => ?_), (h c).2.2⟩)
      (Cert.ReferenceIdeal.Recur.run_iter (F := Ideal) m' ρ' (fun c n => Cert.Lru.Ref.iter (Cert.ReferenceIdeal.Recur.initState m' c) n) (fun _ => rfl) (fun _ _ => rfl))⟩
  · rw [eR c]
    obtain ⟨b, t, l, rfl⟩ : ∃ (b : Fin 4) (t : Fin 8192) (l : Fin 1024), y = ix3 b t l := ⟨y 0, y 1, y 2, funext fun a => match a with | ⟨0, _⟩ => rfl | ⟨1, _⟩ => rfl | ⟨2, _⟩ => rfl⟩
    exact Cert.Lru.Ref.last_fw _ _ _ _ _ _ _ _ b t l
  · rw [eR c]
    obtain ⟨b, t, l, rfl⟩ : ∃ (b : Fin 4) (t : Fin 8192) (l : Fin 1024), y = ix3 b t l := ⟨y 0, y 1, y 2, funext fun a => match a with | ⟨0, _⟩ => rfl | ⟨1, _⟩ => rfl | ⟨2, _⟩ => rfl⟩
    exact Cert.Lru.Ref.last_bw _ _ _ _ _ _ _ _ b t l

end Cert.Proof.Calls

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel3Ideal.Value
public import proofs.«01_k».proof.Proof.Gen.Kernel5Ideal.Value
public import proofs.«01_k».proof.Proof.Gen.ReferenceIdeal.Run
public import proofs.«01_k».proof.Proof.Gen.ReferenceIdeal.Step
public import proofs.«01_k».proof.Proof.Gen.Reference3Ideal.Run
public import proofs.«01_k».proof.Proof.Gen.Reference3Ideal.Read
public import proofs.«01_k».proof.Proof.Gen.Reference5Ideal.Run
public import proofs.«01_k».proof.Proof.Gen.Reference5Ideal.Read
public import proofs.«01_k».proof.Proof.Gen.Kernel.Frame
public import proofs.«01_k».proof.Proof.Gen.KernelIdeal.Frame
public import proofs.«01_k».proof.Proof.Gen.Kernel2Ideal.Value
public import proofs.«01_k».proof.Proof.Gen.Kernel4Ideal.Value
public import proofs.«01_k».proof.Proof.Gen.Reference2Ideal.Read
public import proofs.«01_k».proof.Proof.Gen.Reference4Ideal.Read
public import proofs.«01_k».proof.Proof.Gen.Pre_decay_finite
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.Kernel3.Frame
public import proofs.«01_k».proof.Proof.Gen.Kernel5.Frame
public import proofs.«01_k».proof.Proof.Gen.Kernel3Ideal.Frame
public import proofs.«01_k».proof.Proof.Gen.Kernel5Ideal.Frame
public import proofs.«01_k».proof.Proof.Calls
public import proofs.«01_k».proof.Proof.LruClaim
public import proofs.«01_k».proof.Proof.LruBitsFrame
public import Idealize.ShloMosaic.Adequacy
public import Idealize.ShloMosaic.Init

@[expose] public section

noncomputable section

/-! Each pair of programs: the kernel's frame twice (as printed, and with its named constants), the reference's frame,
    what the named constants stand for, and the equality of the results. -/

namespace Cert.Proof

open Idealize.ShloMosaic Idealize.SL.Sem

theorem ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem ref1 : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_decay_finite.Gen.facts,
    fun m ρ _ => Cert.Kernel.Lru.frame m ρ, fun m ρ _ => Cert.KernelIdeal.Lru.frame m ρ, fun m ρ _ => Cert.KernelIdeal.Lru.frame m ρ,
    ref1, fun m ρ _ => ref1 m ρ trivial,
    fun m ρ _ => Cert.Kernel2.Gen.frame m ρ, fun m ρ _ => Cert.Kernel2Ideal.Gen.frame m ρ, ref2,
    fun m ρ _ => Cert.Kernel3.Gen.frame m ρ, fun m ρ _ => Cert.Kernel3Ideal.Gen.frame m ρ, ref3,
    fun m ρ _ => Cert.Kernel4.Gen.frame m ρ, fun m ρ _ => Cert.Kernel4Ideal.Gen.frame m ρ, ref4,
    fun m ρ _ => Cert.Kernel5.Gen.frame m ρ, fun m ρ _ => Cert.Kernel5Ideal.Gen.frame m ρ, ref5,
    IdealRules.named_const.statement Cert.KernelIdeal.κ "decay" .f32 0xC0B8AA3B#32 (((-4) * (Real.log 2)⁻¹ : ℝ) : EReal) rfl,
    Calls.lru,
    IdealRules.named_const.statement Cert.Kernel2Ideal.κ "cubic" .f32 0x3D122279#32 ((80338380498831 / 2251799813685248 : ℝ) : EReal) rfl,
    Calls.mix_in,
    ⟨IdealRules.named_const.statement Cert.Kernel3Ideal.κ "cubic" .bf16 0x3D12#16 ((80338380498831 / 2251799813685248 : ℝ) : EReal) rfl,
      IdealRules.named_const.statement Cert.Kernel3Ideal.κ "scale" .bf16 0x3F4C#16 ((6693141 / 8388608 : ℝ) : EReal) rfl⟩,
    Calls.experts, trivial, Calls.out_proj, trivial, Calls.gmlp⟩

end Cert.Proof

end
